-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6404x4096 : Shape := ⟨3, ![2, 6404, 4096]⟩
abbrev S2x6404 : Shape := ⟨2, ![2, 6404]⟩
abbrev S10x4096x8x128 : Shape := ⟨4, ![10, 4096, 8, 128]⟩
abbrev S10x8x128 : Shape := ⟨3, ![10, 8, 128]⟩
abbrev S10x128 : Shape := ⟨2, ![10, 128]⟩
abbrev S10x1x128 : Shape := ⟨3, ![10, 1, 128]⟩
abbrev S10x2x4x128 : Shape := ⟨4, ![10, 2, 4, 128]⟩
abbrev S10x2x128x4 : Shape := ⟨4, ![10, 2, 128, 4]⟩
abbrev S10x1x1024 : Shape := ⟨3, ![10, 1, 1024]⟩
abbrev S10x2x6404x8x128 : Shape := ⟨5, ![10, 2, 6404, 8, 128]⟩
abbrev S10x2x8x4x6404 : Shape := ⟨5, ![10, 2, 8, 4, 6404]⟩
abbrev S2x256x4096 : Shape := ⟨3, ![2, 256, 4096]⟩
abbrev S2x256 : Shape := ⟨2, ![2, 256]⟩
abbrev S1x256x8x128 : Shape := ⟨4, ![1, 256, 8, 128]⟩
abbrev S1x1x1024 : Shape := ⟨3, ![1, 1, 1024]⟩
abbrev S1x2x256x8x128 : Shape := ⟨5, ![1, 2, 256, 8, 128]⟩
abbrev S1x2x8x4x256 : Shape := ⟨5, ![1, 2, 8, 4, 256]⟩
abbrev S2x2048x4096 : Shape := ⟨3, ![2, 2048, 4096]⟩
abbrev S2x2x256x4096 : Shape := ⟨4, ![2, 2, 256, 4096]⟩
abbrev S2x2x2x1024x256 : Shape := ⟨5, ![2, 2, 2, 1024, 256]⟩
abbrev S3x1024x128 : Shape := ⟨3, ![3, 1024, 128]⟩
abbrev S2x256x8x128 : Shape := ⟨4, ![2, 256, 8, 128]⟩
abbrev S2 : Shape := ⟨1, ![2]⟩
abbrev S1 : Shape := ⟨1, ![1]⟩
abbrev S_ : Shape := ⟨0, ![]⟩
abbrev S256x8x128 : Shape := ⟨3, ![256, 8, 128]⟩
abbrev S256x4x128 : Shape := ⟨3, ![256, 4, 128]⟩
abbrev S128x4x256 : Shape := ⟨3, ![128, 4, 256]⟩
abbrev S512x256 : Shape := ⟨2, ![512, 256]⟩
abbrev S1x512x256 : Shape := ⟨3, ![1, 512, 256]⟩
abbrev S1x2x256x4096 : Shape := ⟨4, ![1, 2, 256, 4096]⟩
abbrev S1x1x128 : Shape := ⟨3, ![1, 1, 128]⟩
abbrev S1x128 : Shape := ⟨2, ![1, 128]⟩
abbrev S128x128 : Shape := ⟨2, ![128, 128]⟩
abbrev S1x128x128 : Shape := ⟨3, ![1, 128, 128]⟩
abbrev S1x1024x4096 : Shape := ⟨3, ![1, 1024, 4096]⟩
abbrev S1024x4096 : Shape := ⟨2, ![1024, 4096]⟩
abbrev S1x1x256x4096 : Shape := ⟨4, ![1, 1, 256, 4096]⟩
abbrev S256x4096 : Shape := ⟨2, ![256, 4096]⟩
abbrev S1024x256 : Shape := ⟨2, ![1024, 256]⟩
abbrev S1x1x1x1024x256 : Shape := ⟨5, ![1, 1, 1, 1024, 256]⟩
abbrev S8x128 : Shape := ⟨2, ![8, 128]⟩
abbrev S1x1x1x512x128 : Shape := ⟨5, ![1, 1, 1, 512, 128]⟩
abbrev S512x128 : Shape := ⟨2, ![512, 128]⟩
abbrev S1x512x128 : Shape := ⟨3, ![1, 512, 128]⟩
abbrev S64x8x128 : Shape := ⟨3, ![64, 8, 128]⟩
abbrev S1x8x128 : Shape := ⟨3, ![1, 8, 128]⟩
abbrev S4x16x8x128 : Shape := ⟨4, ![4, 16, 8, 128]⟩
abbrev S4x8x128 : Shape := ⟨3, ![4, 8, 128]⟩
abbrev S246x4x8x128 : Shape := ⟨4, ![246, 4, 8, 128]⟩
abbrev S1x4x8x128 : Shape := ⟨4, ![1, 4, 8, 128]⟩
abbrev S4x1x8x128 : Shape := ⟨4, ![4, 1, 8, 128]⟩
abbrev S128x4x128 : Shape := ⟨3, ![128, 4, 128]⟩
abbrev S1x1x128x4x128 : Shape := ⟨5, ![1, 1, 128, 4, 128]⟩
abbrev S8x1x128 : Shape := ⟨3, ![8, 1, 128]⟩
abbrev S8x4x128 : Shape := ⟨3, ![8, 4, 128]⟩
abbrev S1x1x8x4x128 : Shape := ⟨5, ![1, 1, 8, 4, 128]⟩

abbrev nBuf : Space → Nat
  | .hbm => 22
  | .vmem => 27
  | .smem => 0
  | _ => 0

abbrev bufTy : (tb : Table) → Fin (tcTables nBuf tb) → BufTy
  | .hbm, ⟨0, _⟩ => ⟨S2x6404x4096, .fp8e4m3⟩
  | .hbm, ⟨1, _⟩ => ⟨S2x6404, .f32⟩
  | .hbm, ⟨2, _⟩ => ⟨S10x4096x8x128, .fp8e4m3⟩
  | .hbm, ⟨3, _⟩ => ⟨S10x8x128, .f32⟩
  | .hbm, ⟨4, _⟩ => ⟨S10x4096x8x128, .fp8e4m3⟩
  | .hbm, ⟨5, _⟩ => ⟨S10x8x128, .f32⟩
  | .hbm, ⟨6, _⟩ => ⟨S10x128, .f32⟩
  | .hbm, ⟨7, _⟩ => ⟨S10x1x128, .f32⟩
  | .hbm, ⟨8, _⟩ => ⟨S10x8x128, .f32⟩
  | .hbm, ⟨9, _⟩ => ⟨S10x2x4x128, .f32⟩
  | .hbm, ⟨10, _⟩ => ⟨S10x2x128x4, .f32⟩
  | .hbm, ⟨11, _⟩ => ⟨S10x1x1024, .f32⟩
  | .hbm, ⟨12, _⟩ => ⟨S10x2x4x128, .f32⟩
  | .hbm, ⟨13, _⟩ => ⟨S10x2x128x4, .f32⟩
  | .hbm, ⟨14, _⟩ => ⟨S10x1x1024, .f32⟩
  | .hbm, ⟨15, _⟩ => ⟨S10x2x4x128, .f32⟩
  | .hbm, ⟨16, _⟩ => ⟨S10x2x128x4, .f32⟩
  | .hbm, ⟨17, _⟩ => ⟨S10x1x1024, .f32⟩
  | .hbm, ⟨18, _⟩ => ⟨S10x2x6404x8x128, .fp8e4m3⟩
  | .hbm, ⟨19, _⟩ => ⟨S10x2x8x4x6404, .i8⟩
  | .hbm, ⟨20, _⟩ => ⟨S10x2x6404x8x128, .fp8e4m3⟩
  | .hbm, ⟨21, _⟩ => ⟨S10x2x8x4x6404, .i8⟩
  | .local _ .vmem, ⟨0, _⟩ => ⟨S2x256x4096, .fp8e4m3⟩
  | .local _ .vmem, ⟨1, _⟩ => ⟨S2x256x4096, .fp8e4m3⟩
  | .local _ .vmem, ⟨2, _⟩ => ⟨S2x256, .f32⟩
  | .local _ .vmem, ⟨3, _⟩ => ⟨S2x256, .f32⟩
  | .local _ .vmem, ⟨4, _⟩ => ⟨S1x256x8x128, .fp8e4m3⟩
  | .local _ .vmem, ⟨5, _⟩ => ⟨S1x256x8x128, .fp8e4m3⟩
  | .local _ .vmem, ⟨6, _⟩ => ⟨S1x256x8x128, .fp8e4m3⟩
  | .local _ .vmem, ⟨7, _⟩ => ⟨S1x256x8x128, .fp8e4m3⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x2x256x8x128, .fp8e4m3⟩
  | .local _ .vmem, ⟨15, _⟩ => ⟨S1x2x256x8x128, .fp8e4m3⟩
  | .local _ .vmem, ⟨16, _⟩ => ⟨S1x2x8x4x256, .i8⟩
  | .local _ .vmem, ⟨17, _⟩ => ⟨S1x2x8x4x256, .i8⟩
  | .local _ .vmem, ⟨18, _⟩ => ⟨S1x2x256x8x128, .fp8e4m3⟩
  | .local _ .vmem, ⟨19, _⟩ => ⟨S1x2x256x8x128, .fp8e4m3⟩
  | .local _ .vmem, ⟨20, _⟩ => ⟨S1x2x8x4x256, .i8⟩
  | .local _ .vmem, ⟨21, _⟩ => ⟨S1x2x8x4x256, .i8⟩
  | .local _ .vmem, ⟨22, _⟩ => ⟨S2x2048x4096, .fp8e4m3⟩
  | .local _ .vmem, ⟨23, _⟩ => ⟨S2x2x256x4096, .fp8e4m3⟩
  | .local _ .vmem, ⟨24, _⟩ => ⟨S2x2x2x1024x256, .f32⟩
  | .local _ .vmem, ⟨25, _⟩ => ⟨S3x1024x128, .f32⟩
  | .local _ .vmem, ⟨26, _⟩ => ⟨S2x256x8x128, .fp8e4m3⟩
  | _, _ => ⟨S2x6404x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![262], ![false]⟩

def k0_cond1 (i : grid0.Coords) : BitVec 1 :=
  let arg0 : BitVec 32 := BitVec.ofNat 32 (i 0).val
  let c0_i32_17 : BitVec 32 := 0#32
  let v39 : BitVec 1 := Scalar.cmpi .eq arg0 c0_i32_17
  let v40 : BitVec 32 := Scalar.extui v39
  let c0_i32_18 : BitVec 32 := 0#32
  let v41 : BitVec 1 := Scalar.cmpi .ne v40 c0_i32_18
  v41

@[reducible] def k0_t1_loop : Scf.Loop 32 :=
  let c0_i32_932 : BitVec 32 := 0#32
  let c16_i32_933 : BitVec 32 := 16#32
  let v1900 : BitVec 32 := Scalar.addi c0_i32_932 c16_i32_933
  let c1_i32_934 : BitVec 32 := 1#32
  ⟨c0_i32_932, v1900, c1_i32_934⟩
def k0_off1 (k0_t1 : Fin k0_t1_loop.trips) : Fin 4 → Nat :=
  let c0_i32_937 : BitVec 32 := 0#32
  let c0_i32_932 : BitVec 32 := 0#32
  let c1_i32_934 : BitVec 32 := 1#32
  let arg20 : BitVec 32 := Scf.iv c0_i32_932 c1_i32_934 k0_t1
  let c256_i32_936 : BitVec 32 := 256#32
  let v1901 : BitVec 32 := Scalar.muli arg20 c256_i32_936
  let c0_i32_943 : BitVec 32 := 0#32
  let c0_i32_944 : BitVec 32 := 0#32
  ![0, v1901.toNat, 0, 0]
def k0_mult1 (k0_t1 : Fin k0_t1_loop.trips) : BitVec 32 :=
  let c0_i32_932 : BitVec 32 := 0#32
  let c1_i32_934 : BitVec 32 := 1#32
  let arg20 : BitVec 32 := Scf.iv c0_i32_932 c1_i32_934 k0_t1
  let c256_i32_936 : BitVec 32 := 256#32
  let v1901 : BitVec 32 := Scalar.muli arg20 c256_i32_936
  v1901
def k0_off2 (k0_t1 : Fin k0_t1_loop.trips) : Fin 3 → Nat :=
  let c0_976 : Index := 0#32
  let c0_977 : Index := 0#32
  let c0_i32_932 : BitVec 32 := 0#32
  let c1_i32_934 : BitVec 32 := 1#32
  let arg20 : BitVec 32 := Scf.iv c0_i32_932 c1_i32_934 k0_t1
  let c256_i32_936 : BitVec 32 := 256#32
  let v1901 : BitVec 32 := Scalar.muli arg20 c256_i32_936
  let v1926 : BitVec 32 := v1901
  let v1932 : Index := Scalar.indexCast v1926
  ![0, 0, v1932.toNat]
def k0_off3 (k0_t1 : Fin k0_t1_loop.trips) : Fin 3 → Nat :=
  let c0_985 : Index := 0#32
  let c512_986 : Index := 512#32
  let c0_i32_932 : BitVec 32 := 0#32
  let c1_i32_934 : BitVec 32 := 1#32
  let arg20 : BitVec 32 := Scf.iv c0_i32_932 c1_i32_934 k0_t1
  let c256_i32_936 : BitVec 32 := 256#32
  let v1901 : BitVec 32 := Scalar.muli arg20 c256_i32_936
  let v1926 : BitVec 32 := v1901
  let v1941 : Index := Scalar.indexCast v1926
  ![0, 512, v1941.toNat]
def k0_off4 (k0_t1 : Fin k0_t1_loop.trips) : Fin 3 → Nat :=
  let c0_994 : Index := 0#32
  let c1024_995 : Index := 1024#32
  let c0_i32_932 : BitVec 32 := 0#32
  let c1_i32_934 : BitVec 32 := 1#32
  let arg20 : BitVec 32 := Scf.iv c0_i32_932 c1_i32_934 k0_t1
  let c256_i32_936 : BitVec 32 := 256#32
  let v1901 : BitVec 32 := Scalar.muli arg20 c256_i32_936
  let v1926 : BitVec 32 := v1901
  let v1950 : Index := Scalar.indexCast v1926
  ![0, 1024, v1950.toNat]
def k0_off5 (k0_t1 : Fin k0_t1_loop.trips) : Fin 3 → Nat :=
  let c0_1003 : Index := 0#32
  let c1536_1004 : Index := 1536#32
  let c0_i32_932 : BitVec 32 := 0#32
  let c1_i32_934 : BitVec 32 := 1#32
  let arg20 : BitVec 32 := Scf.iv c0_i32_932 c1_i32_934 k0_t1
  let c256_i32_936 : BitVec 32 := 256#32
  let v1901 : BitVec 32 := Scalar.muli arg20 c256_i32_936
  let v1926 : BitVec 32 := v1901
  let v1959 : Index := Scalar.indexCast v1926
  ![0, 1536, v1959.toNat]
def k0_off6 (i : grid0.Coords) : Fin 4 → Nat :=
  let arg0 : BitVec 32 := BitVec.ofNat 32 (i 0).val
  let c2_i32_21 : BitVec 32 := 2#32
  let c0_i32_22 : BitVec 32 := 0#32
  let v43 : BitVec 1 := Scalar.cmpi .eq c2_i32_21 c0_i32_22
  let c1_i32_23 : BitVec 32 := 1#32
  let v44 : BitVec 32 := Scalar.select v43 c1_i32_23 c2_i32_21
  let v45 : BitVec 32 := Scalar.remsi arg0 v44
  let c0_i32_25 : BitVec 32 := 0#32
  let v47 : BitVec 1 := Scalar.cmpi .slt v45 c0_i32_25
  let c0_i32_26 : BitVec 32 := 0#32
  let v48 : BitVec 1 := Scalar.cmpi .slt v44 c0_i32_26
  let v49 : BitVec 1 := Scalar.xori v47 v48
  let c0_i32_24 : BitVec 32 := 0#32
  let v46 : BitVec 1 := Scalar.cmpi .ne v45 c0_i32_24
  let v50 : BitVec 1 := Scalar.andi v49 v46
  let v51 : BitVec 32 := Scalar.addi v45 v44
  let v52 : BitVec 32 := Scalar.select v50 v51 v45
  let v53 : Index := Scalar.indexCast v52
  let c0_27 : Index := 0#32
  let c0_28 : Index := 0#32
  let c0_29 : Index := 0#32
  ![v53.toNat, 0, 0, 0]
def k0_mult2 (i : grid0.Coords) : BitVec 32 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c26_i32_6 : BitVec 32 := 26#32
  let c0_i32_7 : BitVec 32 := 0#32
  let v19 : BitVec 1 := Scalar.cmpi .eq c26_i32_6 c0_i32_7
  let c1_i32_8 : BitVec 32 := 1#32
  let v20 : BitVec 32 := Scalar.select v19 c1_i32_8 c26_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c15_i32 : BitVec 32 := 15#32
  let v57 : BitVec 32 := Scalar.minsi v28 c15_i32
  let c256_i32 : BitVec 32 := 256#32
  let v69 : BitVec 32 := Scalar.muli v57 c256_i32
  v69
def k0_off7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c26_i32 : BitVec 32 := 26#32
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let v2 : BitVec 32 := Scalar.divsi v1 c26_i32
  let c1_i32_5 : BitVec 32 := 1#32
  let v17 : BitVec 32 := Scalar.subi v2 c1_i32_5
  let v18 : BitVec 32 := Scalar.select v16 v17 v2
  let c1_i32_30 : BitVec 32 := 1#32
  let v58 : BitVec 32 := Scalar.addi v18 c1_i32_30
  let c2_i32_31 : BitVec 32 := 2#32
  let c0_i32_32 : BitVec 32 := 0#32
  let v59 : BitVec 1 := Scalar.cmpi .eq c2_i32_31 c0_i32_32
  let c1_i32_33 : BitVec 32 := 1#32
  let v60 : BitVec 32 := Scalar.select v59 c1_i32_33 c2_i32_31
  let v61 : BitVec 32 := Scalar.remsi v58 v60
  let c0_i32_35 : BitVec 32 := 0#32
  let v63 : BitVec 1 := Scalar.cmpi .slt v61 c0_i32_35
  let c0_i32_36 : BitVec 32 := 0#32
  let v64 : BitVec 1 := Scalar.cmpi .slt v60 c0_i32_36
  let v65 : BitVec 1 := Scalar.xori v63 v64
  let c0_i32_34 : BitVec 32 := 0#32
  let v62 : BitVec 1 := Scalar.cmpi .ne v61 c0_i32_34
  let v66 : BitVec 1 := Scalar.andi v65 v62
  let v67 : BitVec 32 := Scalar.addi v61 v60
  let v68 : BitVec 32 := Scalar.select v66 v67 v61
  let v76 : Index := Scalar.indexCast v68
  let c0_44 : Index := 0#32
  let c26_i32_6 : BitVec 32 := 26#32
  let c0_i32_7 : BitVec 32 := 0#32
  let v19 : BitVec 1 := Scalar.cmpi .eq c26_i32_6 c0_i32_7
  let c1_i32_8 : BitVec 32 := 1#32
  let v20 : BitVec 32 := Scalar.select v19 c1_i32_8 c26_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c15_i32 : BitVec 32 := 15#32
  let v57 : BitVec 32 := Scalar.minsi v28 c15_i32
  let c256_i32 : BitVec 32 := 256#32
  let v69 : BitVec 32 := Scalar.muli v57 c256_i32
  let v70 : BitVec 32 := v69
  let v77 : Index := Scalar.indexCast v70
  ![v76.toNat, 0, v77.toNat]
def k0_off8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c26_i32 : BitVec 32 := 26#32
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let v2 : BitVec 32 := Scalar.divsi v1 c26_i32
  let c1_i32_5 : BitVec 32 := 1#32
  let v17 : BitVec 32 := Scalar.subi v2 c1_i32_5
  let v18 : BitVec 32 := Scalar.select v16 v17 v2
  let c1_i32_30 : BitVec 32 := 1#32
  let v58 : BitVec 32 := Scalar.addi v18 c1_i32_30
  let c2_i32_31 : BitVec 32 := 2#32
  let c0_i32_32 : BitVec 32 := 0#32
  let v59 : BitVec 1 := Scalar.cmpi .eq c2_i32_31 c0_i32_32
  let c1_i32_33 : BitVec 32 := 1#32
  let v60 : BitVec 32 := Scalar.select v59 c1_i32_33 c2_i32_31
  let v61 : BitVec 32 := Scalar.remsi v58 v60
  let c0_i32_35 : BitVec 32 := 0#32
  let v63 : BitVec 1 := Scalar.cmpi .slt v61 c0_i32_35
  let c0_i32_36 : BitVec 32 := 0#32
  let v64 : BitVec 1 := Scalar.cmpi .slt v60 c0_i32_36
  let v65 : BitVec 1 := Scalar.xori v63 v64
  let c0_i32_34 : BitVec 32 := 0#32
  let v62 : BitVec 1 := Scalar.cmpi .ne v61 c0_i32_34
  let v66 : BitVec 1 := Scalar.andi v65 v62
  let v67 : BitVec 32 := Scalar.addi v61 v60
  let v68 : BitVec 32 := Scalar.select v66 v67 v61
  let v86 : Index := Scalar.indexCast v68
  let c512 : Index := 512#32
  let c26_i32_6 : BitVec 32 := 26#32
  let c0_i32_7 : BitVec 32 := 0#32
  let v19 : BitVec 1 := Scalar.cmpi .eq c26_i32_6 c0_i32_7
  let c1_i32_8 : BitVec 32 := 1#32
  let v20 : BitVec 32 := Scalar.select v19 c1_i32_8 c26_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c15_i32 : BitVec 32 := 15#32
  let v57 : BitVec 32 := Scalar.minsi v28 c15_i32
  let c256_i32 : BitVec 32 := 256#32
  let v69 : BitVec 32 := Scalar.muli v57 c256_i32
  let v70 : BitVec 32 := v69
  let v87 : Index := Scalar.indexCast v70
  ![v86.toNat, 512, v87.toNat]
def k0_off9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c26_i32 : BitVec 32 := 26#32
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let v2 : BitVec 32 := Scalar.divsi v1 c26_i32
  let c1_i32_5 : BitVec 32 := 1#32
  let v17 : BitVec 32 := Scalar.subi v2 c1_i32_5
  let v18 : BitVec 32 := Scalar.select v16 v17 v2
  let c1_i32_30 : BitVec 32 := 1#32
  let v58 : BitVec 32 := Scalar.addi v18 c1_i32_30
  let c2_i32_31 : BitVec 32 := 2#32
  let c0_i32_32 : BitVec 32 := 0#32
  let v59 : BitVec 1 := Scalar.cmpi .eq c2_i32_31 c0_i32_32
  let c1_i32_33 : BitVec 32 := 1#32
  let v60 : BitVec 32 := Scalar.select v59 c1_i32_33 c2_i32_31
  let v61 : BitVec 32 := Scalar.remsi v58 v60
  let c0_i32_35 : BitVec 32 := 0#32
  let v63 : BitVec 1 := Scalar.cmpi .slt v61 c0_i32_35
  let c0_i32_36 : BitVec 32 := 0#32
  let v64 : BitVec 1 := Scalar.cmpi .slt v60 c0_i32_36
  let v65 : BitVec 1 := Scalar.xori v63 v64
  let c0_i32_34 : BitVec 32 := 0#32
  let v62 : BitVec 1 := Scalar.cmpi .ne v61 c0_i32_34
  let v66 : BitVec 1 := Scalar.andi v65 v62
  let v67 : BitVec 32 := Scalar.addi v61 v60
  let v68 : BitVec 32 := Scalar.select v66 v67 v61
  let v96 : Index := Scalar.indexCast v68
  let c1024 : Index := 1024#32
  let c26_i32_6 : BitVec 32 := 26#32
  let c0_i32_7 : BitVec 32 := 0#32
  let v19 : BitVec 1 := Scalar.cmpi .eq c26_i32_6 c0_i32_7
  let c1_i32_8 : BitVec 32 := 1#32
  let v20 : BitVec 32 := Scalar.select v19 c1_i32_8 c26_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c15_i32 : BitVec 32 := 15#32
  let v57 : BitVec 32 := Scalar.minsi v28 c15_i32
  let c256_i32 : BitVec 32 := 256#32
  let v69 : BitVec 32 := Scalar.muli v57 c256_i32
  let v70 : BitVec 32 := v69
  let v97 : Index := Scalar.indexCast v70
  ![v96.toNat, 1024, v97.toNat]
def k0_off10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c26_i32 : BitVec 32 := 26#32
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let v2 : BitVec 32 := Scalar.divsi v1 c26_i32
  let c1_i32_5 : BitVec 32 := 1#32
  let v17 : BitVec 32 := Scalar.subi v2 c1_i32_5
  let v18 : BitVec 32 := Scalar.select v16 v17 v2
  let c1_i32_30 : BitVec 32 := 1#32
  let v58 : BitVec 32 := Scalar.addi v18 c1_i32_30
  let c2_i32_31 : BitVec 32 := 2#32
  let c0_i32_32 : BitVec 32 := 0#32
  let v59 : BitVec 1 := Scalar.cmpi .eq c2_i32_31 c0_i32_32
  let c1_i32_33 : BitVec 32 := 1#32
  let v60 : BitVec 32 := Scalar.select v59 c1_i32_33 c2_i32_31
  let v61 : BitVec 32 := Scalar.remsi v58 v60
  let c0_i32_35 : BitVec 32 := 0#32
  let v63 : BitVec 1 := Scalar.cmpi .slt v61 c0_i32_35
  let c0_i32_36 : BitVec 32 := 0#32
  let v64 : BitVec 1 := Scalar.cmpi .slt v60 c0_i32_36
  let v65 : BitVec 1 := Scalar.xori v63 v64
  let c0_i32_34 : BitVec 32 := 0#32
  let v62 : BitVec 1 := Scalar.cmpi .ne v61 c0_i32_34
  let v66 : BitVec 1 := Scalar.andi v65 v62
  let v67 : BitVec 32 := Scalar.addi v61 v60
  let v68 : BitVec 32 := Scalar.select v66 v67 v61
  let v106 : Index := Scalar.indexCast v68
  let c1536 : Index := 1536#32
  let c26_i32_6 : BitVec 32 := 26#32
  let c0_i32_7 : BitVec 32 := 0#32
  let v19 : BitVec 1 := Scalar.cmpi .eq c26_i32_6 c0_i32_7
  let c1_i32_8 : BitVec 32 := 1#32
  let v20 : BitVec 32 := Scalar.select v19 c1_i32_8 c26_i32_6
  let v21 : BitVec 32 := Scalar.remsi v1 v20
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let c0_i32_9 : BitVec 32 := 0#32
  let v22 : BitVec 1 := Scalar.cmpi .ne v21 c0_i32_9
  let v26 : BitVec 1 := Scalar.andi v25 v22
  let v27 : BitVec 32 := Scalar.addi v21 v20
  let v28 : BitVec 32 := Scalar.select v26 v27 v21
  let c15_i32 : BitVec 32 := 15#32
  let v57 : BitVec 32 := Scalar.minsi v28 c15_i32
  let c256_i32 : BitVec 32 := 256#32
  let v69 : BitVec 32 := Scalar.muli v57 c256_i32
  let v70 : BitVec 32 := v69
  let v107 : Index := Scalar.indexCast v70
  ![v106.toNat, 1536, v107.toNat]
def k0_off11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c26_i32 : BitVec 32 := 26#32
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let v2 : BitVec 32 := Scalar.divsi v1 c26_i32
  let c1_i32_5 : BitVec 32 := 1#32
  let v17 : BitVec 32 := Scalar.subi v2 c1_i32_5
  let v18 : BitVec 32 := Scalar.select v16 v17 v2
  let c2_i32 : BitVec 32 := 2#32
  let c0_i32_12 : BitVec 32 := 0#32
  let v29 : BitVec 1 := Scalar.cmpi .eq c2_i32 c0_i32_12
  let c1_i32_13 : BitVec 32 := 1#32
  let v30 : BitVec 32 := Scalar.select v29 c1_i32_13 c2_i32
  let v31 : BitVec 32 := Scalar.remsi v18 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v324 : Index := Scalar.indexCast v38
  let c0_214 : Index := 0#32
  let c0_215 : Index := 0#32
  ![v324.toNat, 0, 0]
def k0_off12 (i : grid0.Coords) : Fin 4 → Nat :=
  let arg0 : BitVec 32 := BitVec.ofNat 32 (i 0).val
  let c1_i32_201 : BitVec 32 := 1#32
  let v303 : BitVec 32 := Scalar.addi arg0 c1_i32_201
  let c2_i32_202 : BitVec 32 := 2#32
  let c0_i32_203 : BitVec 32 := 0#32
  let v304 : BitVec 1 := Scalar.cmpi .eq c2_i32_202 c0_i32_203
  let c1_i32_204 : BitVec 32 := 1#32
  let v305 : BitVec 32 := Scalar.select v304 c1_i32_204 c2_i32_202
  let v306 : BitVec 32 := Scalar.remsi v303 v305
  let c0_i32_206 : BitVec 32 := 0#32
  let v308 : BitVec 1 := Scalar.cmpi .slt v306 c0_i32_206
  let c0_i32_207 : BitVec 32 := 0#32
  let v309 : BitVec 1 := Scalar.cmpi .slt v305 c0_i32_207
  let v310 : BitVec 1 := Scalar.xori v308 v309
  let c0_i32_205 : BitVec 32 := 0#32
  let v307 : BitVec 1 := Scalar.cmpi .ne v306 c0_i32_205
  let v311 : BitVec 1 := Scalar.andi v310 v307
  let v312 : BitVec 32 := Scalar.addi v306 v305
  let v313 : BitVec 32 := Scalar.select v311 v312 v306
  let v327 : Index := Scalar.indexCast v313
  let c0_216 : Index := 0#32
  let c0_217 : Index := 0#32
  let c0_218 : Index := 0#32
  ![v327.toNat, 0, 0, 0]
def k0_off13 (i : grid0.Coords) : Fin 5 → Nat :=
  let arg0 : BitVec 32 := BitVec.ofNat 32 (i 0).val
  let c2_i32_208 : BitVec 32 := 2#32
  let c0_i32_209 : BitVec 32 := 0#32
  let v314 : BitVec 1 := Scalar.cmpi .eq c2_i32_208 c0_i32_209
  let c1_i32_210 : BitVec 32 := 1#32
  let v315 : BitVec 32 := Scalar.select v314 c1_i32_210 c2_i32_208
  let v316 : BitVec 32 := Scalar.remsi arg0 v315
  let c0_i32_212 : BitVec 32 := 0#32
  let v318 : BitVec 1 := Scalar.cmpi .slt v316 c0_i32_212
  let c0_i32_213 : BitVec 32 := 0#32
  let v319 : BitVec 1 := Scalar.cmpi .slt v315 c0_i32_213
  let v320 : BitVec 1 := Scalar.xori v318 v319
  let c0_i32_211 : BitVec 32 := 0#32
  let v317 : BitVec 1 := Scalar.cmpi .ne v316 c0_i32_211
  let v321 : BitVec 1 := Scalar.andi v320 v317
  let v322 : BitVec 32 := Scalar.addi v316 v315
  let v323 : BitVec 32 := Scalar.select v321 v322 v316
  let v331 : Index := Scalar.indexCast v323
  let c0_219 : Index := 0#32
  let c0_220 : Index := 0#32
  let c0_221 : Index := 0#32
  let c0_222 : Index := 0#32
  ![v331.toNat, 0, 0, 0, 0]
def k0_off14 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c26_i32 : BitVec 32 := 26#32
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let v2 : BitVec 32 := Scalar.divsi v1 c26_i32
  let c1_i32_5 : BitVec 32 := 1#32
  let v17 : BitVec 32 := Scalar.subi v2 c1_i32_5
  let v18 : BitVec 32 := Scalar.select v16 v17 v2
  let c2_i32 : BitVec 32 := 2#32
  let c0_i32_12 : BitVec 32 := 0#32
  let v29 : BitVec 1 := Scalar.cmpi .eq c2_i32 c0_i32_12
  let c1_i32_13 : BitVec 32 := 1#32
  let v30 : BitVec 32 := Scalar.select v29 c1_i32_13 c2_i32
  let v31 : BitVec 32 := Scalar.remsi v18 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v335 : Index := Scalar.indexCast v38
  let c1024_223 : Index := 1024#32
  let c0_224 : Index := 0#32
  ![v335.toNat, 1024, 0]
def k0_off15 (i : grid0.Coords) : Fin 5 → Nat :=
  let arg0 : BitVec 32 := BitVec.ofNat 32 (i 0).val
  let c2_i32_208 : BitVec 32 := 2#32
  let c0_i32_209 : BitVec 32 := 0#32
  let v314 : BitVec 1 := Scalar.cmpi .eq c2_i32_208 c0_i32_209
  let c1_i32_210 : BitVec 32 := 1#32
  let v315 : BitVec 32 := Scalar.select v314 c1_i32_210 c2_i32_208
  let v316 : BitVec 32 := Scalar.remsi arg0 v315
  let c0_i32_212 : BitVec 32 := 0#32
  let v318 : BitVec 1 := Scalar.cmpi .slt v316 c0_i32_212
  let c0_i32_213 : BitVec 32 := 0#32
  let v319 : BitVec 1 := Scalar.cmpi .slt v315 c0_i32_213
  let v320 : BitVec 1 := Scalar.xori v318 v319
  let c0_i32_211 : BitVec 32 := 0#32
  let v317 : BitVec 1 := Scalar.cmpi .ne v316 c0_i32_211
  let v321 : BitVec 1 := Scalar.andi v320 v317
  let v322 : BitVec 32 := Scalar.addi v316 v315
  let v323 : BitVec 32 := Scalar.select v321 v322 v316
  let v342 : Index := Scalar.indexCast v323
  let c0_229 : Index := 0#32
  let c1_230 : Index := 1#32
  let c0_231 : Index := 0#32
  let c0_232 : Index := 0#32
  ![v342.toNat, 0, 1, 0, 0]
def k0_off16 (i : grid0.Coords) : Fin 4 → Nat :=
  let arg0 : BitVec 32 := BitVec.ofNat 32 (i 0).val
  let c1_i32_201 : BitVec 32 := 1#32
  let v303 : BitVec 32 := Scalar.addi arg0 c1_i32_201
  let c2_i32_202 : BitVec 32 := 2#32
  let c0_i32_203 : BitVec 32 := 0#32
  let v304 : BitVec 1 := Scalar.cmpi .eq c2_i32_202 c0_i32_203
  let c1_i32_204 : BitVec 32 := 1#32
  let v305 : BitVec 32 := Scalar.select v304 c1_i32_204 c2_i32_202
  let v306 : BitVec 32 := Scalar.remsi v303 v305
  let c0_i32_206 : BitVec 32 := 0#32
  let v308 : BitVec 1 := Scalar.cmpi .slt v306 c0_i32_206
  let c0_i32_207 : BitVec 32 := 0#32
  let v309 : BitVec 1 := Scalar.cmpi .slt v305 c0_i32_207
  let v310 : BitVec 1 := Scalar.xori v308 v309
  let c0_i32_205 : BitVec 32 := 0#32
  let v307 : BitVec 1 := Scalar.cmpi .ne v306 c0_i32_205
  let v311 : BitVec 1 := Scalar.andi v310 v307
  let v312 : BitVec 32 := Scalar.addi v306 v305
  let v313 : BitVec 32 := Scalar.select v311 v312 v306
  let v349 : Index := Scalar.indexCast v313
  let c1_235 : Index := 1#32
  let c0_236 : Index := 0#32
  let c0_237 : Index := 0#32
  ![v349.toNat, 1, 0, 0]
def k0_off17 (i : grid0.Coords) : Fin 5 → Nat :=
  let arg0 : BitVec 32 := BitVec.ofNat 32 (i 0).val
  let c2_i32_208 : BitVec 32 := 2#32
  let c0_i32_209 : BitVec 32 := 0#32
  let v314 : BitVec 1 := Scalar.cmpi .eq c2_i32_208 c0_i32_209
  let c1_i32_210 : BitVec 32 := 1#32
  let v315 : BitVec 32 := Scalar.select v314 c1_i32_210 c2_i32_208
  let v316 : BitVec 32 := Scalar.remsi arg0 v315
  let c0_i32_212 : BitVec 32 := 0#32
  let v318 : BitVec 1 := Scalar.cmpi .slt v316 c0_i32_212
  let c0_i32_213 : BitVec 32 := 0#32
  let v319 : BitVec 1 := Scalar.cmpi .slt v315 c0_i32_213
  let v320 : BitVec 1 := Scalar.xori v318 v319
  let c0_i32_211 : BitVec 32 := 0#32
  let v317 : BitVec 1 := Scalar.cmpi .ne v316 c0_i32_211
  let v321 : BitVec 1 := Scalar.andi v320 v317
  let v322 : BitVec 32 := Scalar.addi v316 v315
  let v323 : BitVec 32 := Scalar.select v321 v322 v316
  let v353 : Index := Scalar.indexCast v323
  let c1_239 : Index := 1#32
  let c0_240 : Index := 0#32
  let c0_241 : Index := 0#32
  let c0_242 : Index := 0#32
  ![v353.toNat, 1, 0, 0, 0]
def k0_off18 (i : grid0.Coords) : Fin 5 → Nat :=
  let arg0 : BitVec 32 := BitVec.ofNat 32 (i 0).val
  let c2_i32_208 : BitVec 32 := 2#32
  let c0_i32_209 : BitVec 32 := 0#32
  let v314 : BitVec 1 := Scalar.cmpi .eq c2_i32_208 c0_i32_209
  let c1_i32_210 : BitVec 32 := 1#32
  let v315 : BitVec 32 := Scalar.select v314 c1_i32_210 c2_i32_208
  let v316 : BitVec 32 := Scalar.remsi arg0 v315
  let c0_i32_212 : BitVec 32 := 0#32
  let v318 : BitVec 1 := Scalar.cmpi .slt v316 c0_i32_212
  let c0_i32_213 : BitVec 32 := 0#32
  let v319 : BitVec 1 := Scalar.cmpi .slt v315 c0_i32_213
  let v320 : BitVec 1 := Scalar.xori v318 v319
  let c0_i32_211 : BitVec 32 := 0#32
  let v317 : BitVec 1 := Scalar.cmpi .ne v316 c0_i32_211
  let v321 : BitVec 1 := Scalar.andi v320 v317
  let v322 : BitVec 32 := Scalar.addi v316 v315
  let v323 : BitVec 32 := Scalar.select v321 v322 v316
  let v364 : Index := Scalar.indexCast v323
  let c1_249 : Index := 1#32
  let c1_250 : Index := 1#32
  let c0_251 : Index := 0#32
  let c0_252 : Index := 0#32
  ![v364.toNat, 1, 1, 0, 0]
def k0_off19 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v381 : Index := Scalar.indexCast v378
  let c0_262 : Index := 0#32
  let c0_263 : Index := 0#32
  let c0_264 : Index := 0#32
  let c0_265 : Index := 0#32
  ![v381.toNat, 0, 0, 0, 0]
def k0_off20 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v480 : Index := Scalar.indexCast v378
  let c0_296 : Index := 0#32
  let c0_297 : Index := 0#32
  let c512_298 : Index := 512#32
  let c0_299 : Index := 0#32
  ![v480.toNat, 0, 0, 512, 0]
def k0_off21 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v588 : Index := Scalar.indexCast v378
  let c0_346 : Index := 0#32
  let c0_347 : Index := 0#32
  let c0_348 : Index := 0#32
  let c128_349 : Index := 128#32
  ![v588.toNat, 0, 0, 0, 128]
def k0_off22 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v687 : Index := Scalar.indexCast v378
  let c0_388 : Index := 0#32
  let c0_389 : Index := 0#32
  let c512_390 : Index := 512#32
  let c128_391 : Index := 128#32
  ![v687.toNat, 0, 0, 512, 128]
def k0_off23 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v795 : Index := Scalar.indexCast v378
  let c0_438 : Index := 0#32
  let c1_439 : Index := 1#32
  let c0_440 : Index := 0#32
  let c0_441 : Index := 0#32
  ![v795.toNat, 0, 1, 0, 0]
def k0_off24 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v877 : Index := Scalar.indexCast v378
  let c0_473 : Index := 0#32
  let c1_474 : Index := 1#32
  let c512_475 : Index := 512#32
  let c0_476 : Index := 0#32
  ![v877.toNat, 0, 1, 512, 0]
def k0_off25 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v968 : Index := Scalar.indexCast v378
  let c0_516 : Index := 0#32
  let c1_517 : Index := 1#32
  let c0_518 : Index := 0#32
  let c128_519 : Index := 128#32
  ![v968.toNat, 0, 1, 0, 128]
def k0_off26 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v1050 : Index := Scalar.indexCast v378
  let c0_551 : Index := 0#32
  let c1_552 : Index := 1#32
  let c512_553 : Index := 512#32
  let c128_554 : Index := 128#32
  ![v1050.toNat, 0, 1, 512, 128]
def k0_off27 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v1141 : Index := Scalar.indexCast v378
  let c1_594 : Index := 1#32
  let c0_595 : Index := 0#32
  let c0_596 : Index := 0#32
  let c0_597 : Index := 0#32
  ![v1141.toNat, 1, 0, 0, 0]
def k0_off28 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v1240 : Index := Scalar.indexCast v378
  let c1_636 : Index := 1#32
  let c0_637 : Index := 0#32
  let c512_638 : Index := 512#32
  let c0_639 : Index := 0#32
  ![v1240.toNat, 1, 0, 512, 0]
def k0_off29 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v1348 : Index := Scalar.indexCast v378
  let c1_686 : Index := 1#32
  let c0_687 : Index := 0#32
  let c0_688 : Index := 0#32
  let c128_689 : Index := 128#32
  ![v1348.toNat, 1, 0, 0, 128]
def k0_off30 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v1447 : Index := Scalar.indexCast v378
  let c1_728 : Index := 1#32
  let c0_729 : Index := 0#32
  let c512_730 : Index := 512#32
  let c128_731 : Index := 128#32
  ![v1447.toNat, 1, 0, 512, 128]
def k0_off31 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v1555 : Index := Scalar.indexCast v378
  let c1_778 : Index := 1#32
  let c1_779 : Index := 1#32
  let c0_780 : Index := 0#32
  let c0_781 : Index := 0#32
  ![v1555.toNat, 1, 1, 0, 0]
def k0_off32 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v1637 : Index := Scalar.indexCast v378
  let c1_813 : Index := 1#32
  let c1_814 : Index := 1#32
  let c512_815 : Index := 512#32
  let c0_816 : Index := 0#32
  ![v1637.toNat, 1, 1, 512, 0]
def k0_off33 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v1728 : Index := Scalar.indexCast v378
  let c1_856 : Index := 1#32
  let c1_857 : Index := 1#32
  let c0_858 : Index := 0#32
  let c128_859 : Index := 128#32
  ![v1728.toNat, 1, 1, 0, 128]
def k0_off34 (i : grid0.Coords) : Fin 5 → Nat :=
  let arg0 : BitVec 32 := BitVec.ofNat 32 (i 0).val
  let c1_i32_253 : BitVec 32 := 1#32
  let v368 : BitVec 32 := Scalar.addi arg0 c1_i32_253
  let c2_i32_254 : BitVec 32 := 2#32
  let c0_i32_255 : BitVec 32 := 0#32
  let v369 : BitVec 1 := Scalar.cmpi .eq c2_i32_254 c0_i32_255
  let c1_i32_256 : BitVec 32 := 1#32
  let v370 : BitVec 32 := Scalar.select v369 c1_i32_256 c2_i32_254
  let v371 : BitVec 32 := Scalar.remsi v368 v370
  let c0_i32_258 : BitVec 32 := 0#32
  let v373 : BitVec 1 := Scalar.cmpi .slt v371 c0_i32_258
  let c0_i32_259 : BitVec 32 := 0#32
  let v374 : BitVec 1 := Scalar.cmpi .slt v370 c0_i32_259
  let v375 : BitVec 1 := Scalar.xori v373 v374
  let c0_i32_257 : BitVec 32 := 0#32
  let v372 : BitVec 1 := Scalar.cmpi .ne v371 c0_i32_257
  let v376 : BitVec 1 := Scalar.andi v375 v372
  let v377 : BitVec 32 := Scalar.addi v371 v370
  let v378 : BitVec 32 := Scalar.select v376 v377 v371
  let v1810 : Index := Scalar.indexCast v378
  let c1_891 : Index := 1#32
  let c1_892 : Index := 1#32
  let c512_893 : Index := 512#32
  let c128_894 : Index := 128#32
  ![v1810.toNat, 1, 1, 512, 128]
def cc0_transform_0 (i : grid0.Coords) : Fin 3 → Nat :=
  let arg0 : BitVec 32 := BitVec.ofNat 32 (i 0).val
  let c259_i32 : BitVec 32 := 259#32
  let v0 : BitVec 32 := Scalar.minsi arg0 c259_i32
  let c26_i32 : BitVec 32 := 26#32
  let c0_i32 : BitVec 32 := 0#32
  let v1 : BitVec 1 := Scalar.cmpi .eq c26_i32 c0_i32
  let c1_i32 : BitVec 32 := 1#32
  let v2 : BitVec 32 := Scalar.select v1 c1_i32 c26_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![c0_i32_3.toNat, v10.toNat, c0_i32_4.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c26_i32 : BitVec 32 := 26#32
  let c0_i32_0 : BitVec 32 := 0#32
  let v2 : BitVec 1 := Scalar.cmpi .eq c26_i32 c0_i32_0
  let c1_i32 : BitVec 32 := 1#32
  let v3 : BitVec 32 := Scalar.select v2 c1_i32 c26_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![c0_i32_4.toNat, v11.toNat]

def cc0_transform_2 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c26_i32 : BitVec 32 := 26#32
  let v2 : BitVec 32 := Scalar.divsi v1 c26_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi v18 c1_i32_6
  let c9_i32 : BitVec 32 := 9#32
  let v20 : BitVec 32 := Scalar.minsi v19 c9_i32
  let c26_i32_7 : BitVec 32 := 26#32
  let c0_i32_8 : BitVec 32 := 0#32
  let v21 : BitVec 1 := Scalar.cmpi .eq c26_i32_7 c0_i32_8
  let c1_i32_9 : BitVec 32 := 1#32
  let v22 : BitVec 32 := Scalar.select v21 c1_i32_9 c26_i32_7
  let v23 : BitVec 32 := Scalar.remsi v1 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c15_i32 : BitVec 32 := 15#32
  let v31 : BitVec 32 := Scalar.minsi v30 c15_i32
  let c0_i32_13 : BitVec 32 := 0#32
  let c0_i32_14 : BitVec 32 := 0#32
  let c0_i32_15 : BitVec 32 := 0#32
  ![v20.toNat, v31.toNat, c0_i32_13.toNat, c0_i32_14.toNat]

def cc0_transform_3 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c26_i32 : BitVec 32 := 26#32
  let v2 : BitVec 32 := Scalar.divsi v1 c26_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi v18 c1_i32_6
  let c9_i32 : BitVec 32 := 9#32
  let v20 : BitVec 32 := Scalar.minsi v19 c9_i32
  let c26_i32_7 : BitVec 32 := 26#32
  let c0_i32_8 : BitVec 32 := 0#32
  let v21 : BitVec 1 := Scalar.cmpi .eq c26_i32_7 c0_i32_8
  let c1_i32_9 : BitVec 32 := 1#32
  let v22 : BitVec 32 := Scalar.select v21 c1_i32_9 c26_i32_7
  let v23 : BitVec 32 := Scalar.remsi v1 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c15_i32 : BitVec 32 := 15#32
  let v31 : BitVec 32 := Scalar.minsi v30 c15_i32
  let c0_i32_13 : BitVec 32 := 0#32
  let c0_i32_14 : BitVec 32 := 0#32
  let c0_i32_15 : BitVec 32 := 0#32
  ![v20.toNat, v31.toNat, c0_i32_13.toNat, c0_i32_14.toNat]

def cc0_transform_6 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c26_i32 : BitVec 32 := 26#32
  let v2 : BitVec 32 := Scalar.divsi v1 c26_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_7 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c26_i32 : BitVec 32 := 26#32
  let v2 : BitVec 32 := Scalar.divsi v1 c26_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_8 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c26_i32 : BitVec 32 := 26#32
  let v2 : BitVec 32 := Scalar.divsi v1 c26_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_9 (i : grid0.Coords) : Fin 5 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c26_i32 : BitVec 32 := 26#32
  let v2 : BitVec 32 := Scalar.divsi v1 c26_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.subi arg0 c2_i32_5
  let c0_i32_6 : BitVec 32 := 0#32
  let v20 : BitVec 32 := Scalar.maxsi v19 c0_i32_6
  let c26_i32_7 : BitVec 32 := 26#32
  let c0_i32_8 : BitVec 32 := 0#32
  let v21 : BitVec 1 := Scalar.cmpi .eq c26_i32_7 c0_i32_8
  let c1_i32_9 : BitVec 32 := 1#32
  let v22 : BitVec 32 := Scalar.select v21 c1_i32_9 c26_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  let c0_i32_15 : BitVec 32 := 0#32
  let c0_i32_16 : BitVec 32 := 0#32
  ![v18.toNat, c0_i32_13.toNat, v30.toNat, c0_i32_14.toNat, c0_i32_15.toNat]

def cc0_transform_10 (i : grid0.Coords) : Fin 5 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c26_i32 : BitVec 32 := 26#32
  let v2 : BitVec 32 := Scalar.divsi v1 c26_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.subi arg0 c2_i32_5
  let c0_i32_6 : BitVec 32 := 0#32
  let v20 : BitVec 32 := Scalar.maxsi v19 c0_i32_6
  let c26_i32_7 : BitVec 32 := 26#32
  let c0_i32_8 : BitVec 32 := 0#32
  let v21 : BitVec 1 := Scalar.cmpi .eq c26_i32_7 c0_i32_8
  let c1_i32_9 : BitVec 32 := 1#32
  let v22 : BitVec 32 := Scalar.select v21 c1_i32_9 c26_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  let c0_i32_15 : BitVec 32 := 0#32
  let c0_i32_16 : BitVec 32 := 0#32
  ![v18.toNat, c0_i32_13.toNat, c0_i32_14.toNat, c0_i32_15.toNat, v30.toNat]

def cc0_transform_11 (i : grid0.Coords) : Fin 5 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c26_i32 : BitVec 32 := 26#32
  let v2 : BitVec 32 := Scalar.divsi v1 c26_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.subi arg0 c2_i32_5
  let c0_i32_6 : BitVec 32 := 0#32
  let v20 : BitVec 32 := Scalar.maxsi v19 c0_i32_6
  let c26_i32_7 : BitVec 32 := 26#32
  let c0_i32_8 : BitVec 32 := 0#32
  let v21 : BitVec 1 := Scalar.cmpi .eq c26_i32_7 c0_i32_8
  let c1_i32_9 : BitVec 32 := 1#32
  let v22 : BitVec 32 := Scalar.select v21 c1_i32_9 c26_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  let c0_i32_15 : BitVec 32 := 0#32
  let c0_i32_16 : BitVec 32 := 0#32
  ![v18.toNat, c0_i32_13.toNat, v30.toNat, c0_i32_14.toNat, c0_i32_15.toNat]

def cc0_transform_12 (i : grid0.Coords) : Fin 5 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c26_i32 : BitVec 32 := 26#32
  let v2 : BitVec 32 := Scalar.divsi v1 c26_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c26_i32 c0_i32_2
  let v9 : BitVec 32 := Scalar.extui v8
  let c0_i32_3 : BitVec 32 := 0#32
  let v10 : BitVec 1 := Scalar.cmpi .slt c26_i32 c0_i32_3
  let v11 : BitVec 32 := Scalar.extui v10
  let v12 : BitVec 32 := Scalar.subi v9 v11
  let v13 : BitVec 1 := Scalar.cmpi .ne v7 v12
  let v14 : BitVec 32 := Scalar.remsi v1 c26_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.subi arg0 c2_i32_5
  let c0_i32_6 : BitVec 32 := 0#32
  let v20 : BitVec 32 := Scalar.maxsi v19 c0_i32_6
  let c26_i32_7 : BitVec 32 := 26#32
  let c0_i32_8 : BitVec 32 := 0#32
  let v21 : BitVec 1 := Scalar.cmpi .eq c26_i32_7 c0_i32_8
  let c1_i32_9 : BitVec 32 := 1#32
  let v22 : BitVec 32 := Scalar.select v21 c1_i32_9 c26_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  let c0_i32_15 : BitVec 32 := 0#32
  let c0_i32_16 : BitVec 32 := 0#32
  ![v18.toNat, c0_i32_13.toNat, c0_i32_14.toNat, c0_i32_15.toNat, v30.toNat]

abbrev stage0_0 : Fin 2 → Memref sig .tc .vmem S2x256x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x8x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x8x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x256x8x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x8x4x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x256x8x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x8x4x256 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x6404x4096 : Shape := ⟨3, ![2, 6404, 4096]⟩
abbrev S2x6404 : Shape := ⟨2, ![2, 6404]⟩
abbrev S10x4096x8x128 : Shape := ⟨4, ![10, 4096, 8, 128]⟩
abbrev S10x8x128 : Shape := ⟨3, ![10, 8, 128]⟩
abbrev S10x128 : Shape := ⟨2, ![10, 128]⟩
abbrev S10x2x6404x8x128 : Shape := ⟨5, ![10, 2, 6404, 8, 128]⟩
abbrev S10x2x8x4x6404 : Shape := ⟨5, ![10, 2, 8, 4, 6404]⟩
abbrev S12808x4096 : Shape := ⟨2, ![12808, 4096]⟩
abbrev S12808x1x1x1 : Shape := ⟨4, ![12808, 1, 1, 1]⟩
abbrev S4096x10x8x128 : Shape := ⟨4, ![4096, 10, 8, 128]⟩
abbrev S4096x10240 : Shape := ⟨2, ![4096, 10240]⟩
abbrev S12808x10240 : Shape := ⟨2, ![12808, 10240]⟩
abbrev S12808x10x8x128 : Shape := ⟨4, ![12808, 10, 8, 128]⟩
abbrev S1x10x8x128 : Shape := ⟨4, ![1, 10, 8, 128]⟩
abbrev S12808x10x8 : Shape := ⟨3, ![12808, 10, 8]⟩
abbrev S12808x10x8x1 : Shape := ⟨4, ![12808, 10, 8, 1]⟩
abbrev S1x10x1x128 : Shape := ⟨4, ![1, 10, 1, 128]⟩
abbrev S12808x10x8x4x32 : Shape := ⟨5, ![12808, 10, 8, 4, 32]⟩
abbrev S12808x10x8x4 : Shape := ⟨4, ![12808, 10, 8, 4]⟩
abbrev S12808x10x8x4x246 : Shape := ⟨5, ![12808, 10, 8, 4, 246]⟩
abbrev S12808x10x8x4x1 : Shape := ⟨5, ![12808, 10, 8, 4, 1]⟩
abbrev S2x6404x10x8x128 : Shape := ⟨5, ![2, 6404, 10, 8, 128]⟩
abbrev S2x6404x10x8x4 : Shape := ⟨5, ![2, 6404, 10, 8, 4]⟩

abbrev nBuf : Space → Nat
  | .hbm => 11
  | .vmem => 11
  | .smem => 0
  | _ => 0

abbrev bufTy : (tb : Table) → Fin (tcTables nBuf tb) → BufTy
  | .hbm, ⟨0, _⟩ => ⟨S2x6404x4096, .fp8e4m3⟩
  | .hbm, ⟨1, _⟩ => ⟨S2x6404, .f32⟩
  | .hbm, ⟨2, _⟩ => ⟨S10x4096x8x128, .fp8e4m3⟩
  | .hbm, ⟨3, _⟩ => ⟨S10x8x128, .f32⟩
  | .hbm, ⟨4, _⟩ => ⟨S10x4096x8x128, .fp8e4m3⟩
  | .hbm, ⟨5, _⟩ => ⟨S10x8x128, .f32⟩
  | .hbm, ⟨6, _⟩ => ⟨S10x128, .f32⟩
  | .hbm, ⟨7, _⟩ => ⟨S10x2x6404x8x128, .fp8e4m3⟩
  | .hbm, ⟨8, _⟩ => ⟨S10x2x8x4x6404, .i8⟩
  | .hbm, ⟨9, _⟩ => ⟨S10x2x6404x8x128, .fp8e4m3⟩
  | .hbm, ⟨10, _⟩ => ⟨S10x2x8x4x6404, .i8⟩
  | .local _ .vmem, ⟨0, _⟩ => ⟨S2x6404x4096, .fp8e4m3⟩
  | .local _ .vmem, ⟨1, _⟩ => ⟨S2x6404, .f32⟩
  | .local _ .vmem, ⟨2, _⟩ => ⟨S10x4096x8x128, .fp8e4m3⟩
  | .local _ .vmem, ⟨3, _⟩ => ⟨S10x8x128, .f32⟩
  | .local _ .vmem, ⟨4, _⟩ => ⟨S10x4096x8x128, .fp8e4m3⟩
  | .local _ .vmem, ⟨5, _⟩ => ⟨S10x8x128, .f32⟩
  | .local _ .vmem, ⟨6, _⟩ => ⟨S10x128, .f32⟩
  | .local _ .vmem, ⟨7, _⟩ => ⟨S10x2x6404x8x128, .fp8e4m3⟩
  | .local _ .vmem, ⟨8, _⟩ => ⟨S10x2x8x4x6404, .i8⟩
  | .local _ .vmem, ⟨9, _⟩ => ⟨S10x2x6404x8x128, .fp8e4m3⟩
  | .local _ .vmem, ⟨10, _⟩ => ⟨S10x2x8x4x6404, .i8⟩
  | _, _ => ⟨S2x6404x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x6404x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6404 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x4096x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x4096x8x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10x2x6404x8x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10x2x8x4x6404 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10x2x6404x8x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S10x2x8x4x6404 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Loop.lean ====
module

public import proofs.«01_k».proof.Proof.Gen.Kernel.Loops
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Memref `M`'s buffer on core `c`: its contents type. -/
abbrev Bf (F : FTy → Type) (c : Dev nD) {sp : Space} {S : Shape} {e : EltTy} (M : Memref sig .tc sp S e) : Type := Buf (Elt F) (M.view.loc (c : Thread nD τ))
/-- It held at share `q` at `f`. -/
abbrev ptq (c : Dev nD) {sp : Space} {S : Shape} {e : EltTy} (M : Memref sig .tc sp S e) (q : PosShare TreeShare) (f : Bf F c M) : sProp 𝕄 :=
  M.view.loc (c : Thread nD τ) ↦{q} f
/-- It held whole at `f`. -/
abbrev pt (c : Dev nD) {sp : Space} {S : Shape} {e : EltTy} (M : Memref sig .tc sp S e) (f : Bf F c M) : sProp 𝕄 :=
  M.view.loc (c : Thread nD τ) ↦{fullShare} f

/-- The kernel's own two DMA semaphores. -/
abbrev osem : Fin 2 → SemLoc sig := fun | 0 => .dma 22 | 1 => .dma 23

set_option sl_exec.dmaWindow true in
set_option maxHeartbeats 4000000 in
@[sl_loop, instance_reducible] def loopInv (c : Dev nD) (q5 q6 : PosShare TreeShare) (f5 : Bf F c (Memref.whole main_arg2)) (f6 : Bf F c (Memref.whole main_arg4))
    (i : grid0.Coords) (arg1 : Memref sig .tc .vmem S2x256x4096 .fp8e4m3) (harg1 : arg1.IsWhole) (arg2 : Memref sig .tc .vmem S2x256 .f32) (harg2 : arg2.IsWhole) (arg3 : Memref sig .tc .vmem S1x256x8x128 .fp8e4m3) (harg3 : arg3.IsWhole) (arg4 : Memref sig .tc .vmem S1x256x8x128 .fp8e4m3) (harg4 : arg4.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x2x256x8x128 .fp8e4m3) (harg10 : arg10.IsWhole) (arg11 : Memref sig .tc .vmem S1x2x8x4x256 .i8) (harg11 : arg11.IsWhole) (arg12 : Memref sig .tc .vmem S1x2x256x8x128 .fp8e4m3) (harg12 : arg12.IsWhole) (arg13 : Memref sig .tc .vmem S1x2x8x4x256 .i8) (harg13 : arg13.IsWhole)
    (arg0 : BitVec 32) (v18 : BitVec 32) (v28 : BitVec 32) (v31 : BitVec 32) (v36 : BitVec 1) (v37 : BitVec 32) (k0_h1 : k0_cond1 i = 1#1) :
    LoopInvTy_k0_t1 (F := F) Unit ℕ (Pipeline.UD sig nD τ) ℕ Variants.none c none Set.univ i arg1 harg1 arg2 harg2 arg3 harg3 arg4 harg4 (Memref.whole main_arg2) (Memref.isWhole_whole _) (Memref.whole main_arg4) (Memref.isWhole_whole _) arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 arg0 v18 v28 v31 v36 v37 k0_h1 where
  inv := fun k _ => iprop(ptq c (Memref.whole main_arg2) q5 f5 ∗ ptq c (Memref.whole main_arg4) q6 f6
    ∗ (∃ f, pt c (Memref.whole cc0_scratch0) f) ∗ (∃ f, pt c (Memref.whole cc0_scratch4) f)
    ∗ semVal ((c : Thread nD τ), osem 0) 0 ∗ semVal ((c : Thread nD τ), osem 1) 0 ∗ ∃ W, owes (c : Thread nD τ) 0 W)
  step := fun k acc => by
    unfold k0_t1_body
    simp only [k0_part1_eq_skeleton, k0_part2_eq_skeleton]
    iintro ⟨H5, H6, ⟨%f14, H14⟩, ⟨%f18, H18⟩, Hd0, Hd1, ⟨%W, HO⟩⟩
    sl_exec
    sl_step
    isplitl [H5]; · iexact H5
    isplitl [H6]; · iexact H6
    isplitl [H14]; · iexists _; iexact H14
    isplitl [H18]; · iexists _; iexact H18
    isplitl [Hd0]; · iexact Hd0
    isplitl [Hd1]; · iexact Hd1
    iexists _; iexact HO

end Cert.Kernel.Hand

end
-- ==== Proof.Kernel.Rel.lean ====
module

public import proofs.«01_k».proof.Proof.Kernel.Loop

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What a run of the body leaves, of what it found: to be read off the run. -/
def KRel (c : Dev nD) (i : grid0.Coords) (x1 : Vec F S2x256x4096 .fp8e4m3) (x2 : Vec F S2x256 .f32) (x3 : Vec F S1x256x8x128 .fp8e4m3) (x4 : Vec F S1x256x8x128 .fp8e4m3) (x7 : Vec F S1x1x1024 .f32) (x8 : Vec F S1x1x1024 .f32) (x9 : Vec F S1x1x1024 .f32)
    (f5 : Bf F c (Memref.whole main_arg2)) (f6 : Bf F c (Memref.whole main_arg4)) (f14 : Bf F c (Memref.whole cc0_scratch0)) (f15 : Bf F c (Memref.whole cc0_scratch1)) (f16 : Bf F c (Memref.whole cc0_scratch2))
    (X10 : Vec F S1x2x256x8x128 .fp8e4m3) (X11 : Vec F S1x2x8x4x256 .i8) (X12 : Vec F S1x2x256x8x128 .fp8e4m3) (X13 : Vec F S1x2x8x4x256 .i8)
    (g14 : Bf F c (Memref.whole cc0_scratch0)) (g15 : Bf F c (Memref.whole cc0_scratch1)) (g16 : Bf F c (Memref.whole cc0_scratch2)) : Prop := True

end Cert.Kernel.Hand

end
-- ==== Proof.Kernel.Spec.lean ====
module

public import proofs.«01_k».proof.Proof.Kernel.Rel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the scratch buffers hold before point `t`. -/
def Inv (m : (ℓ : Loc nD τ sig) → Buf (Elt F) ℓ) (c : Dev nD) (t : ℕ) (g14 : Bf F c (Memref.whole cc0_scratch0)) (g15 : Bf F c (Memref.whole cc0_scratch1)) (g16 : Bf F c (Memref.whole cc0_scratch2)) : Prop := True

/-- What the body leaves in output window `w`'s staging buffer at point `t`. -/
def Out (m : (ℓ : Loc nD τ sig) → Buf (Elt F) ℓ) (c : Dev nD) (w : Fin cfg0.W) (t : Fin cfg0.N) (X : (cfg0.win w).block.Idx → Elt F (cfg0.win w).elt) : Prop := True

/-- Nothing is asked of the scratch buffers before the first point. -/
theorem inv_zero (m : (ℓ : Loc nD τ sig) → Buf (Elt F) ℓ) (c : Dev nD) (g14 : Bf F c (Memref.whole cc0_scratch0)) (g15 : Bf F c (Memref.whole cc0_scratch1)) (g16 : Bf F c (Memref.whole cc0_scratch2)) : Inv m c 0 g14 g15 g16 := trivial

/-- Window `w`'s staging buffer as a fetch at point `t` fills it, over some earlier contents. -/
def Staged (m : (ℓ : Loc nD τ sig) → Buf (Elt F) ℓ) (c : Dev nD) (w : Fin cfg0.W) (t : Fin cfg0.N) (X : (cfg0.win w).block.Idx → Elt F (cfg0.win w).elt) : Prop :=
  ∃ d, X = (cfg0.win w).fill (cfg0.grid.coords t) d (iblk m c w t)

/-- One point: the invariant is kept, and the outputs' staging buffers are left as stated. -/
theorem inv_step (m : (ℓ : Loc nD τ sig) → Buf (Elt F) ℓ) (c : Dev nD) (t : Fin cfg0.N) (x1 : Vec F S2x256x4096 .fp8e4m3) (x2 : Vec F S2x256 .f32) (x3 : Vec F S1x256x8x128 .fp8e4m3) (x4 : Vec F S1x256x8x128 .fp8e4m3) (x7 : Vec F S1x1x1024 .f32) (x8 : Vec F S1x1x1024 .f32) (x9 : Vec F S1x1x1024 .f32)
    (f14 : Bf F c (Memref.whole cc0_scratch0)) (f15 : Bf F c (Memref.whole cc0_scratch1)) (f16 : Bf F c (Memref.whole cc0_scratch2))
    (X10 : Vec F S1x2x256x8x128 .fp8e4m3) (X11 : Vec F S1x2x8x4x256 .i8) (X12 : Vec F S1x2x256x8x128 .fp8e4m3) (X13 : Vec F S1x2x8x4x256 .i8)
    (g14 : Bf F c (Memref.whole cc0_scratch0)) (g15 : Bf F c (Memref.whole cc0_scratch1)) (g16 : Bf F c (Memref.whole cc0_scratch2))
    (h1 : Staged m c 0 t x1) (h2 : Staged m c 1 t x2) (h3 : Staged m c 2 t x3) (h4 : Staged m c 3 t x4) (h7 : Staged m c 4 t x7) (h8 : Staged m c 5 t x8) (h9 : Staged m c 6 t x9)
    (hf : Inv m c t.val f14 f15 f16)
    (hk : KRel c (grid0.coords t) x1 x2 x3 x4 x7 x8 x9 (V m c main_arg2) (V m c main_arg4) f14 f15 f16 X10 X11 X12 X13 g14 g15 g16) :
    Inv m c (t.val + 1) g14 g15 g16 ∧ Out m c 7 t X10 ∧ Out m c 8 t X11 ∧ Out m c 9 t X12 ∧ Out m c 10 t X13 :=
  ⟨trivial, trivial, trivial, trivial, trivial⟩

end Cert.Kernel.Hand

end
-- ==== Proof.Kernel.Offs.lean ====
module

public import proofs.«01_k».proof.Proof.Gen.Kernel.Loops
public import Idealize.ShloMosaic.Lib.Exec

@[expose] public section

set_option maxRecDepth 16384

noncomputable section

/-! # The body's offsets in closed form

Each offset that the body computes from the grid point, as a vector of plain arithmetic in the point's number. The four
quantities are: the slot of the current step, the slot of the step before, the weight slot in use, and the weight slot
being filled with the column it is filled at. -/

namespace Cert.Kernel.Hand

open Cert.Kernel Cert.Kernel.Gen Idealize.ShloMosaic

/-- The point's number. -/
abbrev pnt (i : grid0.Coords) : Nat := (i 0).val

theorem off6_eq : ∀ i : grid0.Coords, k0_off6 i = ![pnt i % 2, 0, 0, 0] := by decide +kernel
instance (i : grid0.Coords) : ClosedOff (k0_off6 i) := ⟨![pnt i % 2, 0, 0, 0], off6_eq i⟩
theorem off7_eq : ∀ i : grid0.Coords, k0_off7 i = ![((pnt i - 1) / 26 + 1) % 2, 0, min ((pnt i - 1) % 26) 15 * 256] := by decide +kernel
instance (i : grid0.Coords) : ClosedOff (k0_off7 i) := ⟨![((pnt i - 1) / 26 + 1) % 2, 0, min ((pnt i - 1) % 26) 15 * 256], off7_eq i⟩
theorem off8_eq : ∀ i : grid0.Coords, k0_off8 i = ![((pnt i - 1) / 26 + 1) % 2, 512, min ((pnt i - 1) % 26) 15 * 256] := by decide +kernel
instance (i : grid0.Coords) : ClosedOff (k0_off8 i) := ⟨![((pnt i - 1) / 26 + 1) % 2, 512, min ((pnt i - 1) % 26) 15 * 256], off8_eq i⟩
theorem off9_eq : ∀ i : grid0.Coords, k0_off9 i = ![((pnt i - 1) / 26 + 1) % 2, 1024, min ((pnt i - 1) % 26) 15 * 256] := by decide +kernel
instance (i : grid0.Coords) : ClosedOff (k0_off9 i) := ⟨![((pnt i - 1) / 26 + 1) % 2, 1024, min ((pnt i - 1) % 26) 15 * 256], off9_eq i⟩
theorem off10_eq : ∀ i : grid0.Coords, k0_off10 i = ![((pnt i - 1) / 26 + 1) % 2, 1536, min ((pnt i - 1) % 26) 15 * 256] := by decide +kernel
instance (i : grid0.Coords) : ClosedOff (k0_off10 i) := ⟨![((pnt i - 1) / 26 + 1) % 2, 1536, min ((pnt i - 1) % 26) 15 * 256], off10_eq i⟩
theorem off11_eq : ∀ i : grid0.Coords, k0_off11 i = ![((pnt i - 1) / 26) % 2, 0, 0] := by decide +kernel
instance (i : grid0.Coords) : ClosedOff (k0_off11 i) := ⟨![((pnt i - 1) / 26) % 2, 0, 0], off11_eq i⟩
theorem off12_eq : ∀ i : grid0.Coords, k0_off12 i = ![(pnt i + 1) % 2, 0, 0, 0] := by decide +kernel
instance (i : grid0.Coords) : ClosedOff (k0_off12 i) := ⟨![(pnt i + 1) % 2, 0, 0, 0], off12_eq i⟩
theorem off13_eq : ∀ i : grid0.Coords, k0_off13 i = ![pnt i % 2, 0, 0, 0, 0] := by decide +kernel
instance (i : grid0.Coords) : ClosedOff (k0_off13 i) := ⟨![pnt i % 2, 0, 0, 0, 0], off13_eq i⟩
theorem off14_eq : ∀ i : grid0.Coords, k0_off14 i = ![((pnt i - 1) / 26) % 2, 1024, 0] := by decide +kernel
instance (i : grid0.Coords) : ClosedOff (k0_off14 i) := ⟨![((pnt i - 1) / 26) % 2, 1024, 0], off14_eq i⟩
theorem off15_eq : ∀ i : grid0.Coords, k0_off15 i = ![pnt i % 2, 0, 1, 0, 0] := by decide +kernel
instance (i : grid0.Coords) : ClosedOff (k0_off15 i) := ⟨![pnt i % 2, 0, 1, 0, 0], off15_eq i⟩
theorem off16_eq : ∀ i : grid0.Coords, k0_off16 i = ![(pnt i + 1) % 2, 1, 0, 0] := by decide +kernel
instance (i : grid0.Coords) : ClosedOff (k0_off16 i) := ⟨![(pnt i + 1) % 2, 1, 0, 0], off16_eq i⟩
theorem off17_eq : ∀ i : grid0.Coords, k0_off17 i = ![pnt i % 2, 1, 0, 0, 0] := by decide +kernel
instance (i : grid0.Coords) : ClosedOff (k0_off17 i) := ⟨![pnt i % 2, 1, 0, 0, 0], off17_eq i⟩
theorem off18_eq : ∀ i : grid0.Coords, k0_off18 i = ![pnt i % 2, 1, 1, 0, 0] := by decide +kernel
instance (i : grid0.Coords) : ClosedOff (k0_off18 i) := ⟨![pnt i % 2, 1, 1, 0, 0], off18_eq i⟩
theorem off19_eq : ∀ i : grid0.Coords, k0_off19 i = ![(pnt i + 1) % 2, 0, 0, 0, 0] := by decide +kernel
instance (i : grid0.Coords) : ClosedOff (k0_off19 i) := ⟨![(pnt i + 1) % 2, 0, 0, 0, 0], off19_eq i⟩
theorem off20_eq : ∀ i : grid0.Coords, k0_off20 i = ![(pnt i + 1) % 2, 0, 0, 512, 0] := by decide +kernel
instance (i : grid0.Coords) : ClosedOff (k0_off20 i) := ⟨![(pnt i + 1) % 2, 0, 0, 512, 0], off20_eq i⟩
theorem off21_eq : ∀ i : grid0.Coords, k0_off21 i = ![(pnt i + 1) % 2, 0, 0, 0, 128] := by decide +kernel
instance (i : grid0.Coords) : ClosedOff (k0_off21 i) := ⟨![(pnt i + 1) % 2, 0, 0, 0, 128], off21_eq i⟩
theorem off22_eq : ∀ i : grid0.Coords, k0_off22 i = ![(pnt i + 1) % 2, 0, 0, 512, 128] := by decide +kernel
instance (i : grid0.Coords) : ClosedOff (k0_off22 i) := ⟨![(pnt i + 1) % 2, 0, 0, 512, 128], off22_eq i⟩
theorem off23_eq : ∀ i : grid0.Coords, k0_off23 i = ![(pnt i + 1) % 2, 0, 1, 0, 0] := by decide +kernel
instance (i : grid0.Coords) : ClosedOff (k0_off23 i) := ⟨![(pnt i + 1) % 2, 0, 1, 0, 0], off23_eq i⟩
theorem off24_eq : ∀ i : grid0.Coords, k0_off24 i = ![(pnt i + 1) % 2, 0, 1, 512, 0] := by decide +kernel
instance (i : grid0.Coords) : ClosedOff (k0_off24 i) := ⟨![(pnt i + 1) % 2, 0, 1, 512, 0], off24_eq i⟩
theorem off25_eq : ∀ i : grid0.Coords, k0_off25 i = ![(pnt i + 1) % 2, 0, 1, 0, 128] := by decide +kernel
instance (i : grid0.Coords) : ClosedOff (k0_off25 i) := ⟨![(pnt i + 1) % 2, 0, 1, 0, 128], off25_eq i⟩
theorem off26_eq : ∀ i : grid0.Coords, k0_off26 i = ![(pnt i + 1) % 2, 0, 1, 512, 128] := by decide +kernel
instance (i : grid0.Coords) : ClosedOff (k0_off26 i) := ⟨![(pnt i + 1) % 2, 0, 1, 512, 128], off26_eq i⟩
theorem off27_eq : ∀ i : grid0.Coords, k0_off27 i = ![(pnt i + 1) % 2, 1, 0, 0, 0] := by decide +kernel
instance (i : grid0.Coords) : ClosedOff (k0_off27 i) := ⟨![(pnt i + 1) % 2, 1, 0, 0, 0], off27_eq i⟩
theorem off28_eq : ∀ i : grid0.Coords, k0_off28 i = ![(pnt i + 1) % 2, 1, 0, 512, 0] := by decide +kernel
instance (i : grid0.Coords) : ClosedOff (k0_off28 i) := ⟨![(pnt i + 1) % 2, 1, 0, 512, 0], off28_eq i⟩
theorem off29_eq : ∀ i : grid0.Coords, k0_off29 i = ![(pnt i + 1) % 2, 1, 0, 0, 128] := by decide +kernel
instance (i : grid0.Coords) : ClosedOff (k0_off29 i) := ⟨![(pnt i + 1) % 2, 1, 0, 0, 128], off29_eq i⟩
theorem off30_eq : ∀ i : grid0.Coords, k0_off30 i = ![(pnt i + 1) % 2, 1, 0, 512, 128] := by decide +kernel
instance (i : grid0.Coords) : ClosedOff (k0_off30 i) := ⟨![(pnt i + 1) % 2, 1, 0, 512, 128], off30_eq i⟩
theorem off31_eq : ∀ i : grid0.Coords, k0_off31 i = ![(pnt i + 1) % 2, 1, 1, 0, 0] := by decide +kernel
instance (i : grid0.Coords) : ClosedOff (k0_off31 i) := ⟨![(pnt i + 1) % 2, 1, 1, 0, 0], off31_eq i⟩
theorem off32_eq : ∀ i : grid0.Coords, k0_off32 i = ![(pnt i + 1) % 2, 1, 1, 512, 0] := by decide +kernel
instance (i : grid0.Coords) : ClosedOff (k0_off32 i) := ⟨![(pnt i + 1) % 2, 1, 1, 512, 0], off32_eq i⟩
theorem off33_eq : ∀ i : grid0.Coords, k0_off33 i = ![(pnt i + 1) % 2, 1, 1, 0, 128] := by decide +kernel
instance (i : grid0.Coords) : ClosedOff (k0_off33 i) := ⟨![(pnt i + 1) % 2, 1, 1, 0, 128], off33_eq i⟩
theorem off34_eq : ∀ i : grid0.Coords, k0_off34 i = ![(pnt i + 1) % 2, 1, 1, 512, 128] := by decide +kernel
instance (i : grid0.Coords) : ClosedOff (k0_off34 i) := ⟨![(pnt i + 1) % 2, 1, 1, 512, 128], off34_eq i⟩

/-- The copy loop runs at point 0 only. -/
theorem cond1_iff : ∀ i : grid0.Coords, k0_cond1 i = 1#1 ↔ pnt i = 0 := by decide +kernel

end Cert.Kernel.Hand

end
-- ==== Proof.Kernel.Body.lean ====
module

public import proofs.«01_k».proof.Proof.Kernel.Rel
public import proofs.«01_k».proof.Proof.Kernel.Offs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 40000000 in
theorem kernelRun (c : Dev nD) (i : grid0.Coords) (arg1 : Memref sig .tc .vmem S2x256x4096 .fp8e4m3) (harg1 : arg1.IsWhole) (arg2 : Memref sig .tc .vmem S2x256 .f32) (harg2 : arg2.IsWhole) (arg3 : Memref sig .tc .vmem S1x256x8x128 .fp8e4m3) (harg3 : arg3.IsWhole) (arg4 : Memref sig .tc .vmem S1x256x8x128 .fp8e4m3) (harg4 : arg4.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x2x256x8x128 .fp8e4m3) (harg10 : arg10.IsWhole) (arg11 : Memref sig .tc .vmem S1x2x8x4x256 .i8) (harg11 : arg11.IsWhole) (arg12 : Memref sig .tc .vmem S1x2x256x8x128 .fp8e4m3) (harg12 : arg12.IsWhole) (arg13 : Memref sig .tc .vmem S1x2x8x4x256 .i8) (harg13 : arg13.IsWhole)
    (x1 : Vec F S2x256x4096 .fp8e4m3) (x2 : Vec F S2x256 .f32) (x3 : Vec F S1x256x8x128 .fp8e4m3) (x4 : Vec F S1x256x8x128 .fp8e4m3) (x7 : Vec F S1x1x1024 .f32) (x8 : Vec F S1x1x1024 .f32) (x9 : Vec F S1x1x1024 .f32)
    (f5 : Bf F c (Memref.whole main_arg2)) (f6 : Bf F c (Memref.whole main_arg4)) (f14 : Bf F c (Memref.whole cc0_scratch0)) (f15 : Bf F c (Memref.whole cc0_scratch1)) (f16 : Bf F c (Memref.whole cc0_scratch2)) (f17 : Bf F c (Memref.whole cc0_scratch3)) (f18 : Bf F c (Memref.whole cc0_scratch4))
    (q5 q6 : PosShare TreeShare) (hc : ¬ k0_cond1 i = 1#1)
    (W : Waits sig Unit) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ ptq c (Memref.whole main_arg2) q5 f5 ∗ ptq c (Memref.whole main_arg4) q6 f6 ∗ owns (c : Thread nD τ) arg7 fullShare x7 ∗ owns (c : Thread nD τ) arg8 fullShare x8 ∗ owns (c : Thread nD τ) arg9 fullShare x9
      ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ pt c (Memref.whole cc0_scratch0) f14 ∗ pt c (Memref.whole cc0_scratch1) f15 ∗ pt c (Memref.whole cc0_scratch2) f16 ∗ pt c (Memref.whole cc0_scratch3) f17 ∗ pt c (Memref.whole cc0_scratch4) f18
      ∗ semVal ((c : Thread nD τ), osem 0) 0 ∗ semVal ((c : Thread nD τ), osem 1) 0 ∗ owes (c : Thread nD τ) 0 W
      ∗ (iprop(owns (c : Thread nD τ) arg1 fullShare x1 ∗ owns (c : Thread nD τ) arg2 fullShare x2 ∗ owns (c : Thread nD τ) arg3 fullShare x3 ∗ owns (c : Thread nD τ) arg4 fullShare x4 ∗ ptq c (Memref.whole main_arg2) q5 f5 ∗ ptq c (Memref.whole main_arg4) q6 f6 ∗ owns (c : Thread nD τ) arg7 fullShare x7 ∗ owns (c : Thread nD τ) arg8 fullShare x8 ∗ owns (c : Thread nD τ) arg9 fullShare x9
          ∗ ∃ X10 X11 X12 X13 g14 g15 g16, ⌜KRel c i x1 x2 x3 x4 x7 x8 x9 f5 f6 f14 f15 f16 X10 X11 X12 X13 g14 g15 g16⌝
          ∗ owns (c : Thread nD τ) arg10 fullShare X10 ∗ owns (c : Thread nD τ) arg11 fullShare X11 ∗ owns (c : Thread nD τ) arg12 fullShare X12 ∗ owns (c : Thread nD τ) arg13 fullShare X13
          ∗ pt c (Memref.whole cc0_scratch0) g14 ∗ pt c (Memref.whole cc0_scratch1) g15 ∗ pt c (Memref.whole cc0_scratch2) g16
          ∗ (∃ f, pt c (Memref.whole cc0_scratch3) f) ∗ (∃ f, pt c (Memref.whole cc0_scratch4) f)
          ∗ semVal ((c : Thread nD τ), osem 0) 0 ∗ semVal ((c : Thread nD τ), osem 1) 0 ∗ ∃ W, owes (c : Thread nD τ) 0 W) -∗ Q ⟨⟩))
    ⊢ wp frame (wpE (defs₀ (F := F)) Variants.none c none) Set.univ (cc0_kv_fill i arg1 harg1 arg2 harg2 arg3 harg3 arg4 harg4 (Memref.whole main_arg2) (Memref.isWhole_whole _) (Memref.whole main_arg4) (Memref.isWhole_whole _) arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5) Q := by
  simp only [cc0_kv_fill_eq_skeleton]; unfold cc0_kv_fill_skel
  simp only [k0_part51_eq_skeleton]; unfold k0_part51_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold owns
  iintro ⟨⟨%f1, %hf1, H1⟩, ⟨%f2, %hf2, H2⟩, ⟨%f3, %hf3, H3⟩, ⟨%f4, %hf4, H4⟩, H5, H6, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, H14, H15, H16, H17, H18, Hd0, Hd1, HO, Hk⟩
  subst hf1 hf2 hf3 hf4 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]; · iexact H5
  isplitl [H6]; · iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _, _, _, _, _, _, _
  isplitr; swap
  · isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]; · iexact H14
    isplitl [H15]; · iexact H15
    isplitl [H16]; · iexact H16
    isplitl [H17]; · iexists _; iexact H17
    isplitl [H18]; · iexists _; iexact H18
    isplitl [Hd0]; · iexact Hd0
    isplitl [Hd1]; · iexact Hd1
    iexists _; iexact HO
  ipureintro; exact trivial

end Cert.Kernel.Hand

end
-- ==== Proof.Kernel.Body0.lean ====
module

public import proofs.«01_k».proof.Proof.Kernel.Rel
public import proofs.«01_k».proof.Proof.Kernel.Offs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 40000000 in
theorem kernelRun0 (c : Dev nD) (i : grid0.Coords) (arg1 : Memref sig .tc .vmem S2x256x4096 .fp8e4m3) (harg1 : arg1.IsWhole) (arg2 : Memref sig .tc .vmem S2x256 .f32) (harg2 : arg2.IsWhole) (arg3 : Memref sig .tc .vmem S1x256x8x128 .fp8e4m3) (harg3 : arg3.IsWhole) (arg4 : Memref sig .tc .vmem S1x256x8x128 .fp8e4m3) (harg4 : arg4.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x2x256x8x128 .fp8e4m3) (harg10 : arg10.IsWhole) (arg11 : Memref sig .tc .vmem S1x2x8x4x256 .i8) (harg11 : arg11.IsWhole) (arg12 : Memref sig .tc .vmem S1x2x256x8x128 .fp8e4m3) (harg12 : arg12.IsWhole) (arg13 : Memref sig .tc .vmem S1x2x8x4x256 .i8) (harg13 : arg13.IsWhole)
    (x1 : Vec F S2x256x4096 .fp8e4m3) (x2 : Vec F S2x256 .f32) (x3 : Vec F S1x256x8x128 .fp8e4m3) (x4 : Vec F S1x256x8x128 .fp8e4m3) (x7 : Vec F S1x1x1024 .f32) (x8 : Vec F S1x1x1024 .f32) (x9 : Vec F S1x1x1024 .f32)
    (f5 : Bf F c (Memref.whole main_arg2)) (f6 : Bf F c (Memref.whole main_arg4)) (f14 : Bf F c (Memref.whole cc0_scratch0)) (f15 : Bf F c (Memref.whole cc0_scratch1)) (f16 : Bf F c (Memref.whole cc0_scratch2)) (f17 : Bf F c (Memref.whole cc0_scratch3)) (f18 : Bf F c (Memref.whole cc0_scratch4))
    (q5 q6 : PosShare TreeShare) (hc : k0_cond1 i = 1#1)
    (W : Waits sig Unit) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ ptq c (Memref.whole main_arg2) q5 f5 ∗ ptq c (Memref.whole main_arg4) q6 f6 ∗ owns (c : Thread nD τ) arg7 fullShare x7 ∗ owns (c : Thread nD τ) arg8 fullShare x8 ∗ owns (c : Thread nD τ) arg9 fullShare x9
      ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ pt c (Memref.whole cc0_scratch0) f14 ∗ pt c (Memref.whole cc0_scratch1) f15 ∗ pt c (Memref.whole cc0_scratch2) f16 ∗ pt c (Memref.whole cc0_scratch3) f17 ∗ pt c (Memref.whole cc0_scratch4) f18
      ∗ semVal ((c : Thread nD τ), osem 0) 0 ∗ semVal ((c : Thread nD τ), osem 1) 0 ∗ owes (c : Thread nD τ) 0 W
      ∗ (iprop(owns (c : Thread nD τ) arg1 fullShare x1 ∗ owns (c : Thread nD τ) arg2 fullShare x2 ∗ owns (c : Thread nD τ) arg3 fullShare x3 ∗ owns (c : Thread nD τ) arg4 fullShare x4 ∗ ptq c (Memref.whole main_arg2) q5 f5 ∗ ptq c (Memref.whole main_arg4) q6 f6 ∗ owns (c : Thread nD τ) arg7 fullShare x7 ∗ owns (c : Thread nD τ) arg8 fullShare x8 ∗ owns (c : Thread nD τ) arg9 fullShare x9
          ∗ ∃ X10 X11 X12 X13 g14 g15 g16, ⌜KRel c i x1 x2 x3 x4 x7 x8 x9 f5 f6 f14 f15 f16 X10 X11 X12 X13 g14 g15 g16⌝
          ∗ owns (c : Thread nD τ) arg10 fullShare X10 ∗ owns (c : Thread nD τ) arg11 fullShare X11 ∗ owns (c : Thread nD τ) arg12 fullShare X12 ∗ owns (c : Thread nD τ) arg13 fullShare X13
          ∗ pt c (Memref.whole cc0_scratch0) g14 ∗ pt c (Memref.whole cc0_scratch1) g15 ∗ pt c (Memref.whole cc0_scratch2) g16
          ∗ (∃ f, pt c (Memref.whole cc0_scratch3) f) ∗ (∃ f, pt c (Memref.whole cc0_scratch4) f)
          ∗ semVal ((c : Thread nD τ), osem 0) 0 ∗ semVal ((c : Thread nD τ), osem 1) 0 ∗ ∃ W, owes (c : Thread nD τ) 0 W) -∗ Q ⟨⟩))
    ⊢ wp frame (wpE (defs₀ (F := F)) Variants.none c none) Set.univ (cc0_kv_fill i arg1 harg1 arg2 harg2 arg3 harg3 arg4 harg4 (Memref.whole main_arg2) (Memref.isWhole_whole _) (Memref.whole main_arg4) (Memref.isWhole_whole _) arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5) Q := by
  simp only [cc0_kv_fill_eq_skeleton]; unfold cc0_kv_fill_skel
  simp only [k0_part51_eq_skeleton]; unfold k0_part51_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold owns
  iintro ⟨⟨%f1, %hf1, H1⟩, ⟨%f2, %hf2, H2⟩, ⟨%f3, %hf3, H3⟩, ⟨%f4, %hf4, H4⟩, H5, H6, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, H14, H15, H16, H17, H18, Hd0, Hd1, HO, Hk⟩
  subst hf1 hf2 hf3 hf4 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]; · iexact H5
  isplitl [H6]; · iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _, _, _, _, _, _, _
  isplitr; swap
  · isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]; · iexact H14
    isplitl [H15]; · iexact H15
    isplitl [H16]; · iexact H16
    isplitl [H17]; · iexists _; iexact H17
    isplitl [H18]; · iexists _; iexact H18
    isplitl [Hd0]; · iexact Hd0
    isplitl [Hd1]; · iexact Hd1
    iexists _; iexact HO
  ipureintro; exact trivial

end Cert.Kernel.Hand

end
-- ==== Proof.Kernel.Run.lean ====
module

public import proofs.«01_k».proof.Proof.Kernel.Spec
public import proofs.«01_k».proof.Proof.Kernel.Body
public import proofs.«01_k».proof.Proof.Kernel.Body0
public import Idealize.ShloMosaic.Lib.Pipeline.Regions

@[expose] public section

set_option maxRecDepth 16384

noncomputable section

/-! # The run: the pipeline's proof data, the body's obligation and the launch -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (Pipeline.UD sig nD τ) ℕ

/-- An input window that the body leaves alone holds, at every point, what a fetch there puts in the buffer. -/
theorem finds_in {c : Dev nD} (rd : RDat τ (Elt F) Unit ℕ (Pipeline.UD sig nD τ) ℕ cfg0 c) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, rd.after w t Y X → X = Y) :
    ∀ (n : ℕ) (t : Fin cfg0.N), t.val = n → ∀ X, rd.Finds w t X → ∃ d, X = rd.fetched w t d := by
  intro n
  induction n with
  | zero =>
    intro t ht X hX
    refine (rd.finds_of_fetch ?_ X).mp hX
    rw [(cfg0.win w).fetch_in hw t]; exact .inl ht
  | succ n ih =>
    intro t ht X hX
    by_cases hf : (cfg0.win w).fetch t = true
    · exact (rd.finds_of_fetch hf X).mp hX
    · have hf' : (cfg0.win w).fetch t = false := by simpa using hf
      obtain ⟨h0, hi⟩ := Pipeline.Window.index_eq_of_fetch _ hw t hf'
      have := (rd.finds_of_pos hf' h0 X).mp hX
      have hfl : (cfg0.win w).flush ⟨t.val - 1, Nat.lt_of_le_of_lt (Nat.sub_le _ _) t.isLt⟩ = false := by
        unfold Pipeline.Window.flush; rw [hw]; rfl
      obtain ⟨Y, hY, hXY⟩ := this.resolve_left (by rw [hfl]; exact Bool.false_ne_true)
      obtain ⟨d, rfl⟩ := ih _ (by show t.val - 1 = n; omega) Y hY
      exact ⟨d, (hkeep _ _ _ hXY).trans (rd.fetched_congr w hi.symm (hclip _ _ hi.symm) d)⟩

variable (m : (ℓ : Loc nD τ sig) → Buf (Elt F) ℓ) (ρ : Dev nD → PrngReg)

/-- The share of each input array the windows hold: the two weight arrays, which the body's own copies read too, by half. -/
def qs (w : Fin cfg0.W) : PosShare TreeShare := if w.val = 2 ∨ w.val = 3 then fullShare.left else fullShare

/-- What is held between points: the scratch buffers in the invariant's relation, the kernel's own semaphores at zero, and the
    other half of the two weight arrays. -/
def Φc (c : Dev nD) (t : ℕ) : sProp 𝕄 :=
  iprop(∃ f14 f15 f16, ⌜Inv m c t f14 f15 f16⌝
    ∗ pt c (Memref.whole cc0_scratch0) f14 ∗ pt c (Memref.whole cc0_scratch1) f15 ∗ pt c (Memref.whole cc0_scratch2) f16
    ∗ (∃ f, pt c (Memref.whole cc0_scratch3) f) ∗ (∃ f, pt c (Memref.whole cc0_scratch4) f)
    ∗ semVal ((c : Thread nD τ), osem 0) 0 ∗ semVal ((c : Thread nD τ), osem 1) 0
    ∗ ptq c (Memref.whole main_arg2) fullShare.right (V m c main_arg2) ∗ ptq c (Memref.whole main_arg4) fullShare.right (V m c main_arg4))

/-- The proof data: an input's staging buffer is left as found, an output's as `Out` states. -/
def rdats (_ : Fin 1) (c : Dev nD) : RDat τ (Elt F) Unit ℕ (Pipeline.UD sig nD τ) ℕ cfg0 c where
  A w := V m c (Pipeline.arrRef spec0 w)
  after w t Y X := if w.val < 7 then X = Y else Out m c w t X
  Φ t := Φc m c t.val
  q := qs
  owed _ := 0

theorem A_eq (c : Dev nD) (w : Fin cfg0.W) : (rdats m 0 c).A w = V m c (Pipeline.arrRef spec0 w) := by dsimp only [rdats]

theorem after_in (c : Dev nD) (w : Fin cfg0.W) (hw : w.val < 7) (t Y X) : (rdats m 0 c).after w t Y X ↔ X = Y := by
  dsimp only [rdats]; rw [if_pos hw]

theorem after_out (c : Dev nD) (w : Fin cfg0.W) (hw : ¬ w.val < 7) (t Y X) : (rdats m 0 c).after w t Y X ↔ Out m c w t X := by
  dsimp only [rdats]; rw [if_neg hw]

/-- Every input's cut is a function of its block index. -/
theorem clip_congr (w : Fin cfg0.W) (hw : w.val < 7) (t t' : Fin cfg0.N) (h : (cfg0.win w).index t = (cfg0.win w).index t') :
    (cfg0.win w).clip (cfg0.grid.coords t) = (cfg0.win w).clip (cfg0.grid.coords t') := by
  match w, hw with
  | ⟨0, _⟩, _ => exact funext fun a => congrArg (fun ix => Pipeline.Clip.of (ix a) (S2x256x4096.size a) (S2x6404x4096.size a)) h
  | ⟨1, _⟩, _ => exact funext fun a => congrArg (fun ix => Pipeline.Clip.of (ix a) (S2x256.size a) (S2x6404.size a)) h
  | ⟨2, _⟩, _ => rfl
  | ⟨3, _⟩, _ => rfl
  | ⟨4, _⟩, _ => rfl
  | ⟨5, _⟩, _ => rfl
  | ⟨6, _⟩, _ => rfl

/-- An input's staging buffer when the body runs. -/
theorem staged (c : Dev nD) (w : Fin cfg0.W) (hw : w.val < 7) (ho : (cfg0.win w).isOut = false) (t : Fin cfg0.N) (X)
    (h : (rdats m 0 c).Finds w t X) : Staged m c w t X := by
  obtain ⟨d, hd⟩ := finds_in (rdats m 0 c) w ho (clip_congr w hw) (fun t Y X => (after_in m c w hw t Y X).mp) _ t rfl X h
  exact ⟨d, hd⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- One point of the body, whichever of its two cases. -/
theorem body_run (c : Dev nD) (t : Fin cfg0.N) (Y : (w : Fin cfg0.W) → (cfg0.win w).block.Idx → Elt F (cfg0.win w).elt) (hY : ∀ w, (rdats m 0 c).Finds w t (Y w)) :
    iprop((rdats m 0 c).Φ t.castSucc ∗ (rdats m 0 c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
      ⊢ wp frame (wpE (defs₀ (F := F)) Variants.none c none) Set.univ (bodyAt0 t) (fun _ =>
        iprop((rdats m 0 c).Φ t.succ ∗ (rdats m 0 c).owesAt () t.succ
          ∗ (∃ X, ⌜(rdats m 0 c).after 0 t (Y 0) X⌝ ∗ owns (c : Thread nD τ) (st0_0 t) fullShare X) ∗ (∃ X, ⌜(rdats m 0 c).after 1 t (Y 1) X⌝ ∗ owns (c : Thread nD τ) (st0_1 t) fullShare X) ∗ (∃ X, ⌜(rdats m 0 c).after 2 t (Y 2) X⌝ ∗ owns (c : Thread nD τ) (st0_2 t) fullShare X) ∗ (∃ X, ⌜(rdats m 0 c).after 3 t (Y 3) X⌝ ∗ owns (c : Thread nD τ) (st0_3 t) fullShare X) ∗ (∃ X, ⌜(rdats m 0 c).after 4 t (Y 4) X⌝ ∗ owns (c : Thread nD τ) (st0_4 t) fullShare X) ∗ (∃ X, ⌜(rdats m 0 c).after 5 t (Y 5) X⌝ ∗ owns (c : Thread nD τ) (st0_5 t) fullShare X) ∗ (∃ X, ⌜(rdats m 0 c).after 6 t (Y 6) X⌝ ∗ owns (c : Thread nD τ) (st0_6 t) fullShare X) ∗ (∃ X, ⌜(rdats m 0 c).after 7 t (Y 7) X⌝ ∗ owns (c : Thread nD τ) (st0_7 t) fullShare X) ∗ (∃ X, ⌜(rdats m 0 c).after 8 t (Y 8) X⌝ ∗ owns (c : Thread nD τ) (st0_8 t) fullShare X) ∗ (∃ X, ⌜(rdats m 0 c).after 9 t (Y 9) X⌝ ∗ owns (c : Thread nD τ) (st0_9 t) fullShare X) ∗ (∃ X, ⌜(rdats m 0 c).after 10 t (Y 10) X⌝ ∗ owns (c : Thread nD τ) (st0_10 t) fullShare X))) := by
  rw [show (rdats m 0 c).Φ t.castSucc = Φc m c t.val from rfl, show (rdats m 0 c).Φ t.succ = Φc m c (t.val + 1) from rfl]
  unfold Φc RDat.owesAt Pipeline.owesWithin
  rw [show (rdats m 0 c).owed t.castSucc = 0 from rfl, show (rdats m 0 c).owed t.succ = 0 from rfl]
  iintro ⟨⟨%f14, %f15, %f16, %hinv, H14, H15, H16, ⟨%f17, H17⟩, ⟨%f18, H18⟩, Hd0, Hd1, HA2, HA4⟩, ⟨%W, %hW, HO⟩, H0, H1, H2, H3, H4, H5, H6, H7, H8, H9, H10⟩
  have hstep := inv_step m c t (Y 0) (Y 1) (Y 2) (Y 3) (Y 4) (Y 5) (Y 6) f14 f15 f16 (hf := hinv)
    (h1 := staged m c 0 (by decide) rfl t _ (hY 0)) (h2 := staged m c 1 (by decide) rfl t _ (hY 1)) (h3 := staged m c 2 (by decide) rfl t _ (hY 2)) (h4 := staged m c 3 (by decide) rfl t _ (hY 3)) (h7 := staged m c 4 (by decide) rfl t _ (hY 4)) (h8 := staged m c 5 (by decide) rfl t _ (hY 5)) (h9 := staged m c 6 (by decide) rfl t _ (hY 6))
  unfold bodyAt0
  by_cases hc : k0_cond1 (grid0.coords t) = 1#1
  · iapply (kernelRun0 (F := F) c (grid0.coords t) _ _ _ _ _ _ _ _ _ _ _ _ _ _ _ _ _ _ _ _ _ _ (Y 0) (Y 1) (Y 2) (Y 3) (Y 4) (Y 5) (Y 6) (V m c main_arg2) (V m c main_arg4) f14 f15 f16 f17 f18 fullShare.right fullShare.right hc W _)
    isplitl [H0]; · iexact H0
    isplitl [H1]; · iexact H1
    isplitl [H2]; · iexact H2
    isplitl [H3]; · iexact H3
    isplitl [HA2]; · iexact HA2
    isplitl [HA4]; · iexact HA4
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H14]; · iexact H14
    isplitl [H15]; · iexact H15
    isplitl [H16]; · iexact H16
    isplitl [H17]; · iexact H17
    isplitl [H18]; · iexact H18
    isplitl [Hd0]; · iexact Hd0
    isplitl [Hd1]; · iexact Hd1
    isplitl [HO]; · iexact HO
    iintro ⟨H0, H1, H2, H3, HA2, HA4, H4, H5, H6, ⟨%X10, %X11, %X12, %X13, %g14, %g15, %g16, %hk, H7, H8, H9, H10, H14, H15, H16, H17, H18, Hd0, Hd1, ⟨%W', HO⟩⟩⟩
    obtain ⟨hi, h7, h8, h9, h10⟩ := hstep _ _ _ _ _ _ _ hk
    isplitl [H14 H15 H16 H17 H18 Hd0 Hd1 HA2 HA4]
    · iexists g14, g15, g16; isplitr; · ipureintro; exact hi
      isplitl [H14]; · iexact H14
      isplitl [H15]; · iexact H15
      isplitl [H16]; · iexact H16
      isplitl [H17]; · iexact H17
      isplitl [H18]; · iexact H18
      isplitl [Hd0]; · iexact Hd0
      isplitl [Hd1]; · iexact Hd1
      isplitl [HA2]; · iexact HA2
      iexact HA4
    isplitl [HO]
    · iexists W'; isplitr; · ipureintro; exact fun _ _ => Or.inl trivial
      iexact HO
    isplitl [H0]; · iexists _; isplitr; swap; (· iexact H0); ipureintro; exact (after_in m c 0 (by decide) t _ _).mpr rfl
    isplitl [H1]; · iexists _; isplitr; swap; (· iexact H1); ipureintro; exact (after_in m c 1 (by decide) t _ _).mpr rfl
    isplitl [H2]; · iexists _; isplitr; swap; (· iexact H2); ipureintro; exact (after_in m c 2 (by decide) t _ _).mpr rfl
    isplitl [H3]; · iexists _; isplitr; swap; (· iexact H3); ipureintro; exact (after_in m c 3 (by decide) t _ _).mpr rfl
    isplitl [H4]; · iexists _; isplitr; swap; (· iexact H4); ipureintro; exact (after_in m c 4 (by decide) t _ _).mpr rfl
    isplitl [H5]; · iexists _; isplitr; swap; (· iexact H5); ipureintro; exact (after_in m c 5 (by decide) t _ _).mpr rfl
    isplitl [H6]; · iexists _; isplitr; swap; (· iexact H6); ipureintro; exact (after_in m c 6 (by decide) t _ _).mpr rfl
    isplitl [H7]; · iexists _; isplitr; swap; (· iexact H7); ipureintro; exact (after_out m c 7 (by decide) t _ _).mpr h7
    isplitl [H8]; · iexists _; isplitr; swap; (· iexact H8); ipureintro; exact (after_out m c 8 (by decide) t _ _).mpr h8
    isplitl [H9]; · iexists _; isplitr; swap; (· iexact H9); ipureintro; exact (after_out m c 9 (by decide) t _ _).mpr h9
    iexists _; isplitr; swap; (· iexact H10); ipureintro; exact (after_out m c 10 (by decide) t _ _).mpr h10
  · iapply (kernelRun (F := F) c (grid0.coords t) _ _ _ _ _ _ _ _ _ _ _ _ _ _ _ _ _ _ _ _ _ _ (Y 0) (Y 1) (Y 2) (Y 3) (Y 4) (Y 5) (Y 6) (V m c main_arg2) (V m c main_arg4) f14 f15 f16 f17 f18 fullShare.right fullShare.right hc W _)
    isplitl [H0]; · iexact H0
    isplitl [H1]; · iexact H1
    isplitl [H2]; · iexact H2
    isplitl [H3]; · iexact H3
    isplitl [HA2]; · iexact HA2
    isplitl [HA4]; · iexact HA4
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H14]; · iexact H14
    isplitl [H15]; · iexact H15
    isplitl [H16]; · iexact H16
    isplitl [H17]; · iexact H17
    isplitl [H18]; · iexact H18
    isplitl [Hd0]; · iexact Hd0
    isplitl [Hd1]; · iexact Hd1
    isplitl [HO]; · iexact HO
    iintro ⟨H0, H1, H2, H3, HA2, HA4, H4, H5, H6, ⟨%X10, %X11, %X12, %X13, %g14, %g15, %g16, %hk, H7, H8, H9, H10, H14, H15, H16, H17, H18, Hd0, Hd1, ⟨%W', HO⟩⟩⟩
    obtain ⟨hi, h7, h8, h9, h10⟩ := hstep _ _ _ _ _ _ _ hk
    isplitl [H14 H15 H16 H17 H18 Hd0 Hd1 HA2 HA4]
    · iexists g14, g15, g16; isplitr; · ipureintro; exact hi
      isplitl [H14]; · iexact H14
      isplitl [H15]; · iexact H15
      isplitl [H16]; · iexact H16
      isplitl [H17]; · iexact H17
      isplitl [H18]; · iexact H18
      isplitl [Hd0]; · iexact Hd0
      isplitl [Hd1]; · iexact Hd1
      isplitl [HA2]; · iexact HA2
      iexact HA4
    isplitl [HO]
    · iexists W'; isplitr; · ipureintro; exact fun _ _ => Or.inl trivial
      iexact HO
    isplitl [H0]; · iexists _; isplitr; swap; (· iexact H0); ipureintro; exact (after_in m c 0 (by decide) t _ _).mpr rfl
    isplitl [H1]; · iexists _; isplitr; swap; (· iexact H1); ipureintro; exact (after_in m c 1 (by decide) t _ _).mpr rfl
    isplitl [H2]; · iexists _; isplitr; swap; (· iexact H2); ipureintro; exact (after_in m c 2 (by decide) t _ _).mpr rfl
    isplitl [H3]; · iexists _; isplitr; swap; (· iexact H3); ipureintro; exact (after_in m c 3 (by decide) t _ _).mpr rfl
    isplitl [H4]; · iexists _; isplitr; swap; (· iexact H4); ipureintro; exact (after_in m c 4 (by decide) t _ _).mpr rfl
    isplitl [H5]; · iexists _; isplitr; swap; (· iexact H5); ipureintro; exact (after_in m c 5 (by decide) t _ _).mpr rfl
    isplitl [H6]; · iexists _; isplitr; swap; (· iexact H6); ipureintro; exact (after_in m c 6 (by decide) t _ _).mpr rfl
    isplitl [H7]; · iexists _; isplitr; swap; (· iexact H7); ipureintro; exact (after_out m c 7 (by decide) t _ _).mpr h7
    isplitl [H8]; · iexists _; isplitr; swap; (· iexact H8); ipureintro; exact (after_out m c 8 (by decide) t _ _).mpr h8
    isplitl [H9]; · iexists _; isplitr; swap; (· iexact H9); ipureintro; exact (after_out m c 9 (by decide) t _ _).mpr h9
    iexists _; isplitr; swap; (· iexact H10); ipureintro; exact (after_out m c 10 (by decide) t _ _).mpr h10

/-- The library's body obligation, at every point. -/
theorem body_obligation (c : Dev nD) : (rdats (F := F) m 0 c).BodyObligation (defs₀ (F := F)) Variants.none () Set.univ := fun t Y hY => by
  rw [bigSep_W0, bigSep_W0, defs₀_row]
  exact body_run m c t Y hY

end Cert.Kernel.Hand

end
-- ==== Proof.Kernel.Launch.lean ====
module

public import proofs.«01_k».proof.Proof.Kernel.Run
public import Idealize.ShloMosaic.Lib.Pipeline.Regions

@[expose] public section

set_option maxRecDepth 16384

noncomputable section

/-! # The launch: @main as its host operations and the region -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (Pipeline.UD sig nD τ) ℕ

/-- The pipeline library's algebra is the left component of the certificate's. -/
abbrev EP : Emb (UR sig nD τ) (MT nD τ sig Unit (Elt F) ℕ (Pipeline.UD sig nD τ) ℕ) := embL

/-- The TensorCore's unscoped references, as device buffers: the set the host operations run within. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- A host operation names no scoped buffer. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The kernel's own semaphores: scoped, distinct, and no staging semaphore. -/
theorem ownSemFacts : Pipeline.OwnSemFacts spec0 osem := by decide

/-- The launch element. -/
def u₀ : Pipeline.UD sig nD τ := (initOf (Pipeline.cells cfgs cellOf_inj) (Pipeline.launchToks cfgs cellOf_inj), 1)

/-- The kernel's own cells at zero, listed. -/
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), osem 0) 0 ∗ semVal ((c : Thread nD τ), osem 1) 0) :=
  Pipeline.ownSems0_eq_of_list c osem [0, 1] (by decide) (by decide)

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

variable (m : (ℓ : Loc nD τ sig) → Buf (Elt F) ℓ) (ρ : Dev nD → PrngReg)

/-- Core `c`'s buffers at launch, as the operations' valuation. -/
abbrev V₀ (c : Dev nD) : Valuation τ sig (Elt F) := fun b => m (c, b)

/-- What rides beside the buffers through the host operations: the core's `owes`. -/
abbrev R (c : Dev nD) : sProp 𝕄 := iprop(∃ W, owes (c : Thread nD τ) (0 : CellTallies nD τ sig Unit) W)

/-- The host segment: the eleven operations over the unscoped buffers. -/
def seg0 : Pipeline.HostSeg (Name := ℕ) (U := Pipeline.UD sig nD τ) (pcfgs (F := F)) defs₀ Variants.none L lv :=
  Pipeline.HostSeg.ofOps _ _ _ _ _ ucRefs hostOps0 (fun op h => sub_ucRefs op ((List.forall_iff_forall_mem.mp hostOps0_sub) op h))
    (List.forall_iff_forall_mem.mp hostOps0_fresh) (V₀ m) R

/-- What bypasses the region: the arguments no window reads. -/
abbrev Zc (c : Dev nD) : sProp 𝕄 :=
  iprop(pt c (Memref.whole main_arg3) (V m c main_arg3) ∗ pt c (Memref.whole main_arg5) (V m c main_arg5) ∗ pt c (Memref.whole main_arg6) (V m c main_arg6))

/-- What the region leaves for the end. -/
abbrev Tₙ (c : Dev nD) : sProp 𝕄 := iprop((rdats m 0 c).arraysAt cfg0.N ∗ Zc m c)

/-- The half of the two weight arrays that the body's own copies read. -/
abbrev halves (c : Dev nD) : sProp 𝕄 :=
  iprop(ptq c (Memref.whole main_arg2) fullShare.right (V m c main_arg2) ∗ ptq c (Memref.whole main_arg4) fullShare.right (V m c main_arg4))

/-- An array held at the share its window takes, whole. -/
theorem arr_pt (c : Dev nD) (w : Fin cfg0.W) (q : PosShare TreeShare) (hq : (rdats m 0 c).share w = q) :
    ((((c : Thread nD τ).loc (Pipeline.arrRef spec0 w)) ↦{q} V m c (Pipeline.arrRef spec0 w)) : sProp 𝕄)
      ⊢ (cfg0.win w).arr.view.loc (c : Thread nD τ) ↦[(cfg0.win w).arr.view.set]{(rdats m 0 c).share w} (rdats m 0 c).A w := by
  rw [hq, (launch0.arr_whole w).set_eq_univ]
  exact .rfl

/-- The windows' arrays, and the halves left over, from the unscoped buffers at the region's entry. -/
theorem arrays_entry (c : Dev nD) : (unscopedBufs c (V m c) : sProp 𝕄)
    ⊢ iprop((rdats m 0 c).arrays (rdats m 0 c).A ∗ halves m c ∗ Zc m c) := by
  rw [Pipeline.unscopedBufs_split cfgs 0 (by decide) (by decide) c (V m c), unscopedRest0_eq]
  unfold RDat.arrays
  rw [bigSep_W0, bigSep_W0]
  iintro ⟨⟨H0, H1, H2, H3, H4, H5, H6, H7, H8, H9, H10⟩, A3, A5, A6, -⟩
  ihave S2 := (pointsTo_share (PosShare.mem_left_op_right fullShare)).1 $$ H2
  icases S2 with ⟨H2, R2⟩
  ihave S3 := (pointsTo_share (PosShare.mem_left_op_right fullShare)).1 $$ H3
  icases S3 with ⟨H3, R3⟩
  isplitr [R2 R3 A3 A5 A6]
  · isplitl [H0]; · iapply (arr_pt m c 0 fullShare rfl); iexact H0
    isplitl [H1]; · iapply (arr_pt m c 1 fullShare rfl); iexact H1
    isplitl [H2]; · iapply (arr_pt m c 2 fullShare.left rfl); iexact H2
    isplitl [H3]; · iapply (arr_pt m c 3 fullShare.left rfl); iexact H3
    isplitl [H4]; · iapply (arr_pt m c 4 fullShare rfl); iexact H4
    isplitl [H5]; · iapply (arr_pt m c 5 fullShare rfl); iexact H5
    isplitl [H6]; · iapply (arr_pt m c 6 fullShare rfl); iexact H6
    isplitl [H7]; · iapply (arr_pt m c 7 fullShare rfl); iexact H7
    isplitl [H8]; · iapply (arr_pt m c 8 fullShare rfl); iexact H8
    isplitl [H9]; · iapply (arr_pt m c 9 fullShare rfl); iexact H9
    iapply (arr_pt m c 10 fullShare rfl); iexact H10
  isplitl [R2 R3]
  · isplitl [R2]; · iexact R2
    iexact R3
  isplitl [A3]; · iexact A3
  isplitl [A5]; · iexact A5
  iexact A6

set_option backward.isDefEq.respectTransparency.types false in
/-- The region. -/
def reg0 : Pipeline.RDat.RegionSeg (pcfgs (F := F)) adm (rdats m) () defs₀ Variants.none L lv 0 where
  win := launch0.win.to₀
  block_pos := launch0.block_pos
  stage_whole := launch0.stage_whole
  K := Fin 2
  osem := osem
  ho := ownSemFacts
  hbody c := body_obligation m c
  hwaits := Pipeline.RDat.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop((semVal ((c : Thread nD τ), osem 0) 0 ∗ semVal ((c : Thread nD τ), osem 1) 0) ∗ halves m c)
  Y c := iprop(emp)
  Z c := Zc m c
  hentry c := by
    rw [show StableHlo.held (c : Thread nD τ) ucRefs (StableHlo.after hostOps0 (V₀ m c)) = unscopedBufs c (V m c) from (unscopedBufs_held c _).symm,
      ownSems0_eq]
    iintro ⟨⟨Hub, HO⟩, Hos, -⟩
    ihave H := (arrays_entry m c) $$ Hub
    icases H with ⟨Ha, Hh, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hos Hh]
    · isplitl [Hos]; · iexact Hos
      iexact Hh
    iexact HZ
  hin c := by
    rw [show (rdats m 0 c).Φ 0 = Φc m c 0 from rfl, show Pipeline.scopedRest (Pipeline.pin (pcfgs (F := F)) adm 0).spec c = _ from scopedRest0_eq c]; unfold Φc
    iintro ⟨⟨⟨Hd0, Hd1⟩, HA2, HA4⟩, -, ⟨%f14, H14⟩, ⟨%f15, H15⟩, ⟨%f16, H16⟩, H17, H18⟩
    iexists f14, f15, f16
    isplitr; · ipureintro; exact inv_zero m c f14 f15 f16
    isplitl [H14]; · iexact H14
    isplitl [H15]; · iexact H15
    isplitl [H16]; · iexact H16
    isplitl [H17]; · iexact H17
    isplitl [H18]; · iexact H18
    isplitl [Hd0]; · iexact Hd0
    isplitl [Hd1]; · iexact Hd1
    isplitl [HA2]; · iexact HA2
    iexact HA4
  hout c := by
    rw [ownSems0_eq, show (rdats m 0 c).Φ (Fin.last cfg0.N) = Φc m c cfg0.N from rfl, show Pipeline.scopedRest (Pipeline.pin (pcfgs (F := F)) adm 0).spec c = _ from scopedRest0_eq c]; unfold Φc
    iintro ⟨%f14, %f15, %f16, -, H14, H15, H16, H17, H18, Hd0, Hd1, -, -⟩
    isplitr; · iempintro
    isplitl [Hd0 Hd1]
    · isplitl [Hd0]; · iexact Hd0
      iexact Hd1
    isplitl [H14]; · iexists f14; iexact H14
    isplitl [H15]; · iexists f15; iexact H15
    isplitl [H16]; · iexists f16; iexact H16
    isplitl [H17]; · iexact H17
    iexact H18
  hexit c := by
    iintro ⟨Ha, HO, -, HZ⟩
    imodintro
    isplitr [HO]
    · isplitl [Ha]; · iexact Ha
      iexact HZ
    · unfold Pipeline.RDat.owesAt Pipeline.owesWithin
      icases HO with ⟨%W, -, HO⟩; iexists W; iexact HO

/-- @main as the list of the two. -/
abbrev segs : List (Pipeline.RDat.Seg (pcfgs (F := F)) adm (rdats m) () defs₀ Variants.none L lv) := [.host (seg0 m), .region (reg0 m)]

/-- What the run establishes of the memory: every window's array as the proof data relate it, the other arguments as launched. -/
def QC (c : Dev nD) (s : MemSt nD τ sig (Elt F)) : Prop :=
  (∀ w : Fin cfg0.W, (rdats m 0 c).ArrAt w cfg0.N (s.mem ((cfg0.win w).arr.view.loc (c : Thread nD τ))))
    ∧ s.mem ((c : Thread nD τ).loc main_arg3) = m ((c : Thread nD τ).loc main_arg3)
    ∧ s.mem ((c : Thread nD τ).loc main_arg5) = m ((c : Thread nD τ).loc main_arg5)
    ∧ s.mem ((c : Thread nD τ).loc main_arg6) = m ((c : Thread nD τ).loc main_arg6)

set_option backward.isDefEq.respectTransparency.types false in
/-- Every weakly fair execution of @main from zero counters ends, with every counter at zero and the memory as `QC`. -/
theorem run_main : θ_run defs (onTc (τ := τ) (main (F := F))) ⟨m, fun _ => 0, ρ⟩ (fun r => (∀ c, QC m c r.2) ∧ r.2.sem = fun _ => 0) :=
  Pipeline.RDat.θ_run_regions_kit_sems (pcfgs (F := F)) adm (rdats m) () cellOf_inj EP defs₀ Variants.none L lv m ρ main (segs m)
    (fun c Q => by rw [main_chain, Pipeline.RDat.Seg.run_eq_chain]; exact .rfl)
    (by simp only [Pipeline.RDat.Seg.pipes_host, Pipeline.RDat.Seg.pipes_region, Pipeline.RDat.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := QC m)
    (hfin := fun c s' => by
      dsimp only [Tₙ, Zc]; rw [V_main_arg3, V_main_arg5, V_main_arg6]
      iintro ⟨⟨Ha, H3, H5, H6⟩, HSI⟩
      icombine HSI H3 gives %h3
      icombine HSI H5 gives %h5
      icombine HSI H6 gives %h6
      ihave Hr := (Pipeline.RDat.arraysAt_read (pcfgs (F := F)) adm (rdats m) 0 c launch0.arr_whole cfg0.N s') $$ [Ha HSI]
      · isplitl [Ha] <;> iassumption
      icases Hr with ⟨%ha, HSI⟩
      imodintro
      isplitr; · ipureintro; exact ⟨ha, Buf.eq_of_forall_mem_univ h3, Buf.eq_of_forall_mem_univ h5, Buf.eq_of_forall_mem_univ h6⟩
      iexact HSI)
    (hQ := fun _ h hz => ⟨h, funext fun g => hz g (.inr (by revert g; decide))⟩)

/-- An input's array ends as launched. -/
theorem arg_kept (c : Dev nD) (w : Fin cfg0.W) (ho : (cfg0.win w).isOut = false) (B) (h : (rdats m 0 c).ArrAt w cfg0.N B) :
    B = V m c (Pipeline.arrRef spec0 w) := by
  rw [(rdats m 0 c).ArrAt_in w ho] at h
  exact h

/-- The seven arguments end as launched, and every counter at zero. -/
theorem frame : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) ∧ r.2.sem = fun _ => 0) :=
  (θ_run defs _ _).mono (fun r ⟨h, hz⟩ => ⟨fun c =>
    ⟨(arg_kept m c 0 rfl _ ((h c).1 0)).trans (V_main_arg0 m c), (arg_kept m c 1 rfl _ ((h c).1 1)).trans (V_main_arg1 m c),
      (arg_kept m c 2 rfl _ ((h c).1 2)).trans (V_main_arg2 m c), (h c).2.1, (arg_kept m c 3 rfl _ ((h c).1 3)).trans (V_main_arg4 m c),
      (h c).2.2.1, (h c).2.2.2⟩, hz⟩) (run_main m ρ)

end Cert.Kernel.Hand

end
-- ==== Proof.KernelIdeal.Block.lean ====
module

public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Memref `M`'s buffer on core `c`: its contents type. -/
abbrev Bf (F : FTy → Type) (c : Dev nD) {sp : Space} {S : Shape} {e : EltTy} (M : Memref sig .tc sp S e) : Type := Buf (Elt F) (M.view.loc (c : Thread nD τ))
/-- It held at share `q` at `f`. -/
abbrev ptq (c : Dev nD) {sp : Space} {S : Shape} {e : EltTy} (M : Memref sig .tc sp S e) (q : PosShare TreeShare) (f : Bf F c M) : sProp 𝕄 :=
  M.view.loc (c : Thread nD τ) ↦{q} f
/-- It held whole at `f`. -/
abbrev pt (c : Dev nD) {sp : Space} {S : Shape} {e : EltTy} (M : Memref sig .tc sp S e) (f : Bf F c M) : sProp 𝕄 :=
  M.view.loc (c : Thread nD τ) ↦{fullShare} f

/-- The kernel's own two DMA semaphores. -/
abbrev osem : Fin 2 → SemLoc sig := fun | 0 => .dma 22 | 1 => .dma 23

/-! What one block of the body computes, written once: the body repeats each of these for its two rows of the batch, the
keys and the values, the two halves of the tokens and the two halves of the heads. -/

/-- The index with the given numbers for coordinates, each taken modulo its extent. -/
def nidx (s : Shape) (h : ∀ a, 0 < s.size a) (v : Fin s.rank → ℕ) : s.Idx := fun a => ⟨v a % s.size a, Nat.mod_lt _ (h a)⟩

theorem nidx_eq (s : Shape) (h : ∀ a, 0 < s.size a) (v : Fin s.rank → ℕ) (y : s.Idx) (hv : ∀ a, v a = (y a).val) :
    nidx s h v = y := by
  funext a
  apply Fin.ext
  show v a % s.size a = (y a).val
  rw [hv a]
  exact Nat.mod_eq_of_lt (y a).isLt

/-- The scaled products of one block of values, in words of four heads. -/
def preV (xs : Vec F S1x128 .f32) (acc : Vec F S1x1x1x512x128 .f32) (ws : Vec F S1x512x128 .f32) : FVec F S4x16x8x128 .f32 :=
  k0_pay77 xs acc ws

/-- The normalised products of one block of keys. -/
def preK (xs : Vec F S1x128 .f32) (acc : Vec F S1x1x1x512x128 .f32) (ws g : Vec F S1x512x128 .f32) : FVec F S4x16x8x128 .f32 :=
  k0_pay44 (k0_pay42 xs acc ws) (k0_pay43 xs acc ws) g

/-- The greatest magnitude of each group of 32, divided by the greatest code. -/
def peak (y : FVec F S4x16x8x128 .f32) : FVec F S4x8x128 .f32 :=
  have v408 : FVec F S4x8x128 .f32 := multiReduction .maximumf [1] S4x8x128 (absf y) 0xFF800000#32 reduces_S4x16x8x128_S4x8x128 (.inl rfl) rfl
  have v409 : FVec F S4x8x128 .f32 := dynamicRotate 1 4#32 none v408 rotates_S4x8x128_d1
  have v410 : FVec F S4x8x128 .f32 := maximumf v408 v409
  have cst_277 : F .f32 := Scalar.ofBits .f32 0x3B124925#32
  have v411 : FVec F S4x8x128 .f32 := broadcast S4x8x128 cst_277
  mulf v410 v411

/-- The exponent of each group: how many powers of two lie at or below it. -/
def expo (v412 : FVec F S4x8x128 .f32) : IVec S4x8x128 32 :=
  have v413 : IVec S246x4x8x128 32 := iota .tc S246x4x8x128 32 [0] iota_S246x4x8x128_d0_w32
  have v414 : IVec S246x4x8x128 32 := broadcast S246x4x8x128 1#32
  have v415 : IVec S246x4x8x128 32 := addi v413 v414
  have v416 : FVec F S1x4x8x128 .f32 := shapeCast S1x4x8x128 v412 shapeCasts_S4x8x128_S1x4x8x128
  have v417 : IVec S246x4x8x128 32 := broadcast S246x4x8x128 23#32
  have v418 : IVec S246x4x8x128 32 := shli v415 v417
  have v419 : FVec F S246x4x8x128 .f32 := bitcastToFloat .f32 v418
  have v420 : FVec F S246x4x8x128 .f32 := broadcastTo S246x4x8x128 v416 broadcasts_S1x4x8x128_S246x4x8x128
  have v421 : IVec S246x4x8x128 1 := cmpf .oge v420 v419
  have v422 : IVec S246x4x8x128 32 := extui 32 v421 natLt_1_32
  have v423 : IVec S4x8x128 32 := multiReductionI .add [0] S4x8x128 v422 0#32 reduces_S246x4x8x128_S4x8x128 rfl
  have cst_280 : F .f32 := Scalar.ofBits .f32 0x7F800000#32
  have v424 : FVec F S4x8x128 .f32 := broadcast S4x8x128 cst_280
  have v425 : IVec S4x8x128 1 := cmpf .oeq v412 v424
  have v426 : IVec S4x8x128 32 := broadcast S4x8x128 255#32
  have v427 : IVec S4x8x128 32 := select v425 v426 v423
  have v428 : IVec S4x8x128 32 := broadcast S4x8x128 0#32
  have v429 : IVec S4x8x128 1 := cmpi .sgt v427 v428
  have v430 : IVec S4x8x128 32 := broadcast S4x8x128 255#32
  have v431 : IVec S4x8x128 1 := cmpi .slt v427 v430
  have v432 : IVec S4x8x128 1 := andi v429 v431
  have v433 : IVec S4x8x128 32 := broadcast S4x8x128 126#32
  have v434 : IVec S4x8x128 32 := subi v427 v433
  have v435 : IVec S4x8x128 32 := broadcast S4x8x128 0#32
  select v432 v434 v435

/-- The codes of one block. -/
def codeB (y : FVec F S4x16x8x128 .f32) : FVec F S1x1x128x4x128 .fp8e4m3 := k0_pay46 y (expo (peak y))

/-- The scale bytes of the two halves of the heads. -/
def scaleB (y0 y1 : FVec F S4x16x8x128 .f32) : IVec S1x1x8x4x128 8 :=
  have v379 : IVec S8x128 32 := iota .tc S8x128 32 [0] iota_S8x128_d0_w32
  have v580 : IVec S8x128 1 := cmpi .slt v379 (broadcast S8x128 4#32)
  have v581 : IVec S8x128 32 := select v580 (k0_pay47 (expo (peak y0))) (k0_pay47 (expo (peak y1)))
  have v582 : IVec S8x1x128 32 := shapeCast S8x1x128 v581 shapeCasts_S8x128_S8x1x128
  have v583 : IVec S8x4x128 8 := bitcast S8x4x128 8 v582 bitcasts_S8x1x128_w32_S8x4x128_w8
  shapeCast S1x1x8x4x128 v583 shapeCasts_S8x4x128_S1x1x8x4x128

/-- One row of token scales, half of a tile's tokens. -/
def xsB (x2 : Vec F S2x256 .f32) (b th : ℕ) : Vec F S1x128 .f32 :=
  fun j => x2 (nidx S2x256 (by decide) ![b, 128 * th + (j 1).val])

/-- One block of the accumulator. -/
def accB (G : Vec F S2x2x2x1024x256 .f32) (p b kv hq th : ℕ) : Vec F S1x1x1x512x128 .f32 :=
  fun j => G (nidx S2x2x2x1024x256 (by decide) ![p, b, kv, 512 * hq + (j 3).val, 128 * th + (j 4).val])

/-- One block of a row of scales, spread over the tokens. -/
def scB (x : Vec F S1x1x1024 .f32) (hq : ℕ) : Vec F S1x512x128 .f32 :=
  fun j => x (nidx S1x1x1024 (by decide) ![0, 0, 512 * hq + (j 1).val])

/-- The rows of the weights in one slot that the keys (or the values) take. -/
def wB (G : Vec F S2x2048x4096 .fp8e4m3) (p kv : ℕ) : Vec F S1x1024x4096 .fp8e4m3 :=
  fun j => G (nidx S2x2048x4096 (by decide) ![p, 1024 * kv + (j 1).val, (j 2).val])

/-- One row of the batch of the tile of tokens in one slot. -/
def xB (G : Vec F S2x2x256x4096 .fp8e4m3) (p b : ℕ) : Vec F S1x1x256x4096 .fp8e4m3 :=
  fun j => G (nidx S2x2x256x4096 (by decide) ![p, b, (j 2).val, (j 3).val])

/-- Where row `r` of the kernel's order of the weights lies in a block of weights: column, head, element. -/
def wsrc (x3 x4 : Vec F S1x256x8x128 .fp8e4m3) (r d : ℕ) : Elt F .fp8e4m3 :=
  (if r < 1024 then x3 else x4) (nidx S1x256x8x128 (by decide) ![0, d, r % 1024 / 512 * 4 + r % 4, r % 512 / 4])

/-- The same in the whole weights. -/
def wfull (f5 f6 : Vec F S10x4096x8x128 .fp8e4m3) (l r d : ℕ) : Elt F .fp8e4m3 :=
  (if r < 1024 then f5 else f6) (nidx S10x4096x8x128 (by decide) ![l, d, r % 1024 / 512 * 4 + r % 4, r % 512 / 4])

/-- The block of key codes. -/
def blkKc (x2 : Vec F S2x256 .f32) (G : Vec F S2x2x2x1024x256 .f32) (x7 x9 : Vec F S1x1x1024 .f32) (p b th hq : ℕ) :
    FVec F S4x16x8x128 .f32 :=
  preK (xsB x2 b th) (accB G p b 0 hq th) (scB x7 hq) (scB x9 hq)

/-- The block of value codes. -/
def blkVc (x2 : Vec F S2x256 .f32) (G : Vec F S2x2x2x1024x256 .f32) (x8 : Vec F S1x1x1024 .f32) (p b th hq : ℕ) :
    FVec F S4x16x8x128 .f32 :=
  preV (xsB x2 b th) (accB G p b 1 hq th) (scB x8 hq)

end Cert.KernelIdeal.Hand

end
-- ==== Proof.KernelIdeal.Rel.lean ====
module

public import proofs.«01_k».proof.Proof.KernelIdeal.Block

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What a run of the body leaves, of what it found: the tile of tokens and the chunk of weights it stores, the product it
takes, and the four blocks it writes from the product of the step before. -/
structure KRel (c : Dev nD) (i : grid0.Coords) (x1 : Vec F S2x256x4096 .fp8e4m3) (x2 : Vec F S2x256 .f32) (x3 : Vec F S1x256x8x128 .fp8e4m3) (x4 : Vec F S1x256x8x128 .fp8e4m3) (x7 : Vec F S1x1x1024 .f32) (x8 : Vec F S1x1x1024 .f32) (x9 : Vec F S1x1x1024 .f32)
    (f5 : Bf F c (Memref.whole main_arg2)) (f6 : Bf F c (Memref.whole main_arg4)) (f14 : Bf F c (Memref.whole cc0_scratch0)) (f15 : Bf F c (Memref.whole cc0_scratch1)) (f16 : Bf F c (Memref.whole cc0_scratch2))
    (X10 : Vec F S1x2x256x8x128 .fp8e4m3) (X11 : Vec F S1x2x8x4x256 .i8) (X12 : Vec F S1x2x256x8x128 .fp8e4m3) (X13 : Vec F S1x2x8x4x256 .i8)
    (g14 : Bf F c (Memref.whole cc0_scratch0)) (g15 : Bf F c (Memref.whole cc0_scratch1)) (g16 : Bf F c (Memref.whole cc0_scratch2)) : Prop where
  tile : ∀ y : S2x2x256x4096.Idx, (y 0).val = (i 0).val % 2 →
    (g15 : Vec F S2x2x256x4096 .fp8e4m3) y = x1 (nidx S2x256x4096 (by decide) ![(y 1).val, (y 2).val, (y 3).val])
  tile' : ∀ y : S2x2x256x4096.Idx, (y 0).val ≠ (i 0).val % 2 →
    (g15 : Vec F S2x2x256x4096 .fp8e4m3) y = (f15 : Vec F S2x2x256x4096 .fp8e4m3) y
  wts : ∀ y : S2x2048x4096.Idx, (y 0).val = (((i 0).val - 1) / 26 + 1) % 2 → (y 2).val / 256 = min (((i 0).val - 1) % 26) 15 →
    (g14 : Vec F S2x2048x4096 .fp8e4m3) y = wsrc x3 x4 (y 1).val ((y 2).val % 256)
  wts' : (i 0).val ≠ 0 → ∀ y : S2x2048x4096.Idx,
    ¬ ((y 0).val = (((i 0).val - 1) / 26 + 1) % 2 ∧ (y 2).val / 256 = min (((i 0).val - 1) % 26) 15) →
    (g14 : Vec F S2x2048x4096 .fp8e4m3) y = (f14 : Vec F S2x2048x4096 .fp8e4m3) y
  wts0 : (i 0).val = 0 → ∀ y : S2x2048x4096.Idx, (y 0).val = 0 →
    (g14 : Vec F S2x2048x4096 .fp8e4m3) y = wfull f5 f6 0 (y 1).val (y 2).val
  acc : ∀ y : S2x2x2x1024x256.Idx, (y 0).val = (i 0).val % 2 →
    (g16 : Vec F S2x2x2x1024x256 .f32) y = k0_pay38 (wB (g14 : Vec F S2x2048x4096 .fp8e4m3) ((((i 0).val - 1) / 26) % 2) (y 2).val)
      (xB (g15 : Vec F S2x2x256x4096 .fp8e4m3) (((i 0).val + 1) % 2) (y 1).val)
      (nidx S1x1x1x1024x256 (by decide) ![0, 0, 0, (y 3).val, (y 4).val])
  acc' : ∀ y : S2x2x2x1024x256.Idx, (y 0).val ≠ (i 0).val % 2 →
    (g16 : Vec F S2x2x2x1024x256 .f32) y = (f16 : Vec F S2x2x2x1024x256 .f32) y
  kc : ∀ y : S1x2x256x8x128.Idx, X10 y = codeB (blkKc x2 (g16 : Vec F S2x2x2x1024x256 .f32) x7 x9 (((i 0).val + 1) % 2) (y 1).val ((y 2).val / 128) ((y 3).val / 4))
      (nidx S1x1x128x4x128 (by decide) ![0, 0, (y 2).val % 128, (y 3).val % 4, (y 4).val])
  ksc : ∀ y : S1x2x8x4x256.Idx, X11 y = scaleB (blkKc x2 (g16 : Vec F S2x2x2x1024x256 .f32) x7 x9 (((i 0).val + 1) % 2) (y 1).val ((y 4).val / 128) 0)
      (blkKc x2 (g16 : Vec F S2x2x2x1024x256 .f32) x7 x9 (((i 0).val + 1) % 2) (y 1).val ((y 4).val / 128) 1)
      (nidx S1x1x8x4x128 (by decide) ![0, 0, (y 2).val, (y 3).val, (y 4).val % 128])
  vc : ∀ y : S1x2x256x8x128.Idx, X12 y = codeB (blkVc x2 (g16 : Vec F S2x2x2x1024x256 .f32) x8 (((i 0).val + 1) % 2) (y 1).val ((y 2).val / 128) ((y 3).val / 4))
      (nidx S1x1x128x4x128 (by decide) ![0, 0, (y 2).val % 128, (y 3).val % 4, (y 4).val])
  vsc : ∀ y : S1x2x8x4x256.Idx, X13 y = scaleB (blkVc x2 (g16 : Vec F S2x2x2x1024x256 .f32) x8 (((i 0).val + 1) % 2) (y 1).val ((y 4).val / 128) 0)
      (blkVc x2 (g16 : Vec F S2x2x2x1024x256 .f32) x8 (((i 0).val + 1) % 2) (y 1).val ((y 4).val / 128) 1)
      (nidx S1x1x8x4x128 (by decide) ![0, 0, (y 2).val, (y 3).val, (y 4).val % 128])

end Cert.KernelIdeal.Hand

end
-- ==== Proof.KernelIdeal.Stage.lean ====
module

public import proofs.«01_k».proof.Proof.KernelIdeal.Block
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! Where each window's block lies at a grid point, and what a fetch of it leaves in the window's staging buffer. -/

theorem ix0 : ∀ (i : grid0.Coords), cc0_transform_0 i = ![0, min (i 0).val 259 % 26, 0] := by decide +kernel
theorem ix1' : ∀ (i : grid0.Coords), cc0_transform_1 i = ![0, ((i 0).val - 2) % 26] := by decide +kernel
theorem ix2' : ∀ (i : grid0.Coords), cc0_transform_2 i = ![min (((i 0).val - 1) / 26 + 1) 9, min (((i 0).val - 1) % 26) 15, 0, 0] := by decide +kernel
theorem ix3' : ∀ (i : grid0.Coords), cc0_transform_3 i = ![min (((i 0).val - 1) / 26 + 1) 9, min (((i 0).val - 1) % 26) 15, 0, 0] := by decide +kernel
theorem ix6' : ∀ (i : grid0.Coords), cc0_transform_6 i = ![((i 0).val - 2) / 26, 0, 0] := by decide +kernel
theorem ix7' : ∀ (i : grid0.Coords), cc0_transform_7 i = ![((i 0).val - 2) / 26, 0, 0] := by decide +kernel
theorem ix8' : ∀ (i : grid0.Coords), cc0_transform_8 i = ![((i 0).val - 2) / 26, 0, 0] := by decide +kernel
theorem ix9' : ∀ (i : grid0.Coords), cc0_transform_9 i = ![((i 0).val - 2) / 26, 0, ((i 0).val - 2) % 26, 0, 0] := by decide +kernel
theorem ix10' : ∀ (i : grid0.Coords), cc0_transform_10 i = ![((i 0).val - 2) / 26, 0, 0, 0, ((i 0).val - 2) % 26] := by decide +kernel
theorem ix11' : ∀ (i : grid0.Coords), cc0_transform_11 i = ![((i 0).val - 2) / 26, 0, ((i 0).val - 2) % 26, 0, 0] := by decide +kernel
theorem ix12' : ∀ (i : grid0.Coords), cc0_transform_12 i = ![((i 0).val - 2) / 26, 0, 0, 0, ((i 0).val - 2) % 26] := by decide +kernel

theorem coords0 : ∀ t : Fin cfg0.N, ((grid0.coords t) 0).val = t.val := by decide +kernel

/-- Window `w`'s staging buffer as a fetch at point `t` fills it, over some earlier contents. -/
def Staged (m : (ℓ : Loc nD τ sig) → Buf (Elt F) ℓ) (c : Dev nD) (w : Fin cfg0.W) (t : Fin cfg0.N) (X : (cfg0.win w).block.Idx → Elt F (cfg0.win w).elt) : Prop :=
  ∃ d, X = (cfg0.win w).fill (cfg0.grid.coords t) d (iblk m c w t)

/-- An element the fetch moves is the array's, at the block's place. -/
theorem fill_at {sig : RefSig} {G : Pipeline.Grid} (w : Pipeline.Window sig G) {α : Type} (t : Fin G.N) (d : w.block.Idx → α) (A : w.shape.Idx → α)
    (y : w.block.Idx) (z : w.shape.Idx) (hk : w.kind = .blocked)
    (hy : ∀ a, (z a).val = w.index t a * w.size a + (y a).val)
    (hx : ∀ a, (y a).val < w.xsize (G.coords t) a) :
    w.fill (G.coords t) d (fun j => A ((w.rect t).emb j)) y = A z := by
  unfold Pipeline.Window.fill
  rw [dif_pos ((w.moved_iff _ _).mpr hx)]
  refine congrArg A (funext fun a => Fin.ext ?_)
  rw [w.rect_emb_val t _ a hk, hy a]

/-- How far a cut block reaches: to the array's end. -/
theorem lt_extent (ix k d y : ℕ) (hy : y < k) (h : ix * k + y < d) : y < (Pipeline.Clip.of ix k d).extent k := by
  unfold Pipeline.Clip.of
  split
  · exact hy
  · show y < d - ix * k
    omega

theorem staged0 (m : (ℓ : Loc nD τ sig) → Buf (Elt F) ℓ) (c : Dev nD) (t : Fin cfg0.N) (X : Vec F S2x256x4096 .fp8e4m3) (h : Staged m c 0 t X)
    (y : S2x256x4096.Idx) (hy : 256 * (min t.val 259 % 26) + (y 1).val < 6404) :
    X y = (V m c main_arg0 : Vec F S2x6404x4096 .fp8e4m3) (nidx S2x6404x4096 (by decide) ![(y 0).val, 256 * (min t.val 259 % 26) + (y 1).val, (y 2).val]) := by
  obtain ⟨d, rfl⟩ := h
  have h0 : (y 0).val < 2 := (y 0).isLt
  have h1 : (y 1).val < 256 := (y 1).isLt
  have h2 : (y 2).val < 4096 := (y 2).isLt
  have e : (cfg0.win 0).index t = ![0, min t.val 259 % 26, 0] := (ix0 _).trans (by rw [coords0])
  refine fill_at (cfg0.win 0) t d (V m c main_arg0 : Vec F S2x6404x4096 .fp8e4m3) y _ rfl (fun a => ?_) (fun a => ?_)
  · rw [e]
    fin_cases a
    · show (y 0).val % 2 = 0 * 2 + (y 0).val; omega
    · show (256 * (min t.val 259 % 26) + (y 1).val) % 6404 = (min t.val 259 % 26) * 256 + (y 1).val; omega
    · show (y 2).val % 4096 = 0 * 4096 + (y 2).val; omega
  · refine lt_extent _ _ _ _ (y a).isLt ?_
    show (cfg0.win 0).index t a * _ + _ < _
    rw [e]
    fin_cases a
    · show 0 * 2 + (y 0).val < 2; omega
    · show (min t.val 259 % 26) * 256 + (y 1).val < 6404; omega
    · show 0 * 4096 + (y 2).val < 4096; omega

theorem staged1 (m : (ℓ : Loc nD τ sig) → Buf (Elt F) ℓ) (c : Dev nD) (t : Fin cfg0.N) (X : Vec F S2x256 .f32) (h : Staged m c 1 t X)
    (y : S2x256.Idx) (hy : 256 * ((t.val - 2) % 26) + (y 1).val < 6404) :
    X y = (V m c main_arg1 : Vec F S2x6404 .f32) (nidx S2x6404 (by decide) ![(y 0).val, 256 * ((t.val - 2) % 26) + (y 1).val]) := by
  obtain ⟨d, rfl⟩ := h
  have h0 : (y 0).val < 2 := (y 0).isLt
  have h1 : (y 1).val < 256 := (y 1).isLt
  have e : (cfg0.win 1).index t = ![0, (t.val - 2) % 26] := (ix1' _).trans (by rw [coords0])
  refine fill_at (cfg0.win 1) t d (V m c main_arg1 : Vec F S2x6404 .f32) y _ rfl (fun a => ?_) (fun a => ?_)
  · rw [e]
    fin_cases a
    · show (y 0).val % 2 = 0 * 2 + (y 0).val; omega
    · show (256 * ((t.val - 2) % 26) + (y 1).val) % 6404 = ((t.val - 2) % 26) * 256 + (y 1).val; omega
  · refine lt_extent _ _ _ _ (y a).isLt ?_
    show (cfg0.win 1).index t a * _ + _ < _
    rw [e]
    fin_cases a
    · show 0 * 2 + (y 0).val < 2; omega
    · show ((t.val - 2) % 26) * 256 + (y 1).val < 6404; omega

theorem staged2 (m : (ℓ : Loc nD τ sig) → Buf (Elt F) ℓ) (c : Dev nD) (t : Fin cfg0.N) (X : Vec F S1x256x8x128 .fp8e4m3) (h : Staged m c 2 t X)
    (y : S1x256x8x128.Idx) :
    X y = (V m c main_arg2 : Vec F S10x4096x8x128 .fp8e4m3) (nidx S10x4096x8x128 (by decide)
      ![min ((t.val - 1) / 26 + 1) 9, 256 * (min ((t.val - 1) % 26) 15) + (y 1).val, (y 2).val, (y 3).val]) := by
  obtain ⟨d, rfl⟩ := h
  have h0 : (y 0).val < 1 := (y 0).isLt
  have h1 : (y 1).val < 256 := (y 1).isLt
  have h2 : (y 2).val < 8 := (y 2).isLt
  have h3 : (y 3).val < 128 := (y 3).isLt
  have e : (cfg0.win 2).index t = ![min ((t.val - 1) / 26 + 1) 9, min ((t.val - 1) % 26) 15, 0, 0] := (ix2' _).trans (by rw [coords0])
  refine fill_at (cfg0.win 2) t d (V m c main_arg2 : Vec F S10x4096x8x128 .fp8e4m3) y _ rfl (fun a => ?_) (fun a => (y a).isLt)
  rw [e]
  fin_cases a
  · show (min ((t.val - 1) / 26 + 1) 9) % 10 = (min ((t.val - 1) / 26 + 1) 9) * 1 + (y 0).val; omega
  · show (256 * (min ((t.val - 1) % 26) 15) + (y 1).val) % 4096 = (min ((t.val - 1) % 26) 15) * 256 + (y 1).val; omega
  · show (y 2).val % 8 = 0 * 8 + (y 2).val; omega
  · show (y 3).val % 128 = 0 * 128 + (y 3).val; omega

theorem staged3 (m : (ℓ : Loc nD τ sig) → Buf (Elt F) ℓ) (c : Dev nD) (t : Fin cfg0.N) (X : Vec F S1x256x8x128 .fp8e4m3) (h : Staged m c 3 t X)
    (y : S1x256x8x128.Idx) :
    X y = (V m c main_arg4 : Vec F S10x4096x8x128 .fp8e4m3) (nidx S10x4096x8x128 (by decide)
      ![min ((t.val - 1) / 26 + 1) 9, 256 * (min ((t.val - 1) % 26) 15) + (y 1).val, (y 2).val, (y 3).val]) := by
  obtain ⟨d, rfl⟩ := h
  have h0 : (y 0).val < 1 := (y 0).isLt
  have h1 : (y 1).val < 256 := (y 1).isLt
  have h2 : (y 2).val < 8 := (y 2).isLt
  have h3 : (y 3).val < 128 := (y 3).isLt
  have e : (cfg0.win 3).index t = ![min ((t.val - 1) / 26 + 1) 9, min ((t.val - 1) % 26) 15, 0, 0] := (ix3' _).trans (by rw [coords0])
  refine fill_at (cfg0.win 3) t d (V m c main_arg4 : Vec F S10x4096x8x128 .fp8e4m3) y _ rfl (fun a => ?_) (fun a => (y a).isLt)
  rw [e]
  fin_cases a
  · show (min ((t.val - 1) / 26 + 1) 9) % 10 = (min ((t.val - 1) / 26 + 1) 9) * 1 + (y 0).val; omega
  · show (256 * (min ((t.val - 1) % 26) 15) + (y 1).val) % 4096 = (min ((t.val - 1) % 26) 15) * 256 + (y 1).val; omega
  · show (y 2).val % 8 = 0 * 8 + (y 2).val; omega
  · show (y 3).val % 128 = 0 * 128 + (y 3).val; omega

theorem staged4 (m : (ℓ : Loc nD τ sig) → Buf (Elt F) ℓ) (c : Dev nD) (t : Fin cfg0.N) (X : Vec F S1x1x1024 .f32) (h : Staged m c 4 t X)
    (y : S1x1x1024.Idx) :
    X y = (V m c main_v4 : Vec F S10x1x1024 .f32) (nidx S10x1x1024 (by decide) ![(t.val - 2) / 26, 0, (y 2).val]) := by
  obtain ⟨d, rfl⟩ := h
  have h0 : (y 0).val < 1 := (y 0).isLt
  have h1 : (y 1).val < 1 := (y 1).isLt
  have h2 : (y 2).val < 1024 := (y 2).isLt
  have ht : t.val < 262 := t.isLt
  have e : (cfg0.win 4).index t = ![(t.val - 2) / 26, 0, 0] := (ix6' _).trans (by rw [coords0])
  refine fill_at (cfg0.win 4) t d (V m c main_v4 : Vec F S10x1x1024 .f32) y _ rfl (fun a => ?_) (fun a => (y a).isLt)
  rw [e]
  fin_cases a
  · show ((t.val - 2) / 26) % 10 = ((t.val - 2) / 26) * 1 + (y 0).val; omega
  · show 0 % 1 = 0 * 1 + (y 1).val; omega
  · show (y 2).val % 1024 = 0 * 1024 + (y 2).val; omega

theorem staged5 (m : (ℓ : Loc nD τ sig) → Buf (Elt F) ℓ) (c : Dev nD) (t : Fin cfg0.N) (X : Vec F S1x1x1024 .f32) (h : Staged m c 5 t X)
    (y : S1x1x1024.Idx) :
    X y = (V m c main_v7 : Vec F S10x1x1024 .f32) (nidx S10x1x1024 (by decide) ![(t.val - 2) / 26, 0, (y 2).val]) := by
  obtain ⟨d, rfl⟩ := h
  have h0 : (y 0).val < 1 := (y 0).isLt
  have h1 : (y 1).val < 1 := (y 1).isLt
  have h2 : (y 2).val < 1024 := (y 2).isLt
  have ht : t.val < 262 := t.isLt
  have e : (cfg0.win 5).index t = ![(t.val - 2) / 26, 0, 0] := (ix7' _).trans (by rw [coords0])
  refine fill_at (cfg0.win 5) t d (V m c main_v7 : Vec F S10x1x1024 .f32) y _ rfl (fun a => ?_) (fun a => (y a).isLt)
  rw [e]
  fin_cases a
  · show ((t.val - 2) / 26) % 10 = ((t.val - 2) / 26) * 1 + (y 0).val; omega
  · show 0 % 1 = 0 * 1 + (y 1).val; omega
  · show (y 2).val % 1024 = 0 * 1024 + (y 2).val; omega

theorem staged6 (m : (ℓ : Loc nD τ sig) → Buf (Elt F) ℓ) (c : Dev nD) (t : Fin cfg0.N) (X : Vec F S1x1x1024 .f32) (h : Staged m c 6 t X)
    (y : S1x1x1024.Idx) :
    X y = (V m c main_v10 : Vec F S10x1x1024 .f32) (nidx S10x1x1024 (by decide) ![(t.val - 2) / 26, 0, (y 2).val]) := by
  obtain ⟨d, rfl⟩ := h
  have h0 : (y 0).val < 1 := (y 0).isLt
  have h1 : (y 1).val < 1 := (y 1).isLt
  have h2 : (y 2).val < 1024 := (y 2).isLt
  have ht : t.val < 262 := t.isLt
  have e : (cfg0.win 6).index t = ![(t.val - 2) / 26, 0, 0] := (ix8' _).trans (by rw [coords0])
  refine fill_at (cfg0.win 6) t d (V m c main_v10 : Vec F S10x1x1024 .f32) y _ rfl (fun a => ?_) (fun a => (y a).isLt)
  rw [e]
  fin_cases a
  · show ((t.val - 2) / 26) % 10 = ((t.val - 2) / 26) * 1 + (y 0).val; omega
  · show 0 % 1 = 0 * 1 + (y 1).val; omega
  · show (y 2).val % 1024 = 0 * 1024 + (y 2).val; omega

/-- The chunk of weights the windows hold is that of the whole weights. -/
theorem wsrc_staged (m : (ℓ : Loc nD τ sig) → Buf (Elt F) ℓ) (c : Dev nD) (t : Fin cfg0.N) (x3 x4 : Vec F S1x256x8x128 .fp8e4m3)
    (h3 : Staged m c 2 t x3) (h4 : Staged m c 3 t x4) (r d l e : ℕ) (hl : l = min ((t.val - 1) / 26 + 1) 9)
    (he : e / 256 = min ((t.val - 1) % 26) 15) (hd : d = e % 256) :
    wsrc x3 x4 r d = wfull (V m c main_arg2) (V m c main_arg4) l r e := by
  have hd' : d < 256 := by omega
  have he' : e < 4096 := by omega
  have key : (nidx S10x4096x8x128 (by decide) ![min ((t.val - 1) / 26 + 1) 9,
      256 * (min ((t.val - 1) % 26) 15) + d % 256, (r % 1024 / 512 * 4 + r % 4) % 8, r % 512 / 4 % 128] : S10x4096x8x128.Idx)
      = nidx S10x4096x8x128 (by decide) ![l, e, r % 1024 / 512 * 4 + r % 4, r % 512 / 4] := by
    funext a
    apply Fin.ext
    fin_cases a
    · show (min ((t.val - 1) / 26 + 1) 9) % 10 = l % 10; omega
    · show (256 * (min ((t.val - 1) % 26) 15) + d % 256) % 4096 = e % 4096; omega
    · show (r % 1024 / 512 * 4 + r % 4) % 8 % 8 = (r % 1024 / 512 * 4 + r % 4) % 8; omega
    · show r % 512 / 4 % 128 % 128 = r % 512 / 4 % 128; omega
  unfold wsrc wfull
  split
  · exact (staged2 m c t x3 h3 _).trans (congrArg (V m c main_arg2 : Vec F S10x4096x8x128 .fp8e4m3) key)
  · exact (staged3 m c t x4 h4 _).trans (congrArg (V m c main_arg4 : Vec F S10x4096x8x128 .fp8e4m3) key)

end Cert.KernelIdeal.Hand

end
-- ==== Proof.KernelIdeal.Spec.lean ====
module

public import proofs.«01_k».proof.Proof.KernelIdeal.Rel
public import proofs.«01_k».proof.Proof.KernelIdeal.Stage

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Tile `k` of the tokens, as far as it lies inside the array. -/
def XV (m : (ℓ : Loc nD τ sig) → Buf (Elt F) ℓ) (c : Dev nD) (k : ℕ) (X : Vec F S2x256x4096 .fp8e4m3) : Prop :=
  ∀ y : S2x256x4096.Idx, 256 * k + (y 1).val < 6404 →
    X y = (V m c main_arg0 : Vec F S2x6404x4096 .fp8e4m3) (nidx S2x6404x4096 (by decide) ![(y 0).val, 256 * k + (y 1).val, (y 2).val])

/-- Tile `k` of the token scales, as far as it lies inside the array. -/
def SV (m : (ℓ : Loc nD τ sig) → Buf (Elt F) ℓ) (c : Dev nD) (k : ℕ) (X : Vec F S2x256 .f32) : Prop :=
  ∀ y : S2x256.Idx, 256 * k + (y 1).val < 6404 →
    X y = (V m c main_arg1 : Vec F S2x6404 .f32) (nidx S2x6404 (by decide) ![(y 0).val, 256 * k + (y 1).val])

/-- The keys' (or the values') rows of layer `l` of the weights. -/
def WB (m : (ℓ : Loc nD τ sig) → Buf (Elt F) ℓ) (c : Dev nD) (l kv : ℕ) : Vec F S1x1024x4096 .fp8e4m3 :=
  fun j => wfull (V m c main_arg2) (V m c main_arg4) l (1024 * kv + (j 1).val) (j 2).val

/-- One row of the batch of a tile of tokens. -/
def XB (X : Vec F S2x256x4096 .fp8e4m3) (b : ℕ) : Vec F S1x1x256x4096 .fp8e4m3 :=
  fun j => X (nidx S2x256x4096 (by decide) ![b, (j 2).val, (j 3).val])

/-- The products of layer `l` of the weights and a tile of tokens. -/
def accG (m : (ℓ : Loc nD τ sig) → Buf (Elt F) ℓ) (c : Dev nD) (l : ℕ) (X : Vec F S2x256x4096 .fp8e4m3) : Vec F S2x2x2x1024x256 .f32 :=
  fun y => k0_pay38 (WB m c l (y 2).val) (XB X (y 1).val) (nidx S1x1x1x1024x256 (by decide) ![0, 0, 0, (y 3).val, (y 4).val])

/-- Layer `l`'s row of scales. -/
def rowS (A : Vec F S10x1x1024 .f32) (l : ℕ) : Vec F S1x1x1024 .f32 := fun j => A (nidx S10x1x1024 (by decide) ![l, 0, (j 2).val])

/-- What the scratch buffers hold before point `t`: the layer of weights in use, as much of the next layer as is laid out, the
tile of tokens last stored and the products last taken. -/
structure Inv (m : (ℓ : Loc nD τ sig) → Buf (Elt F) ℓ) (c : Dev nD) (t : ℕ) (g14 : Bf F c (Memref.whole cc0_scratch0)) (g15 : Bf F c (Memref.whole cc0_scratch1)) (g16 : Bf F c (Memref.whole cc0_scratch2)) : Prop where
  cur : 1 ≤ t → t ≤ 260 → ∀ y : S2x2048x4096.Idx, (y 0).val = (t - 1) / 26 % 2 →
    (g14 : Vec F S2x2048x4096 .fp8e4m3) y = wfull (V m c main_arg2) (V m c main_arg4) ((t - 1) / 26) (y 1).val (y 2).val
  next : 1 ≤ t → t ≤ 260 → ∀ y : S2x2048x4096.Idx, (y 0).val = ((t - 1) / 26 + 1) % 2 → (y 2).val / 256 < min ((t - 1) % 26) 16 →
    (g14 : Vec F S2x2048x4096 .fp8e4m3) y = wfull (V m c main_arg2) (V m c main_arg4) (min ((t - 1) / 26 + 1) 9) (y 1).val (y 2).val
  tok : 1 ≤ t → ∃ X, XV m c (min (t - 1) 259 % 26) X ∧ ∀ y : S2x2x256x4096.Idx, (y 0).val = (t + 1) % 2 →
    (g15 : Vec F S2x2x256x4096 .fp8e4m3) y = X (nidx S2x256x4096 (by decide) ![(y 1).val, (y 2).val, (y 3).val])
  prod : 2 ≤ t → t ≤ 261 → ∃ X, XV m c ((t - 2) % 26) X ∧ ∀ y : S2x2x2x1024x256.Idx, (y 0).val = (t + 1) % 2 →
    (g16 : Vec F S2x2x2x1024x256 .f32) y = accG m c ((t - 2) / 26) X y

/-- The block of a layer's keys for a tile of tokens, before it is coded. -/
def KB (m : (ℓ : Loc nD τ sig) → Buf (Elt F) ℓ) (c : Dev nD) (l : ℕ) (X : Vec F S2x256x4096 .fp8e4m3) (xs : Vec F S2x256 .f32) (b th hq : ℕ) : FVec F S4x16x8x128 .f32 :=
  blkKc xs (accG m c l X) (rowS (V m c main_v4) l) (rowS (V m c main_v10) l) 0 b th hq

/-- The block of a layer's values for a tile of tokens, before it is coded. -/
def VB (m : (ℓ : Loc nD τ sig) → Buf (Elt F) ℓ) (c : Dev nD) (l : ℕ) (X : Vec F S2x256x4096 .fp8e4m3) (xs : Vec F S2x256 .f32) (b th hq : ℕ) : FVec F S4x16x8x128 .f32 :=
  blkVc xs (accG m c l X) (rowS (V m c main_v7) l) 0 b th hq

/-- A staging buffer of codes holds the codes of the blocks `B`. -/
def Codes (B : ℕ → ℕ → ℕ → FVec F S4x16x8x128 .f32) (Y : Vec F S1x2x256x8x128 .fp8e4m3) : Prop :=
  ∀ y : S1x2x256x8x128.Idx, Y y = codeB (B (y 1).val ((y 2).val / 128) ((y 3).val / 4))
      (nidx S1x1x128x4x128 (by decide) ![0, 0, (y 2).val % 128, (y 3).val % 4, (y 4).val])

/-- A staging buffer of scales holds the scale bytes of the blocks `B`. -/
def Scales (B : ℕ → ℕ → ℕ → FVec F S4x16x8x128 .f32) (Y : Vec F S1x2x8x4x256 .i8) : Prop :=
  ∀ y : S1x2x8x4x256.Idx, Y y = scaleB (B (y 1).val ((y 4).val / 128) 0) (B (y 1).val ((y 4).val / 128) 1)
      (nidx S1x1x8x4x128 (by decide) ![0, 0, (y 2).val, (y 3).val, (y 4).val % 128])

/-- Point `t`'s tile of tokens and of token scales, with what is said of the blocks made of them. -/
def AtTile (m : (ℓ : Loc nD τ sig) → Buf (Elt F) ℓ) (c : Dev nD) (t : ℕ) (P : Vec F S2x256x4096 .fp8e4m3 → Vec F S2x256 .f32 → Prop) : Prop :=
  2 ≤ t → ∃ X xs, XV m c ((t - 2) % 26) X ∧ SV m c ((t - 2) % 26) xs ∧ P X xs

/-- What the body leaves in output window `w`'s staging buffer at point `t`. -/
def Out (m : (ℓ : Loc nD τ sig) → Buf (Elt F) ℓ) (c : Dev nD) (w : Fin cfg0.W) (t : Fin cfg0.N) (X : (cfg0.win w).block.Idx → Elt F (cfg0.win w).elt) : Prop :=
  (∀ h : w = 7, AtTile m c t.val fun Xt xs => Codes (KB m c ((t.val - 2) / 26) Xt xs) (cast (by subst h; rfl) X)) ∧
  (∀ h : w = 8, AtTile m c t.val fun Xt xs => Scales (KB m c ((t.val - 2) / 26) Xt xs) (cast (by subst h; rfl) X)) ∧
  (∀ h : w = 9, AtTile m c t.val fun Xt xs => Codes (VB m c ((t.val - 2) / 26) Xt xs) (cast (by subst h; rfl) X)) ∧
  (∀ h : w = 10, AtTile m c t.val fun Xt xs => Scales (VB m c ((t.val - 2) / 26) Xt xs) (cast (by subst h; rfl) X))

/-- Nothing is asked of the scratch buffers before the first point. -/
theorem inv_zero (m : (ℓ : Loc nD τ sig) → Buf (Elt F) ℓ) (c : Dev nD) (g14 : Bf F c (Memref.whole cc0_scratch0)) (g15 : Bf F c (Memref.whole cc0_scratch1)) (g16 : Bf F c (Memref.whole cc0_scratch2)) : Inv m c 0 g14 g15 g16 :=
  ⟨fun h => absurd h (by decide), fun h => absurd h (by decide), fun h => absurd h (by decide), fun h => absurd h (by decide)⟩

/-- A block of the accumulator is a block of the products its slot holds. -/
theorem accB_slot (m : (ℓ : Loc nD τ sig) → Buf (Elt F) ℓ) (c : Dev nD) (G : Vec F S2x2x2x1024x256 .f32) (p l : ℕ) (X : Vec F S2x256x4096 .fp8e4m3) (hp : p < 2)
    (h : ∀ y : S2x2x2x1024x256.Idx, (y 0).val = p → G y = accG m c l X y) (b kv hq th : ℕ) :
    accB G p b kv hq th = accB (accG m c l X) 0 b kv hq th := by
  funext j
  exact h _ (Nat.mod_eq_of_lt hp)

theorem row4 (m : (ℓ : Loc nD τ sig) → Buf (Elt F) ℓ) (c : Dev nD) (t : Fin cfg0.N) (x : Vec F S1x1x1024 .f32) (h : Staged m c 4 t x) : x = rowS (V m c main_v4) ((t.val - 2) / 26) :=
  funext fun y => staged4 m c t x h y
theorem row5 (m : (ℓ : Loc nD τ sig) → Buf (Elt F) ℓ) (c : Dev nD) (t : Fin cfg0.N) (x : Vec F S1x1x1024 .f32) (h : Staged m c 5 t x) : x = rowS (V m c main_v7) ((t.val - 2) / 26) :=
  funext fun y => staged5 m c t x h y
theorem row6 (m : (ℓ : Loc nD τ sig) → Buf (Elt F) ℓ) (c : Dev nD) (t : Fin cfg0.N) (x : Vec F S1x1x1024 .f32) (h : Staged m c 6 t x) : x = rowS (V m c main_v10) ((t.val - 2) / 26) :=
  funext fun y => staged6 m c t x h y

/-- One point: the invariant is kept, and the outputs' staging buffers are left as stated. -/
theorem inv_step (m : (ℓ : Loc nD τ sig) → Buf (Elt F) ℓ) (c : Dev nD) (t : Fin cfg0.N) (x1 : Vec F S2x256x4096 .fp8e4m3) (x2 : Vec F S2x256 .f32) (x3 : Vec F S1x256x8x128 .fp8e4m3) (x4 : Vec F S1x256x8x128 .fp8e4m3) (x7 : Vec F S1x1x1024 .f32) (x8 : Vec F S1x1x1024 .f32) (x9 : Vec F S1x1x1024 .f32)
    (f14 : Bf F c (Memref.whole cc0_scratch0)) (f15 : Bf F c (Memref.whole cc0_scratch1)) (f16 : Bf F c (Memref.whole cc0_scratch2))
    (X10 : Vec F S1x2x256x8x128 .fp8e4m3) (X11 : Vec F S1x2x8x4x256 .i8) (X12 : Vec F S1x2x256x8x128 .fp8e4m3) (X13 : Vec F S1x2x8x4x256 .i8)
    (g14 : Bf F c (Memref.whole cc0_scratch0)) (g15 : Bf F c (Memref.whole cc0_scratch1)) (g16 : Bf F c (Memref.whole cc0_scratch2))
    (h1 : Staged m c 0 t x1) (h2 : Staged m c 1 t x2) (h3 : Staged m c 2 t x3) (h4 : Staged m c 3 t x4) (h7 : Staged m c 4 t x7) (h8 : Staged m c 5 t x8) (h9 : Staged m c 6 t x9)
    (hf : Inv m c t.val f14 f15 f16)
    (hk : KRel c (grid0.coords t) x1 x2 x3 x4 x7 x8 x9 (V m c main_arg2) (V m c main_arg4) f14 f15 f16 X10 X11 X12 X13 g14 g15 g16) :
    Inv m c (t.val + 1) g14 g15 g16 ∧ Out m c 7 t X10 ∧ Out m c 8 t X11 ∧ Out m c 9 t X12 ∧ Out m c 10 t X13 := by
  have hi : ((grid0.coords t) 0).val = t.val := coords0 t
  have ht : t.val < 262 := t.isLt
  obtain ⟨ktile, ktile', kwts, kwts', kwts0, kacc, kacc', kkc, kksc, kvc, kvsc⟩ := hk
  rw [hi] at ktile ktile' kwts kwts' kwts0 kacc kacc' kkc kksc kvc kvsc
  have hw : ∀ y : S2x2048x4096.Idx, (y 0).val = ((t.val - 1) / 26 + 1) % 2 → (y 2).val / 256 = min ((t.val - 1) % 26) 15 →
      (g14 : Vec F S2x2048x4096 .fp8e4m3) y = wfull (V m c main_arg2) (V m c main_arg4) (min ((t.val - 1) / 26 + 1) 9) (y 1).val (y 2).val :=
    fun y e0 e2 => (kwts y e0 e2).trans (wsrc_staged m c t x3 x4 h3 h4 _ _ _ _ rfl e2 rfl)
  have hx2 : SV m c ((t.val - 2) % 26) x2 := fun y hy => staged1 m c t x2 h2 y hy
  have e7 := row4 m c t x7 h7
  have e8 := row5 m c t x8 h8
  have e9 := row6 m c t x9 h9
  have out : ∀ P : Vec F S2x256x4096 .fp8e4m3 → Vec F S2x256 .f32 → Prop,
      (∀ X, (∀ b kv hq th, accB (g16 : Vec F S2x2x2x1024x256 .f32) ((t.val + 1) % 2) b kv hq th = accB (accG m c ((t.val - 2) / 26) X) 0 b kv hq th) → P X x2) →
      AtTile m c t.val P := by
    intro P hP h2t
    obtain ⟨X, hX, hA⟩ := hf.prod h2t (by omega)
    refine ⟨X, x2, hX, hx2, hP X fun b kv hq th => accB_slot m c _ _ _ X (by omega) (fun y hy => ?_) b kv hq th⟩
    exact (kacc' y (by omega)).trans (hA y hy)
  refine ⟨⟨fun _ ht1 y e0 => ?_, fun _ ht1 y e0 e2 => ?_, fun _ => ⟨x1, ?_, fun y e0 => ?_⟩, fun ht1 ht2 => ?_⟩,
    ⟨fun _ => out _ fun X hX y => ?_, fun h => absurd h (by decide), fun h => absurd h (by decide), fun h => absurd h (by decide)⟩,
    ⟨fun h => absurd h (by decide), fun _ => out _ fun X hX y => ?_, fun h => absurd h (by decide), fun h => absurd h (by decide)⟩,
    ⟨fun h => absurd h (by decide), fun h => absurd h (by decide), fun _ => out _ fun X hX y => ?_, fun h => absurd h (by decide)⟩,
    ⟨fun h => absurd h (by decide), fun h => absurd h (by decide), fun h => absurd h (by decide), fun _ => out _ fun X hX y => ?_⟩⟩
  · have hy2 : (y 2).val < 4096 := (y 2).isLt
    rw [Nat.add_sub_cancel] at e0 ⊢
    by_cases h0 : t.val = 0
    · refine (kwts0 h0 y (by omega)).trans ?_
      rw [h0]
    · by_cases hm : t.val % 26 = 0
      · by_cases hc : (y 2).val / 256 = 15
        · refine (hw y (by omega) (by omega)).trans ?_
          rw [show min ((t.val - 1) / 26 + 1) 9 = t.val / 26 by omega]
        · refine (kwts' h0 y (by omega)).trans ((hf.next (by omega) (by omega) y (by omega) (by omega)).trans ?_)
          rw [show min ((t.val - 1) / 26 + 1) 9 = t.val / 26 by omega]
      · refine (kwts' h0 y (by omega)).trans ((hf.cur (by omega) (by omega) y (by omega)).trans ?_)
        rw [show (t.val - 1) / 26 = t.val / 26 by omega]
  · rw [Nat.add_sub_cancel] at e0 e2 ⊢
    by_cases hc : (y 2).val / 256 = min ((t.val - 1) % 26) 15
    · refine (hw y (by omega) hc).trans ?_
      rw [show (t.val - 1) / 26 = t.val / 26 by omega]
    · refine (kwts' (by omega) y (by omega)).trans ((hf.next (by omega) (by omega) y (by omega) (by omega)).trans ?_)
      rw [show (t.val - 1) / 26 = t.val / 26 by omega]
  · rw [Nat.add_sub_cancel]
    exact fun y hy => staged0 m c t x1 h1 y hy
  · exact ktile y (by omega)
  · obtain ⟨X, hX, hT⟩ := hf.tok (by omega)
    rw [show min (t.val - 1) 259 = t.val - 1 by omega] at hX
    refine ⟨X, ?_, fun y e0 => (kacc y (by omega)).trans ?_⟩
    · rw [show t.val + 1 - 2 = t.val - 1 by omega]; exact hX
    · rw [show t.val + 1 - 2 = t.val - 1 by omega]
      have hy1 : (y 1).val < 2 := (y 1).isLt
      have hy2 : (y 2).val < 2 := (y 2).isLt
      have eW : wB (g14 : Vec F S2x2048x4096 .fp8e4m3) (((t.val - 1) / 26) % 2) (y 2).val = WB m c ((t.val - 1) / 26) (y 2).val := by
        funext j
        have hj1 : (j 1).val < 1024 := (j 1).isLt
        have hj2 : (j 2).val < 4096 := (j 2).isLt
        have q0 : (nidx S2x2048x4096 (by decide) ![((t.val - 1) / 26) % 2, 1024 * (y 2).val + (j 1).val, (j 2).val] 0).val = ((t.val - 1) / 26) % 2 := by
          show ((t.val - 1) / 26) % 2 % 2 = _; omega
        refine (kwts' (by omega) _ (by omega)).trans ((hf.cur (by omega) (by omega) _ q0).trans ?_)
        refine congrArg₂ (wfull (V m c main_arg2) (V m c main_arg4) ((t.val - 1) / 26)) ?_ ?_
        · show (1024 * (y 2).val + (j 1).val) % 2048 = _; omega
        · show (j 2).val % 4096 = _; omega
      have eX : xB (g15 : Vec F S2x2x256x4096 .fp8e4m3) ((t.val + 1) % 2) (y 1).val = XB X (y 1).val := by
        funext j
        have hj2 : (j 2).val < 256 := (j 2).isLt
        have hj3 : (j 3).val < 4096 := (j 3).isLt
        have q0 : (nidx S2x2x256x4096 (by decide) ![(t.val + 1) % 2, (y 1).val, (j 2).val, (j 3).val] 0).val = (t.val + 1) % 2 := by
          show (t.val + 1) % 2 % 2 = _; omega
        refine (ktile' _ (by omega)).trans ((hT _ q0).trans (congrArg X ?_))
        funext a
        apply Fin.ext
        fin_cases a
        · show (y 1).val % 2 % 2 = (y 1).val % 2; omega
        · show (j 2).val % 256 % 256 = (j 2).val % 256; omega
        · show (j 3).val % 4096 % 4096 = (j 3).val % 4096; omega
      rw [eW, eX]
      rfl
  · refine (kkc y).trans ?_
    unfold KB blkKc
    rw [hX, e7, e9]
  · refine (kksc y).trans ?_
    unfold KB blkKc
    rw [hX, hX, e7, e9]
  · refine (kvc y).trans ?_
    unfold VB blkVc
    rw [hX, e8]
  · refine (kvsc y).trans ?_
    unfold VB blkVc
    rw [hX, hX, e8]

end Cert.KernelIdeal.Hand

end
-- ==== Proof.KernelIdeal.Lists.lean ====
module

public import proofs.«01_k».proof.Proof.KernelIdeal.Rel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable {sg : RefSig} {κ : Kind} {sp : Space} {e : EltTy} {Val : EltTy → Type}

/-- One block of codes at its place in the output block. -/
theorem code_place (blk : ℕ → ℕ → ℕ → S1x1x128x4x128.Idx → Val e) (b th hq : ℕ) (hb : b < 2) (ht : th < 2) (hh : hq < 2)
    (off : Fin 5 → ℕ) (ho : off = ![0, b, 128 * th, 4 * hq, 0])
    (inb : ∀ a, off a + S1x1x128x4x128.size a ≤ S1x2x256x8x128.size a) (p : S1x1x128x4x128.Idx → Val e) (hp : p = blk b th hq)
    (x : (Rect.unit (s := S1x2x256x8x128) off S1x1x128x4x128.size inb).shape.Idx) :
    p x = (fun y : S1x2x256x8x128.Idx => blk (y 1).val ((y 2).val / 128) ((y 3).val / 4)
      (nidx S1x1x128x4x128 (by decide) ![0, 0, (y 2).val % 128, (y 3).val % 4, (y 4).val]))
      ((Rect.unit (s := S1x2x256x8x128) off S1x1x128x4x128.size inb).emb x) := by
  subst ho hp
  have h0 : (x 0).val < 1 := (x 0).isLt
  have h1 : (x 1).val < 1 := (x 1).isLt
  have h2 : (x 2).val < 128 := (x 2).isLt
  have h3 : (x 3).val < 4 := (x 3).isLt
  have e1 : (((Rect.unit (s := S1x2x256x8x128) ![0, b, 128 * th, 4 * hq, 0] S1x1x128x4x128.size inb).emb x) 1).val = b := by
    show b + 1 * (x 1).val = b
    omega
  have e2 : (((Rect.unit (s := S1x2x256x8x128) ![0, b, 128 * th, 4 * hq, 0] S1x1x128x4x128.size inb).emb x) 2).val = 128 * th + (x 2).val := by
    show 128 * th + 1 * (x 2).val = _
    omega
  have e3 : (((Rect.unit (s := S1x2x256x8x128) ![0, b, 128 * th, 4 * hq, 0] S1x1x128x4x128.size inb).emb x) 3).val = 4 * hq + (x 3).val := by
    show 4 * hq + 1 * (x 3).val = _
    omega
  have e4 : (((Rect.unit (s := S1x2x256x8x128) ![0, b, 128 * th, 4 * hq, 0] S1x1x128x4x128.size inb).emb x) 4).val = (x 4).val := by
    show 0 + 1 * (x 4).val = _
    omega
  show _ = blk _ _ _ (nidx _ _ _)
  rw [e1, e2, e3, e4, show (128 * th + (x 2).val) / 128 = th by omega, show (4 * hq + (x 3).val) / 4 = hq by omega,
    show (128 * th + (x 2).val) % 128 = (x 2).val by omega, show (4 * hq + (x 3).val) % 4 = (x 3).val by omega]
  congr 1
  refine (nidx_eq _ _ _ _ ?_).symm
  intro a
  fin_cases a
  · show 0 = (x 0).val; omega
  · show 0 = (x 1).val; omega
  · rfl
  · rfl
  · rfl

/-- Eight blocks of codes make the output block. -/
theorem codes_written (v : View sg κ sp S1x2x256x8x128 e) (f : v.ty.Contents Val)
    (blk : ℕ → ℕ → ℕ → S1x1x128x4x128.Idx → Val e)
    {i1 : ∀ a, (![0, 1, 128, 4, 0] : Fin 5 → ℕ) a + S1x1x128x4x128.size a ≤ S1x2x256x8x128.size a}
    {i2 : ∀ a, (![0, 1, 128, 0, 0] : Fin 5 → ℕ) a + S1x1x128x4x128.size a ≤ S1x2x256x8x128.size a}
    {i3 : ∀ a, (![0, 1, 0, 4, 0] : Fin 5 → ℕ) a + S1x1x128x4x128.size a ≤ S1x2x256x8x128.size a}
    {i4 : ∀ a, (![0, 1, 0, 0, 0] : Fin 5 → ℕ) a + S1x1x128x4x128.size a ≤ S1x2x256x8x128.size a}
    {i5 : ∀ a, (![0, 0, 128, 4, 0] : Fin 5 → ℕ) a + S1x1x128x4x128.size a ≤ S1x2x256x8x128.size a}
    {i6 : ∀ a, (![0, 0, 128, 0, 0] : Fin 5 → ℕ) a + S1x1x128x4x128.size a ≤ S1x2x256x8x128.size a}
    {i7 : ∀ a, (![0, 0, 0, 4, 0] : Fin 5 → ℕ) a + S1x1x128x4x128.size a ≤ S1x2x256x8x128.size a}
    {i8 : ∀ a, (![0, 0, 0, 0, 0] : Fin 5 → ℕ) a + S1x1x128x4x128.size a ≤ S1x2x256x8x128.size a}
    {p1 p2 p3 p4 p5 p6 p7 p8 : S1x1x128x4x128.Idx → Val e}
    (h1 : p1 = blk 1 1 1) (h2 : p2 = blk 1 1 0) (h3 : p3 = blk 1 0 1) (h4 : p4 = blk 1 0 0)
    (h5 : p5 = blk 0 1 1) (h6 : p6 = blk 0 1 0) (h7 : p7 = blk 0 0 1) (h8 : p8 = blk 0 0 0) (y : S1x2x256x8x128.Idx) :
    View.read Val v (v.writes Val f [⟨Rect.unit ![0, 1, 128, 4, 0] S1x1x128x4x128.size i1, p1⟩,
      ⟨Rect.unit ![0, 1, 128, 0, 0] S1x1x128x4x128.size i2, p2⟩, ⟨Rect.unit ![0, 1, 0, 4, 0] S1x1x128x4x128.size i3, p3⟩,
      ⟨Rect.unit ![0, 1, 0, 0, 0] S1x1x128x4x128.size i4, p4⟩, ⟨Rect.unit ![0, 0, 128, 4, 0] S1x1x128x4x128.size i5, p5⟩,
      ⟨Rect.unit ![0, 0, 128, 0, 0] S1x1x128x4x128.size i6, p6⟩, ⟨Rect.unit ![0, 0, 0, 4, 0] S1x1x128x4x128.size i7, p7⟩,
      ⟨Rect.unit ![0, 0, 0, 0, 0] S1x1x128x4x128.size i8, p8⟩]) y
    = blk (y 1).val ((y 2).val / 128) ((y 3).val / 4)
      (nidx S1x1x128x4x128 (by decide) ![0, 0, (y 2).val % 128, (y 3).val % 4, (y 4).val]) := by
  refine View.read_writes_apply_of_pieces v f (fun y : S1x2x256x8x128.Idx => blk (y 1).val ((y 2).val / 128) ((y 3).val / 4)
      (nidx S1x1x128x4x128 (by decide) ![0, 0, (y 2).val % 128, (y 3).val % 4, (y 4).val])) _ ?_ y ?_
  · simp only [List.forall_mem_cons]
    exact ⟨fun x => code_place blk 1 1 1 (by omega) (by omega) (by omega) _ rfl i1 p1 h1 x,
      fun x => code_place blk 1 1 0 (by omega) (by omega) (by omega) _ rfl i2 p2 h2 x,
      fun x => code_place blk 1 0 1 (by omega) (by omega) (by omega) _ rfl i3 p3 h3 x,
      fun x => code_place blk 1 0 0 (by omega) (by omega) (by omega) _ rfl i4 p4 h4 x,
      fun x => code_place blk 0 1 1 (by omega) (by omega) (by omega) _ rfl i5 p5 h5 x,
      fun x => code_place blk 0 1 0 (by omega) (by omega) (by omega) _ rfl i6 p6 h6 x,
      fun x => code_place blk 0 0 1 (by omega) (by omega) (by omega) _ rfl i7 p7 h7 x,
      fun x => code_place blk 0 0 0 (by omega) (by omega) (by omega) _ rfl i8 p8 h8 x, by simp⟩
  · have y0 : (y (0)).val < 1 := (y (0)).isLt
    have y1 : (y (Fin.succ 0)).val < 2 := (y (Fin.succ 0)).isLt
    have y2 : (y ((Fin.succ 0).succ)).val < 256 := (y ((Fin.succ 0).succ)).isLt
    have y3 : (y ((Fin.succ 0).succ.succ)).val < 8 := (y ((Fin.succ 0).succ.succ)).isLt
    have y4 : (y ((Fin.succ 0).succ.succ.succ)).val < 128 := (y ((Fin.succ 0).succ.succ.succ)).isLt
    simp only [List.exists_mem_cons_iff, Rect.mem_set_unit, Fin.forall_fin_succ, Fin.forall_fin_zero]
    simp only [Matrix.cons_val, Matrix.cons_val_zero, Matrix.cons_val_succ]
    simp only [List.not_mem_nil, false_and, exists_false, or_false, and_true]
    omega

/-- One block of scale bytes at its place in the output block. -/
theorem scale_place (blk : ℕ → ℕ → S1x1x8x4x128.Idx → Val e) (b th : ℕ) (hb : b < 2) (ht : th < 2)
    (off : Fin 5 → ℕ) (ho : off = ![0, b, 0, 0, 128 * th])
    (inb : ∀ a, off a + S1x1x8x4x128.size a ≤ S1x2x8x4x256.size a) (p : S1x1x8x4x128.Idx → Val e) (hp : p = blk b th)
    (x : (Rect.unit (s := S1x2x8x4x256) off S1x1x8x4x128.size inb).shape.Idx) :
    p x = (fun y : S1x2x8x4x256.Idx => blk (y 1).val ((y 4).val / 128)
      (nidx S1x1x8x4x128 (by decide) ![0, 0, (y 2).val, (y 3).val, (y 4).val % 128]))
      ((Rect.unit (s := S1x2x8x4x256) off S1x1x8x4x128.size inb).emb x) := by
  subst ho hp
  have h0 : (x 0).val < 1 := (x 0).isLt
  have h1 : (x 1).val < 1 := (x 1).isLt
  have h4 : (x 4).val < 128 := (x 4).isLt
  have e1 : (((Rect.unit (s := S1x2x8x4x256) ![0, b, 0, 0, 128 * th] S1x1x8x4x128.size inb).emb x) 1).val = b := by
    show b + 1 * (x 1).val = b
    omega
  have e2 : (((Rect.unit (s := S1x2x8x4x256) ![0, b, 0, 0, 128 * th] S1x1x8x4x128.size inb).emb x) 2).val = (x 2).val := by
    show 0 + 1 * (x 2).val = _
    omega
  have e3 : (((Rect.unit (s := S1x2x8x4x256) ![0, b, 0, 0, 128 * th] S1x1x8x4x128.size inb).emb x) 3).val = (x 3).val := by
    show 0 + 1 * (x 3).val = _
    omega
  have e4 : (((Rect.unit (s := S1x2x8x4x256) ![0, b, 0, 0, 128 * th] S1x1x8x4x128.size inb).emb x) 4).val = 128 * th + (x 4).val := by
    show 128 * th + 1 * (x 4).val = _
    omega
  show _ = blk _ _ (nidx _ _ _)
  rw [e1, e2, e3, e4, show (128 * th + (x 4).val) / 128 = th by omega, show (128 * th + (x 4).val) % 128 = (x 4).val by omega]
  congr 1
  refine (nidx_eq _ _ _ _ ?_).symm
  intro a
  fin_cases a
  · show 0 = (x 0).val; omega
  · show 0 = (x 1).val; omega
  · rfl
  · rfl
  · rfl

/-- Four blocks of scale bytes make the output block. -/
theorem scales_written (v : View sg κ sp S1x2x8x4x256 e) (f : v.ty.Contents Val)
    (blk : ℕ → ℕ → S1x1x8x4x128.Idx → Val e)
    {i1 : ∀ a, (![0, 1, 0, 0, 128] : Fin 5 → ℕ) a + S1x1x8x4x128.size a ≤ S1x2x8x4x256.size a}
    {i2 : ∀ a, (![0, 1, 0, 0, 0] : Fin 5 → ℕ) a + S1x1x8x4x128.size a ≤ S1x2x8x4x256.size a}
    {i3 : ∀ a, (![0, 0, 0, 0, 128] : Fin 5 → ℕ) a + S1x1x8x4x128.size a ≤ S1x2x8x4x256.size a}
    {i4 : ∀ a, (![0, 0, 0, 0, 0] : Fin 5 → ℕ) a + S1x1x8x4x128.size a ≤ S1x2x8x4x256.size a}
    {p1 p2 p3 p4 : S1x1x8x4x128.Idx → Val e}
    (h1 : p1 = blk 1 1) (h2 : p2 = blk 1 0) (h3 : p3 = blk 0 1) (h4 : p4 = blk 0 0) (y : S1x2x8x4x256.Idx) :
    View.read Val v (v.writes Val f [⟨Rect.unit ![0, 1, 0, 0, 128] S1x1x8x4x128.size i1, p1⟩,
      ⟨Rect.unit ![0, 1, 0, 0, 0] S1x1x8x4x128.size i2, p2⟩, ⟨Rect.unit ![0, 0, 0, 0, 128] S1x1x8x4x128.size i3, p3⟩,
      ⟨Rect.unit ![0, 0, 0, 0, 0] S1x1x8x4x128.size i4, p4⟩]) y
    = blk (y 1).val ((y 4).val / 128) (nidx S1x1x8x4x128 (by decide) ![0, 0, (y 2).val, (y 3).val, (y 4).val % 128]) := by
  refine View.read_writes_apply_of_pieces v f (fun y : S1x2x8x4x256.Idx => blk (y 1).val ((y 4).val / 128)
      (nidx S1x1x8x4x128 (by decide) ![0, 0, (y 2).val, (y 3).val, (y 4).val % 128])) _ ?_ y ?_
  · simp only [List.forall_mem_cons]
    exact ⟨fun x => scale_place blk 1 1 (by omega) (by omega) _ rfl i1 p1 h1 x,
      fun x => scale_place blk 1 0 (by omega) (by omega) _ rfl i2 p2 h2 x,
      fun x => scale_place blk 0 1 (by omega) (by omega) _ rfl i3 p3 h3 x,
      fun x => scale_place blk 0 0 (by omega) (by omega) _ rfl i4 p4 h4 x, by simp⟩
  · have y0 : (y (0)).val < 1 := (y (0)).isLt
    have y1 : (y (Fin.succ 0)).val < 2 := (y (Fin.succ 0)).isLt
    have y2 : (y ((Fin.succ 0).succ)).val < 8 := (y ((Fin.succ 0).succ)).isLt
    have y3 : (y ((Fin.succ 0).succ.succ)).val < 4 := (y ((Fin.succ 0).succ.succ)).isLt
    have y4 : (y ((Fin.succ 0).succ.succ.succ)).val < 256 := (y ((Fin.succ 0).succ.succ.succ)).isLt
    simp only [List.exists_mem_cons_iff, Rect.mem_set_unit, Fin.forall_fin_succ, Fin.forall_fin_zero]
    simp only [Matrix.cons_val, Matrix.cons_val_zero, Matrix.cons_val_succ]
    simp only [List.not_mem_nil, false_and, exists_false, or_false, and_true]
    omega

/-- One chunk of weights at its place in a slot. -/
theorem wt_place (W : ℕ → ℕ → Val e) (k p ch : ℕ) (hk : k < 4)
    (off : Fin 3 → ℕ) (ho : off = ![p, 512 * k, ch * 256])
    (inb : ∀ a, off a + S1x512x256.size a ≤ S2x2048x4096.size a) (q : S1x512x256.Idx → Val e)
    (hq : ∀ x : S1x512x256.Idx, q x = W (512 * k + (x 1).val) (x 2).val)
    (x : (Rect.unit (s := S2x2048x4096) off S1x512x256.size inb).shape.Idx) :
    q x = (fun y : S2x2048x4096.Idx => W (y 1).val ((y 2).val % 256))
      ((Rect.unit (s := S2x2048x4096) off S1x512x256.size inb).emb x) := by
  subst ho
  have h2 : (x 2).val < 256 := (x 2).isLt
  have e1 : (((Rect.unit (s := S2x2048x4096) ![p, 512 * k, ch * 256] S1x512x256.size inb).emb x) 1).val = 512 * k + (x 1).val := by
    show 512 * k + 1 * (x 1).val = _
    omega
  have e2 : (((Rect.unit (s := S2x2048x4096) ![p, 512 * k, ch * 256] S1x512x256.size inb).emb x) 2).val = ch * 256 + (x 2).val := by
    show ch * 256 + 1 * (x 2).val = _
    omega
  refine (hq x).trans ?_
  show _ = W _ _
  rw [e1, e2, show (ch * 256 + (x 2).val) % 256 = (x 2).val by omega]

/-- Four chunks of weights fill a band of columns of one slot, -/
theorem wts_written (v : View sg κ sp S2x2048x4096 e) (f : v.ty.Contents Val) (W : ℕ → ℕ → Val e) (p ch : ℕ)
    {o1 o2 o3 o4 : Fin 3 → ℕ} (ho1 : o1 = ![p, 1536, ch * 256]) (ho2 : o2 = ![p, 1024, ch * 256])
    (ho3 : o3 = ![p, 512, ch * 256]) (ho4 : o4 = ![p, 0, ch * 256])
    {i1 : ∀ a, o1 a + S1x512x256.size a ≤ S2x2048x4096.size a} {i2 : ∀ a, o2 a + S1x512x256.size a ≤ S2x2048x4096.size a}
    {i3 : ∀ a, o3 a + S1x512x256.size a ≤ S2x2048x4096.size a} {i4 : ∀ a, o4 a + S1x512x256.size a ≤ S2x2048x4096.size a}
    {p1 p2 p3 p4 : S1x512x256.Idx → Val e}
    (h1 : ∀ x : S1x512x256.Idx, p1 x = W (1536 + (x 1).val) (x 2).val) (h2 : ∀ x : S1x512x256.Idx, p2 x = W (1024 + (x 1).val) (x 2).val)
    (h3 : ∀ x : S1x512x256.Idx, p3 x = W (512 + (x 1).val) (x 2).val) (h4 : ∀ x : S1x512x256.Idx, p4 x = W (0 + (x 1).val) (x 2).val)
    (y : S2x2048x4096.Idx) (hy0 : (y 0).val = p) (hy2 : (y 2).val / 256 = ch) :
    View.read Val v (v.writes Val f [⟨Rect.unit o1 S1x512x256.size i1, p1⟩, ⟨Rect.unit o2 S1x512x256.size i2, p2⟩,
      ⟨Rect.unit o3 S1x512x256.size i3, p3⟩, ⟨Rect.unit o4 S1x512x256.size i4, p4⟩]) y = W (y 1).val ((y 2).val % 256) := by
  refine View.read_writes_apply_of_pieces v f (fun y : S2x2048x4096.Idx => W (y 1).val ((y 2).val % 256)) _ ?_ y ?_
  · simp only [List.forall_mem_cons]
    exact ⟨fun x => wt_place W 3 p ch (by omega) _ ho1 i1 p1 h1 x, fun x => wt_place W 2 p ch (by omega) _ ho2 i2 p2 h2 x,
      fun x => wt_place W 1 p ch (by omega) _ ho3 i3 p3 h3 x, fun x => wt_place W 0 p ch (by omega) _ ho4 i4 p4 h4 x, by simp⟩
  · subst ho1 ho2 ho3 ho4
    have y1 : (y (Fin.succ 0)).val < 2048 := (y (Fin.succ 0)).isLt
    replace hy2 : (y (Fin.succ 0).succ).val / 256 = ch := hy2
    simp only [List.exists_mem_cons_iff, Rect.mem_set_unit, Fin.forall_fin_succ, Fin.forall_fin_zero]
    simp only [Matrix.cons_val, Matrix.cons_val_zero, Matrix.cons_val_succ]
    simp only [List.not_mem_nil, false_and, exists_false, or_false, and_true]
    omega

/-- and leave everything else. -/
theorem wts_kept (v : View sg κ sp S2x2048x4096 e) (f : v.ty.Contents Val) (p ch : ℕ)
    {o1 o2 o3 o4 : Fin 3 → ℕ} (ho1 : o1 = ![p, 1536, ch * 256]) (ho2 : o2 = ![p, 1024, ch * 256])
    (ho3 : o3 = ![p, 512, ch * 256]) (ho4 : o4 = ![p, 0, ch * 256])
    {i1 : ∀ a, o1 a + S1x512x256.size a ≤ S2x2048x4096.size a} {i2 : ∀ a, o2 a + S1x512x256.size a ≤ S2x2048x4096.size a}
    {i3 : ∀ a, o3 a + S1x512x256.size a ≤ S2x2048x4096.size a} {i4 : ∀ a, o4 a + S1x512x256.size a ≤ S2x2048x4096.size a}
    {p1 p2 p3 p4 : S1x512x256.Idx → Val e}
    (y : S2x2048x4096.Idx) (hy : ¬ ((y 0).val = p ∧ (y 2).val / 256 = ch)) :
    View.read Val v (v.writes Val f [⟨Rect.unit o1 S1x512x256.size i1, p1⟩, ⟨Rect.unit o2 S1x512x256.size i2, p2⟩,
      ⟨Rect.unit o3 S1x512x256.size i3, p3⟩, ⟨Rect.unit o4 S1x512x256.size i4, p4⟩]) y = View.read Val v f y := by
  refine View.read_writes_apply_of_forall_not_mem v f y _ ?_
  subst ho1 ho2 ho3 ho4
  replace hy : ¬ ((y 0).val = p ∧ (y (Fin.succ 0).succ).val / 256 = ch) := hy
  simp only [List.forall_mem_cons, Rect.mem_set_unit, Fin.forall_fin_succ, Fin.forall_fin_zero]
  simp only [Matrix.cons_val, Matrix.cons_val_zero, Matrix.cons_val_succ]
  simp only [and_true]
  refine ⟨?_, ?_, ?_, ?_, by simp⟩ <;> omega

/-- One product at its place in the accumulator. -/
theorem acc_place (D : ℕ → ℕ → S1x1x1x1024x256.Idx → Val e) (b kv p : ℕ)
    (off : Fin 5 → ℕ) (ho : off = ![p, b, kv, 0, 0])
    (inb : ∀ a, off a + S1x1x1x1024x256.size a ≤ S2x2x2x1024x256.size a) (q : S1x1x1x1024x256.Idx → Val e) (hq : q = D b kv)
    (x : (Rect.unit (s := S2x2x2x1024x256) off S1x1x1x1024x256.size inb).shape.Idx) :
    q x = (fun y : S2x2x2x1024x256.Idx => D (y 1).val (y 2).val (nidx S1x1x1x1024x256 (by decide) ![0, 0, 0, (y 3).val, (y 4).val]))
      ((Rect.unit (s := S2x2x2x1024x256) off S1x1x1x1024x256.size inb).emb x) := by
  subst ho hq
  have h0 : (x 0).val < 1 := (x 0).isLt
  have h1 : (x 1).val < 1 := (x 1).isLt
  have h2 : (x 2).val < 1 := (x 2).isLt
  have e1 : (((Rect.unit (s := S2x2x2x1024x256) ![p, b, kv, 0, 0] S1x1x1x1024x256.size inb).emb x) 1).val = b := by
    show b + 1 * (x 1).val = _
    omega
  have e2 : (((Rect.unit (s := S2x2x2x1024x256) ![p, b, kv, 0, 0] S1x1x1x1024x256.size inb).emb x) 2).val = kv := by
    show kv + 1 * (x 2).val = _
    omega
  have e3 : (((Rect.unit (s := S2x2x2x1024x256) ![p, b, kv, 0, 0] S1x1x1x1024x256.size inb).emb x) 3).val = (x 3).val := by
    show 0 + 1 * (x 3).val = _
    omega
  have e4 : (((Rect.unit (s := S2x2x2x1024x256) ![p, b, kv, 0, 0] S1x1x1x1024x256.size inb).emb x) 4).val = (x 4).val := by
    show 0 + 1 * (x 4).val = _
    omega
  show _ = D _ _ (nidx _ _ _)
  rw [e1, e2, e3, e4]
  congr 1
  refine (nidx_eq _ _ _ _ ?_).symm
  intro a
  fin_cases a
  · show 0 = (x 0).val; omega
  · show 0 = (x 1).val; omega
  · show 0 = (x 2).val; omega
  · rfl
  · rfl

/-- Four products fill one slot of the accumulator, -/
theorem accs_written (v : View sg κ sp S2x2x2x1024x256 e) (f : v.ty.Contents Val) (D : ℕ → ℕ → S1x1x1x1024x256.Idx → Val e) (p : ℕ)
    {o1 o2 o3 o4 : Fin 5 → ℕ} (ho1 : o1 = ![p, 1, 1, 0, 0]) (ho2 : o2 = ![p, 1, 0, 0, 0])
    (ho3 : o3 = ![p, 0, 1, 0, 0]) (ho4 : o4 = ![p, 0, 0, 0, 0])
    {i1 : ∀ a, o1 a + S1x1x1x1024x256.size a ≤ S2x2x2x1024x256.size a} {i2 : ∀ a, o2 a + S1x1x1x1024x256.size a ≤ S2x2x2x1024x256.size a}
    {i3 : ∀ a, o3 a + S1x1x1x1024x256.size a ≤ S2x2x2x1024x256.size a} {i4 : ∀ a, o4 a + S1x1x1x1024x256.size a ≤ S2x2x2x1024x256.size a}
    {p1 p2 p3 p4 : S1x1x1x1024x256.Idx → Val e}
    (h1 : p1 = D 1 1) (h2 : p2 = D 1 0) (h3 : p3 = D 0 1) (h4 : p4 = D 0 0)
    (y : S2x2x2x1024x256.Idx) (hy : (y 0).val = p) :
    View.read Val v (v.writes Val f [⟨Rect.unit o1 S1x1x1x1024x256.size i1, p1⟩, ⟨Rect.unit o2 S1x1x1x1024x256.size i2, p2⟩,
      ⟨Rect.unit o3 S1x1x1x1024x256.size i3, p3⟩, ⟨Rect.unit o4 S1x1x1x1024x256.size i4, p4⟩]) y
    = D (y 1).val (y 2).val (nidx S1x1x1x1024x256 (by decide) ![0, 0, 0, (y 3).val, (y 4).val]) := by
  refine View.read_writes_apply_of_pieces v f (fun y : S2x2x2x1024x256.Idx => D (y 1).val (y 2).val (nidx S1x1x1x1024x256 (by decide) ![0, 0, 0, (y 3).val, (y 4).val])) _ ?_ y ?_
  · simp only [List.forall_mem_cons]
    exact ⟨fun x => acc_place D 1 1 p _ ho1 i1 p1 h1 x, fun x => acc_place D 1 0 p _ ho2 i2 p2 h2 x,
      fun x => acc_place D 0 1 p _ ho3 i3 p3 h3 x, fun x => acc_place D 0 0 p _ ho4 i4 p4 h4 x, by simp⟩
  · subst ho1 ho2 ho3 ho4
    have y1 : (y (Fin.succ 0)).val < 2 := (y (Fin.succ 0)).isLt
    have y2 : (y (Fin.succ 0).succ).val < 2 := (y (Fin.succ 0).succ).isLt
    have y3 : (y (Fin.succ 0).succ.succ).val < 1024 := (y (Fin.succ 0).succ.succ).isLt
    have y4 : (y (Fin.succ 0).succ.succ.succ).val < 256 := (y (Fin.succ 0).succ.succ.succ).isLt
    simp only [List.exists_mem_cons_iff, Rect.mem_set_unit, Fin.forall_fin_succ, Fin.forall_fin_zero]
    simp only [Matrix.cons_val, Matrix.cons_val_zero, Matrix.cons_val_succ]
    simp only [List.not_mem_nil, false_and, exists_false, or_false, and_true]
    omega

/-- and leave the other slot. -/
theorem accs_kept (v : View sg κ sp S2x2x2x1024x256 e) (f : v.ty.Contents Val) (p : ℕ)
    {o1 o2 o3 o4 : Fin 5 → ℕ} (ho1 : o1 = ![p, 1, 1, 0, 0]) (ho2 : o2 = ![p, 1, 0, 0, 0])
    (ho3 : o3 = ![p, 0, 1, 0, 0]) (ho4 : o4 = ![p, 0, 0, 0, 0])
    {i1 : ∀ a, o1 a + S1x1x1x1024x256.size a ≤ S2x2x2x1024x256.size a} {i2 : ∀ a, o2 a + S1x1x1x1024x256.size a ≤ S2x2x2x1024x256.size a}
    {i3 : ∀ a, o3 a + S1x1x1x1024x256.size a ≤ S2x2x2x1024x256.size a} {i4 : ∀ a, o4 a + S1x1x1x1024x256.size a ≤ S2x2x2x1024x256.size a}
    {p1 p2 p3 p4 : S1x1x1x1024x256.Idx → Val e}
    (y : S2x2x2x1024x256.Idx) (hy : (y 0).val ≠ p) :
    View.read Val v (v.writes Val f [⟨Rect.unit o1 S1x1x1x1024x256.size i1, p1⟩, ⟨Rect.unit o2 S1x1x1x1024x256.size i2, p2⟩,
      ⟨Rect.unit o3 S1x1x1x1024x256.size i3, p3⟩, ⟨Rect.unit o4 S1x1x1x1024x256.size i4, p4⟩]) y = View.read Val v f y := by
  refine View.read_writes_apply_of_forall_not_mem v f y _ ?_
  subst ho1 ho2 ho3 ho4
  simp only [List.forall_mem_cons, Rect.mem_set_unit, Fin.forall_fin_succ, Fin.forall_fin_zero]
  simp only [Matrix.cons_val, Matrix.cons_val_zero, Matrix.cons_val_succ]
  simp only [and_true]
  refine ⟨?_, ?_, ?_, ?_, by simp⟩ <;> omega

/-- One stored tile fills one slot, -/
theorem tile_written (v : View sg κ sp S2x2x256x4096 e) (f : v.ty.Contents Val) (X : S2x256x4096.Idx → Val e) (p : ℕ)
    {o : Fin 4 → ℕ} (ho : o = ![p, 0, 0, 0]) {i : ∀ a, o a + S1x2x256x4096.size a ≤ S2x2x256x4096.size a} {q : S1x2x256x4096.Idx → Val e}
    (h : ∀ x : S1x2x256x4096.Idx, q x = X (nidx S2x256x4096 (by decide) ![(x 1).val, (x 2).val, (x 3).val]))
    (y : S2x2x256x4096.Idx) (hy : (y 0).val = p) :
    View.read Val v (v.writes Val f [⟨Rect.unit o S1x2x256x4096.size i, q⟩]) y
    = X (nidx S2x256x4096 (by decide) ![(y 1).val, (y 2).val, (y 3).val]) := by
  subst ho
  refine View.read_writes_apply_of_pieces v f (fun y : S2x2x256x4096.Idx => X (nidx S2x256x4096 (by decide) ![(y 1).val, (y 2).val, (y 3).val])) _ ?_ y ?_
  · simp only [List.forall_mem_cons]
    refine ⟨fun x => (h x).trans ?_, by simp⟩
    show X (nidx _ _ _) = X (nidx _ _ _)
    refine congrArg X (congrArg (nidx _ _) ?_)
    have e1 : (((Rect.unit (s := S2x2x256x4096) ![p, 0, 0, 0] S1x2x256x4096.size i).emb x) 1).val = (x 1).val := by
      show 0 + 1 * (x 1).val = _
      omega
    have e2 : (((Rect.unit (s := S2x2x256x4096) ![p, 0, 0, 0] S1x2x256x4096.size i).emb x) 2).val = (x 2).val := by
      show 0 + 1 * (x 2).val = _
      omega
    have e3 : (((Rect.unit (s := S2x2x256x4096) ![p, 0, 0, 0] S1x2x256x4096.size i).emb x) 3).val = (x 3).val := by
      show 0 + 1 * (x 3).val = _
      omega
    rw [e1, e2, e3]
  · have y1 : (y (Fin.succ 0)).val < 2 := (y (Fin.succ 0)).isLt
    have y2 : (y (Fin.succ 0).succ).val < 256 := (y (Fin.succ 0).succ).isLt
    have y3 : (y (Fin.succ 0).succ.succ).val < 4096 := (y (Fin.succ 0).succ.succ).isLt
    simp only [List.exists_mem_cons_iff, Rect.mem_set_unit, Fin.forall_fin_succ, Fin.forall_fin_zero]
    simp only [Matrix.cons_val, Matrix.cons_val_zero, Matrix.cons_val_succ]
    simp only [List.not_mem_nil, false_and, exists_false, or_false, and_true]
    omega

/-- and leaves the other. -/
theorem tile_kept (v : View sg κ sp S2x2x256x4096 e) (f : v.ty.Contents Val) (p : ℕ)
    {o : Fin 4 → ℕ} (ho : o = ![p, 0, 0, 0]) {i : ∀ a, o a + S1x2x256x4096.size a ≤ S2x2x256x4096.size a} {q : S1x2x256x4096.Idx → Val e}
    (y : S2x2x256x4096.Idx) (hy : (y 0).val ≠ p) :
    View.read Val v (v.writes Val f [⟨Rect.unit o S1x2x256x4096.size i, q⟩]) y = View.read Val v f y := by
  refine View.read_writes_apply_of_forall_not_mem v f y _ ?_
  subst ho
  simp only [List.forall_mem_cons, Rect.mem_set_unit, Fin.forall_fin_succ, Fin.forall_fin_zero]
  simp only [Matrix.cons_val, Matrix.cons_val_zero, Matrix.cons_val_succ]
  simp only [and_true]
  refine ⟨?_, by simp⟩
  omega

end Cert.KernelIdeal.Hand

end
-- ==== Proof.KernelIdeal.Pay.lean ====
module

public import proofs.«01_k».proof.Proof.KernelIdeal.Lists
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable {sg : RefSig} {κ : Kind} {sp : Space} {e : EltTy} {Val : EltTy → Type}

/-- A hundred and twenty-eight rows of one table at their place. -/
theorem row_place (X : ℕ → Val e) (k n : ℕ) (inb : ∀ a, (![k, n, 0] : Fin 3 → ℕ) a + S1x128x128.size a ≤ S3x1024x128.size a)
    (q : S1x128x128.Idx → Val e) (hq : ∀ x : S1x128x128.Idx, q x = X (n + (x 1).val))
    (x : (Rect.unit (s := S3x1024x128) ![k, n, 0] S1x128x128.size inb).shape.Idx) :
    q x = (fun y : S3x1024x128.Idx => X (y 1).val) ((Rect.unit (s := S3x1024x128) ![k, n, 0] S1x128x128.size inb).emb x) := by
  have e1 : (((Rect.unit (s := S3x1024x128) ![k, n, 0] S1x128x128.size inb).emb x) 1).val = n + (x 1).val := by
    show n + 1 * (x 1).val = _
    omega
  refine (hq x).trans ?_
  show _ = X _
  rw [e1]

/-- Eight stores fill one of the three tables, -/
theorem rows_written (v : View sg κ sp S3x1024x128 e) (f : v.ty.Contents Val) (X : ℕ → Val e) (k : ℕ)
    {i7 : ∀ a, (![k, 896, 0] : Fin 3 → ℕ) a + S1x128x128.size a ≤ S3x1024x128.size a}
    {i6 : ∀ a, (![k, 768, 0] : Fin 3 → ℕ) a + S1x128x128.size a ≤ S3x1024x128.size a}
    {i5 : ∀ a, (![k, 640, 0] : Fin 3 → ℕ) a + S1x128x128.size a ≤ S3x1024x128.size a}
    {i4 : ∀ a, (![k, 512, 0] : Fin 3 → ℕ) a + S1x128x128.size a ≤ S3x1024x128.size a}
    {i3 : ∀ a, (![k, 384, 0] : Fin 3 → ℕ) a + S1x128x128.size a ≤ S3x1024x128.size a}
    {i2 : ∀ a, (![k, 256, 0] : Fin 3 → ℕ) a + S1x128x128.size a ≤ S3x1024x128.size a}
    {i1 : ∀ a, (![k, 128, 0] : Fin 3 → ℕ) a + S1x128x128.size a ≤ S3x1024x128.size a}
    {i0 : ∀ a, (![k, 0, 0] : Fin 3 → ℕ) a + S1x128x128.size a ≤ S3x1024x128.size a}
    {p7 p6 p5 p4 p3 p2 p1 p0 : S1x128x128.Idx → Val e}
    (h7 : ∀ x : S1x128x128.Idx, p7 x = X (896 + (x 1).val)) (h6 : ∀ x : S1x128x128.Idx, p6 x = X (768 + (x 1).val)) (h5 : ∀ x : S1x128x128.Idx, p5 x = X (640 + (x 1).val)) (h4 : ∀ x : S1x128x128.Idx, p4 x = X (512 + (x 1).val)) (h3 : ∀ x : S1x128x128.Idx, p3 x = X (384 + (x 1).val)) (h2 : ∀ x : S1x128x128.Idx, p2 x = X (256 + (x 1).val)) (h1 : ∀ x : S1x128x128.Idx, p1 x = X (128 + (x 1).val)) (h0 : ∀ x : S1x128x128.Idx, p0 x = X (0 + (x 1).val))
    (L : List (View.Piece Val S3x1024x128 e)) (y : S3x1024x128.Idx) (hy : (y 0).val = k) :
    View.read Val v (v.writes Val f (⟨Rect.unit ![k, 896, 0] S1x128x128.size i7, p7⟩ ::
      ⟨Rect.unit ![k, 768, 0] S1x128x128.size i6, p6⟩ ::
      ⟨Rect.unit ![k, 640, 0] S1x128x128.size i5, p5⟩ ::
      ⟨Rect.unit ![k, 512, 0] S1x128x128.size i4, p4⟩ ::
      ⟨Rect.unit ![k, 384, 0] S1x128x128.size i3, p3⟩ ::
      ⟨Rect.unit ![k, 256, 0] S1x128x128.size i2, p2⟩ ::
      ⟨Rect.unit ![k, 128, 0] S1x128x128.size i1, p1⟩ ::
      ⟨Rect.unit ![k, 0, 0] S1x128x128.size i0, p0⟩ :: L)) y = X (y 1).val := by
  have key := View.read_writes_apply_of_pieces v (v.writes Val f L) (fun y : S3x1024x128.Idx => X (y 1).val)
    [⟨Rect.unit ![k, 896, 0] S1x128x128.size i7, p7⟩,
      ⟨Rect.unit ![k, 768, 0] S1x128x128.size i6, p6⟩,
      ⟨Rect.unit ![k, 640, 0] S1x128x128.size i5, p5⟩,
      ⟨Rect.unit ![k, 512, 0] S1x128x128.size i4, p4⟩,
      ⟨Rect.unit ![k, 384, 0] S1x128x128.size i3, p3⟩,
      ⟨Rect.unit ![k, 256, 0] S1x128x128.size i2, p2⟩,
      ⟨Rect.unit ![k, 128, 0] S1x128x128.size i1, p1⟩,
      ⟨Rect.unit ![k, 0, 0] S1x128x128.size i0, p0⟩] ?_ y ?_
  · rw [← View.writes_append] at key
    exact key
  · simp only [List.forall_mem_cons]
    exact ⟨fun x => row_place X k 896 i7 p7 h7 x,
      fun x => row_place X k 768 i6 p6 h6 x,
      fun x => row_place X k 640 i5 p5 h5 x,
      fun x => row_place X k 512 i4 p4 h4 x,
      fun x => row_place X k 384 i3 p3 h3 x,
      fun x => row_place X k 256 i2 p2 h2 x,
      fun x => row_place X k 128 i1 p1 h1 x,
      fun x => row_place X k 0 i0 p0 h0 x, by simp⟩
  · have y1 : (y (Fin.succ 0)).val < 1024 := (y (Fin.succ 0)).isLt
    have y2 : (y (Fin.succ 0).succ).val < 128 := (y (Fin.succ 0).succ).isLt
    simp only [List.exists_mem_cons_iff, Rect.mem_set_unit, Fin.forall_fin_succ, Fin.forall_fin_zero]
    simp only [Matrix.cons_val, Matrix.cons_val_zero, Matrix.cons_val_succ]
    simp only [List.not_mem_nil, false_and, exists_false, or_false, and_true]
    omega

/-- and leave the other two. -/
theorem rows_kept (v : View sg κ sp S3x1024x128 e) (f : v.ty.Contents Val) (k : ℕ)
    {i7 : ∀ a, (![k, 896, 0] : Fin 3 → ℕ) a + S1x128x128.size a ≤ S3x1024x128.size a}
    {i6 : ∀ a, (![k, 768, 0] : Fin 3 → ℕ) a + S1x128x128.size a ≤ S3x1024x128.size a}
    {i5 : ∀ a, (![k, 640, 0] : Fin 3 → ℕ) a + S1x128x128.size a ≤ S3x1024x128.size a}
    {i4 : ∀ a, (![k, 512, 0] : Fin 3 → ℕ) a + S1x128x128.size a ≤ S3x1024x128.size a}
    {i3 : ∀ a, (![k, 384, 0] : Fin 3 → ℕ) a + S1x128x128.size a ≤ S3x1024x128.size a}
    {i2 : ∀ a, (![k, 256, 0] : Fin 3 → ℕ) a + S1x128x128.size a ≤ S3x1024x128.size a}
    {i1 : ∀ a, (![k, 128, 0] : Fin 3 → ℕ) a + S1x128x128.size a ≤ S3x1024x128.size a}
    {i0 : ∀ a, (![k, 0, 0] : Fin 3 → ℕ) a + S1x128x128.size a ≤ S3x1024x128.size a}
    {p7 p6 p5 p4 p3 p2 p1 p0 : S1x128x128.Idx → Val e}
    (L : List (View.Piece Val S3x1024x128 e)) (y : S3x1024x128.Idx) (hy : (y 0).val ≠ k) :
    View.read Val v (v.writes Val f (⟨Rect.unit ![k, 896, 0] S1x128x128.size i7, p7⟩ ::
      ⟨Rect.unit ![k, 768, 0] S1x128x128.size i6, p6⟩ ::
      ⟨Rect.unit ![k, 640, 0] S1x128x128.size i5, p5⟩ ::
      ⟨Rect.unit ![k, 512, 0] S1x128x128.size i4, p4⟩ ::
      ⟨Rect.unit ![k, 384, 0] S1x128x128.size i3, p3⟩ ::
      ⟨Rect.unit ![k, 256, 0] S1x128x128.size i2, p2⟩ ::
      ⟨Rect.unit ![k, 128, 0] S1x128x128.size i1, p1⟩ ::
      ⟨Rect.unit ![k, 0, 0] S1x128x128.size i0, p0⟩ :: L)) y = View.read Val v (v.writes Val f L) y := by
  have key := View.read_writes_apply_of_forall_not_mem v (v.writes Val f L) y
    [⟨Rect.unit ![k, 896, 0] S1x128x128.size i7, p7⟩,
      ⟨Rect.unit ![k, 768, 0] S1x128x128.size i6, p6⟩,
      ⟨Rect.unit ![k, 640, 0] S1x128x128.size i5, p5⟩,
      ⟨Rect.unit ![k, 512, 0] S1x128x128.size i4, p4⟩,
      ⟨Rect.unit ![k, 384, 0] S1x128x128.size i3, p3⟩,
      ⟨Rect.unit ![k, 256, 0] S1x128x128.size i2, p2⟩,
      ⟨Rect.unit ![k, 128, 0] S1x128x128.size i1, p1⟩,
      ⟨Rect.unit ![k, 0, 0] S1x128x128.size i0, p0⟩] ?_
  · rw [← View.writes_append] at key
    exact key
  · simp only [List.forall_mem_cons, Rect.mem_set_unit, Fin.forall_fin_succ, Fin.forall_fin_zero]
    simp only [Matrix.cons_val, Matrix.cons_val_zero, Matrix.cons_val_succ, and_true]
    refine ⟨?_, ?_, ?_, ?_, ?_, ?_, ?_, ?_, by simp⟩ <;> omega

/-- The weights of four heads, transposed. -/
theorem relay_apply (v : Vec F S256x4x128 .fp8e4m3) (x : S1x512x256.Idx) :
    k0_pay7 v x = v (nidx S256x4x128 (by decide) ![(x 2).val, (x 1).val % 4, (x 1).val / 4]) := by
  idx_vars x
  pointwise [k0_pay7]
  refine congrArg v (nidx_eq _ _ _ _ ?_).symm
  intro a
  fin_cases a <;> rfl

/-- A row of scales, as a column spread over the tokens. -/
theorem row_apply (v : Vec F S1x1x128 .f32) (x : S1x128x128.Idx) :
    k0_pay11 v x = v (nidx S1x1x128 (by decide) ![0, 0, (x 1).val]) := by
  idx_vars x
  pointwise [k0_pay11]
  refine congrArg v (nidx_eq _ _ _ _ ?_).symm
  intro a
  fin_cases a <;> rfl

/-- What a load of four heads of a block of weights reads. -/
theorem heads_read {κ : Kind} {sp : Space} (a : Memref sig κ sp S1x256x8x128 .fp8e4m3) (f : a.view.ty.Contents (Elt F)) (o : ℕ)
    (inb : ∀ a, (![0, o, 0] : Fin 3 → ℕ) a + S256x4x128.size a ≤ S256x8x128.size a) {p : _}
    (j : S256x4x128.Idx) :
    View.readAt (Elt F) ((a.slice (Rect.unit (s := S1x256x8x128) ![0, 0, 0, 0] S1x256x8x128.size inb_S1x256x8x128_S1x256x8x128_0_0_0_0) p).squeeze
        S256x8x128 squeezes_S1x256x8x128_S256x8x128).view (Rect.unit (s := S256x8x128) ![0, o, 0] S256x4x128.size inb).toLoadRect f j
      = View.read (Elt F) a.view f (nidx S1x256x8x128 (by decide) ![0, (j 0).val, o + (j 1).val, (j 2).val]) := by
  have h1 : o + 4 ≤ 8 := inb 1
  idx_vars j
  show View.read (Elt F) a.view f _ = _
  refine congrArg (View.read (Elt F) a.view f) (nidx_eq _ _ _ _ ?_).symm
  pointwise
  simp only [Equiv.coe_toEmbedding]
  pointwise
  refine ⟨?_, ?_, ?_⟩
  · show j0.val = 0 + 1 * j0.val; omega
  · show o + j1.val = 0 + 1 * (o + j1.val); omega
  · show j2.val = 0 + 1 * j2.val; omega

/-- What a load of part of a row of scales reads. -/
theorem row_read {κ : Kind} {sp : Space} (a : Memref sig κ sp S1x1x1024 .f32) (f : a.view.ty.Contents (Elt F)) (o : ℕ)
    (inb : ∀ a, (![0, 0, o] : Fin 3 → ℕ) a + S1x1x128.size a ≤ S1x1x1024.size a) (j : S1x1x128.Idx) :
    View.readAt (Elt F) a.view (Rect.unit (s := S1x1x1024) ![0, 0, o] S1x1x128.size inb).toLoadRect f j
      = View.read (Elt F) a.view f (nidx S1x1x1024 (by decide) ![0, 0, o + (j 2).val]) := by
  rw [View.readAt_apply]
  refine congrArg (View.read (Elt F) a.view f) (nidx_eq _ _ _ _ ?_).symm
  have j0 : (j 0).val < 1 := (j 0).isLt
  have j1 : (j 1).val < 1 := (j 1).isLt
  intro a
  fin_cases a
  · show 0 = 0 + 1 * (j 0).val; omega
  · show 0 = 0 + 1 * (j 1).val; omega
  · show o + (j 2).val = o + 1 * (j 2).val; omega

/-- What a load of a row of token scales reads. -/
theorem xs_read {κ : Kind} {sp : Space} (a : Memref sig κ sp S2x256 .f32) (f : a.view.ty.Contents (Elt F)) (b th : ℕ)
    (o : Fin 2 → ℕ) (ho : o = ![b, 128 * th]) (inb : ∀ a, o a + S1x128.size a ≤ S2x256.size a) :
    View.readAt (Elt F) a.view (Rect.unit (s := S2x256) o S1x128.size inb).toLoadRect f = xsB (View.read (Elt F) a.view f) b th := by
  subst ho
  funext j
  rw [View.readAt_apply]
  refine congrArg (View.read (Elt F) a.view f) (nidx_eq _ _ _ _ ?_).symm
  have j0 : (j 0).val < 1 := (j 0).isLt
  intro a
  fin_cases a
  · show b = b + 1 * (j 0).val; omega
  · show 128 * th + (j 1).val = 128 * th + 1 * (j 1).val; omega

/-- What a load of a block of the accumulator reads. -/
theorem acc_read (G : Vec F S2x2x2x1024x256 .f32) (p b kv hq th : ℕ) (o : Fin 5 → ℕ) (ho : o = ![p, b, kv, 512 * hq, 128 * th])
    (inb : ∀ a, o a + S1x1x1x512x128.size a ≤ S2x2x2x1024x256.size a) :
    View.readAt (Elt F) (Memref.whole cc0_scratch2).view (Rect.unit (s := S2x2x2x1024x256) o S1x1x1x512x128.size inb).toLoadRect G = accB G p b kv hq th := by
  subst ho
  funext j
  rw [View.readAt_apply]
  refine congrArg G (nidx_eq _ _ _ _ ?_).symm
  have j0 : (j 0).val < 1 := (j 0).isLt
  have j1 : (j 1).val < 1 := (j 1).isLt
  have j2 : (j 2).val < 1 := (j 2).isLt
  intro a
  fin_cases a
  · show p = p + 1 * (j 0).val; omega
  · show b = b + 1 * (j 1).val; omega
  · show kv = kv + 1 * (j 2).val; omega
  · show 512 * hq + (j 3).val = 512 * hq + 1 * (j 3).val; omega
  · show 128 * th + (j 4).val = 128 * th + 1 * (j 4).val; omega

/-- What a load of half a slot of the weights reads. -/
theorem w_read (G : Vec F S2x2048x4096 .fp8e4m3) (p kv : ℕ) (o : Fin 3 → ℕ) (ho : o = ![p, 1024 * kv, 0])
    (inb : ∀ a, o a + S1x1024x4096.size a ≤ S2x2048x4096.size a) :
    View.readAt (Elt F) (Memref.whole cc0_scratch0).view (Rect.unit (s := S2x2048x4096) o S1x1024x4096.size inb).toLoadRect G = wB G p kv := by
  subst ho
  funext j
  rw [View.readAt_apply]
  refine congrArg G (nidx_eq _ _ _ _ ?_).symm
  have j0 : (j 0).val < 1 := (j 0).isLt
  intro a
  fin_cases a
  · show p = p + 1 * (j 0).val; omega
  · show 1024 * kv + (j 1).val = 1024 * kv + 1 * (j 1).val; omega
  · show (j 2).val = 0 + 1 * (j 2).val; omega

/-- What a load of one row of the batch of a stored tile reads. -/
theorem x_read (G : Vec F S2x2x256x4096 .fp8e4m3) (p b : ℕ) (o : Fin 4 → ℕ) (ho : o = ![p, b, 0, 0])
    (inb : ∀ a, o a + S1x1x256x4096.size a ≤ S2x2x256x4096.size a) :
    View.readAt (Elt F) (Memref.whole cc0_scratch1).view (Rect.unit (s := S2x2x256x4096) o S1x1x256x4096.size inb).toLoadRect G = xB G p b := by
  subst ho
  funext j
  rw [View.readAt_apply]
  refine congrArg G (nidx_eq _ _ _ _ ?_).symm
  have j0 : (j 0).val < 1 := (j 0).isLt
  have j1 : (j 1).val < 1 := (j 1).isLt
  intro a
  fin_cases a
  · show p = p + 1 * (j 0).val; omega
  · show b = b + 1 * (j 1).val; omega
  · show (j 2).val = 0 + 1 * (j 2).val; omega
  · show (j 3).val = 0 + 1 * (j 3).val; omega

/-- The three tables of scales, row by row. -/
def tables (x7 x8 x9 : Vec F S1x1x1024 .f32) (k r : ℕ) : Elt F .f32 :=
  (if k = 0 then x7 else if k = 1 then x8 else x9) (nidx S1x1x1024 (by decide) ![0, 0, r])

/-- What a store of a row of scales puts in its table. -/
theorem row_stored {κ : Kind} {sp : Space} (a : Memref sig κ sp S1x1x1024 .f32) (f : a.view.ty.Contents (Elt F)) (o : ℕ)
    (inb : ∀ a, (![0, 0, o] : Fin 3 → ℕ) a + S1x1x128.size a ≤ S1x1x1024.size a) (x : S1x128x128.Idx) :
    k0_pay11 (View.readAt (Elt F) a.view (Rect.unit (s := S1x1x1024) ![0, 0, o] S1x1x128.size inb).toLoadRect f) x
      = View.read (Elt F) a.view f (nidx S1x1x1024 (by decide) ![0, 0, o + (x 1).val]) := by
  have x1 : (x 1).val < 128 := (x 1).isLt
  rw [row_apply, row_read]
  have e : (nidx S1x1x128 (by decide) ![0, 0, (x 1).val] 2).val = (x 1).val := by
    show (x 1).val % 128 = _
    omega
  rw [e]

/-- What a store of the weights of four heads puts in its slot. -/
theorem heads_stored {κ : Kind} {sp : Space} (a : Memref sig κ sp S1x256x8x128 .fp8e4m3) (f : a.view.ty.Contents (Elt F)) (o : ℕ)
    (inb : ∀ a, (![0, o, 0] : Fin 3 → ℕ) a + S256x4x128.size a ≤ S256x8x128.size a) {p : _} (x : S1x512x256.Idx) :
    k0_pay7 (View.readAt (Elt F) ((a.slice (Rect.unit (s := S1x256x8x128) ![0, 0, 0, 0] S1x256x8x128.size inb_S1x256x8x128_S1x256x8x128_0_0_0_0) p).squeeze
        S256x8x128 squeezes_S1x256x8x128_S256x8x128).view (Rect.unit (s := S256x8x128) ![0, o, 0] S256x4x128.size inb).toLoadRect f) x
      = View.read (Elt F) a.view f (nidx S1x256x8x128 (by decide) ![0, (x 2).val, o + (x 1).val % 4, (x 1).val / 4]) := by
  have x1 : (x 1).val < 512 := (x 1).isLt
  have x2 : (x 2).val < 256 := (x 2).isLt
  rw [relay_apply, heads_read]
  have e0 : (nidx S256x4x128 (by decide) ![(x 2).val, (x 1).val % 4, (x 1).val / 4] 0).val = (x 2).val := by
    show (x 2).val % 256 = _
    omega
  have e1 : (nidx S256x4x128 (by decide) ![(x 2).val, (x 1).val % 4, (x 1).val / 4] 1).val = (x 1).val % 4 := by
    show (x 1).val % 4 % 4 = _
    omega
  have e2 : (nidx S256x4x128 (by decide) ![(x 2).val, (x 1).val % 4, (x 1).val / 4] 2).val = (x 1).val / 4 := by
    show (x 1).val / 4 % 128 = _
    omega
  rw [e0, e1, e2]

/-- Row `k * 512 + r` of the kernel's order of the weights. -/
theorem wsrc_quarter (x3 x4 : Vec F S1x256x8x128 .fp8e4m3) (k r d : ℕ) (hr : r < 512) (hk : k < 4) :
    wsrc x3 x4 (512 * k + r) d = (if k < 2 then x3 else x4) (nidx S1x256x8x128 (by decide) ![0, d, 4 * (k % 2) + r % 4, r / 4]) := by
  unfold wsrc
  rw [show (512 * k + r) % 1024 / 512 * 4 + (512 * k + r) % 4 = 4 * (k % 2) + r % 4 by omega, show (512 * k + r) % 512 / 4 = r / 4 by omega]
  by_cases h : k < 2
  · rw [if_pos h, if_pos (by omega)]
  · rw [if_neg h, if_neg (by omega)]

/-- A load of half of one table reads half of one row of scales. -/
theorem tables_read (f : Vec F S3x1024x128 .f32) (x7 x8 x9 : Vec F S1x1x1024 .f32)
    (h : ∀ y : S3x1024x128.Idx, f y = tables x7 x8 x9 (y 0).val (y 1).val) (k hq : ℕ)
    (inb : ∀ a, (![k, 512 * hq, 0] : Fin 3 → ℕ) a + S1x512x128.size a ≤ S3x1024x128.size a) :
    View.readAt (Elt F) (Memref.whole cc0_scratch3).view (Rect.unit (s := S3x1024x128) ![k, 512 * hq, 0] S1x512x128.size inb).toLoadRect f
      = scB (if k = 0 then x7 else if k = 1 then x8 else x9) hq := by
  funext j
  rw [View.readAt_apply]
  refine (h ((Rect.unit (s := S3x1024x128) ![k, 512 * hq, 0] S1x512x128.size inb).toLoadRect.idx j)).trans ?_
  have j0 : (j 0).val < 1 := (j 0).isLt
  have e0 : (((Rect.unit (s := S3x1024x128) ![k, 512 * hq, 0] S1x512x128.size inb).toLoadRect.idx j) 0).val = k := by
    show k + 1 * (j 0).val = k
    omega
  have e1 : (((Rect.unit (s := S3x1024x128) ![k, 512 * hq, 0] S1x512x128.size inb).toLoadRect.idx j) 1).val = 512 * hq + (j 1).val := by
    show 512 * hq + 1 * (j 1).val = _
    omega
  rw [e0, e1]
  rfl

theorem codeK_congr {xs xs' : Vec F S1x128 .f32} {acc acc' : Vec F S1x1x1x512x128 .f32} {ws ws' g g' : Vec F S1x512x128 .f32}
    (h1 : xs = xs') (h2 : acc = acc') (h3 : ws = ws') (h4 : g = g') : codeB (preK xs acc ws g) = codeB (preK xs' acc' ws' g') := by
  subst h1 h2 h3 h4; rfl

theorem codeV_congr {xs xs' : Vec F S1x128 .f32} {acc acc' : Vec F S1x1x1x512x128 .f32} {ws ws' : Vec F S1x512x128 .f32}
    (h1 : xs = xs') (h2 : acc = acc') (h3 : ws = ws') : codeB (preV xs acc ws) = codeB (preV xs' acc' ws') := by
  subst h1 h2 h3; rfl

theorem scaleK_congr {xs xs' : Vec F S1x128 .f32} {acc acc' bcc bcc' : Vec F S1x1x1x512x128 .f32} {ws ws' g g' us us' h h' : Vec F S1x512x128 .f32}
    (h1 : xs = xs') (h2 : acc = acc') (h3 : ws = ws') (h4 : g = g') (h5 : bcc = bcc') (h6 : us = us') (h7 : h = h') :
    scaleB (preK xs acc ws g) (preK xs bcc us h) = scaleB (preK xs' acc' ws' g') (preK xs' bcc' us' h') := by
  subst h1 h2 h3 h4 h5 h6 h7; rfl

theorem scaleV_congr {xs xs' : Vec F S1x128 .f32} {acc acc' bcc bcc' : Vec F S1x1x1x512x128 .f32} {ws ws' us us' : Vec F S1x512x128 .f32}
    (h1 : xs = xs') (h2 : acc = acc') (h3 : ws = ws') (h5 : bcc = bcc') (h6 : us = us') :
    scaleB (preV xs acc ws) (preV xs bcc us) = scaleB (preV xs' acc' ws') (preV xs' bcc' us') := by
  subst h1 h2 h3 h5 h6; rfl

/-- What the store of the tile of tokens puts in its slot. -/
theorem tile_stored {κ : Kind} {sp : Space} (a : Memref sig κ sp S2x256x4096 .fp8e4m3) (f : a.view.ty.Contents (Elt F))
    (inb : ∀ a, (![0, 0, 0] : Fin 3 → ℕ) a + S2x256x4096.size a ≤ S2x256x4096.size a) (x : S1x2x256x4096.Idx) :
    k0_pay6 (View.readAt (Elt F) a.view (Rect.unit (s := S2x256x4096) ![0, 0, 0] S2x256x4096.size inb).toLoadRect f) x
      = View.read (Elt F) a.view f (nidx S2x256x4096 (by decide) ![(x 1).val, (x 2).val, (x 3).val]) := by
  idx_vars x
  pointwise [k0_pay6]
  refine congrArg (View.read (Elt F) a.view f) (nidx_eq _ _ _ _ ?_).symm
  intro a
  fin_cases a
  · show x1.val = 0 + 1 * x1.val; omega
  · show x2.val = 0 + 1 * x2.val; omega
  · show x3.val = 0 + 1 * x3.val; omega

end Cert.KernelIdeal.Hand

end
-- ==== Proof.KernelIdeal.Unroll.lean ====
module

public import proofs.«01_k».proof.Proof.KernelIdeal.Pay

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! The body writes the computation of a block out once for each row of the batch and each half, cut at different places. Each
of these equations says that one of the copies is the block computation. -/

theorem codeK0 (xs : Vec F S1x128 .f32) (acc : Vec F S1x1x1x512x128 .f32) (ws g : Vec F S1x512x128 .f32) :
    k0_pay46 (k0_pay44 (k0_pay42 xs acc ws) (k0_pay43 xs acc ws) g) (k0_pay45 (k0_pay42 xs acc ws) (k0_pay43 xs acc ws) g) = codeB (preK xs acc ws g) := rfl

theorem codeK1 (xs : Vec F S1x128 .f32) (acc : Vec F S1x1x1x512x128 .f32) (ws g : Vec F S1x512x128 .f32) :
    k0_pay52 (k0_pay48 xs acc ws g) (k0_pay49 xs acc ws g) (k0_pay50 xs acc ws g) = codeB (preK xs acc ws g) := rfl

theorem codeK2 (xs : Vec F S1x128 .f32) (acc : Vec F S1x1x1x512x128 .f32) (ws g : Vec F S1x512x128 .f32) :
    k0_pay63 (k0_pay58 (k0_pay56 xs acc ws) (k0_pay57 xs acc ws) (4#32) g) (k0_pay60 (k0_pay56 xs acc ws) (k0_pay57 xs acc ws) (4#32) g) (k0_pay61 (k0_pay56 xs acc ws) (k0_pay57 xs acc ws) (4#32) g) 0#32 = codeB (preK xs acc ws g) := rfl

theorem codeK3 (xs : Vec F S1x128 .f32) (acc : Vec F S1x1x1x512x128 .f32) (ws g : Vec F S1x512x128 .f32) :
    k0_pay73 (k0_pay68 xs acc ws g) (k0_pay69 xs acc ws g) (k0_pay70 xs acc ws g) k0_pay71 = codeB (preK xs acc ws g) := rfl

theorem codeK4 (xs : Vec F S1x128 .f32) (acc : Vec F S1x1x1x512x128 .f32) (ws g : Vec F S1x512x128 .f32) :
    k0_pay103 (k0_pay100 xs acc ws g) (k0_pay101 xs acc ws g) (iota .tc S246x4x8x128 32 [0] iota_S246x4x8x128_d0_w32) = codeB (preK xs acc ws g) := rfl

theorem codeK5 (xs : Vec F S1x128 .f32) (acc : Vec F S1x1x1x512x128 .f32) (ws g : Vec F S1x512x128 .f32) :
    k0_pay110 (k0_pay107 (k0_pay105 xs acc ws) (k0_pay106 xs acc ws) g) (k0_pay109 (k0_pay105 xs acc ws) (k0_pay106 xs acc ws) g) = codeB (preK xs acc ws g) := rfl

theorem codeK6 (xs : Vec F S1x128 .f32) (acc : Vec F S1x1x1x512x128 .f32) (ws g : Vec F S1x512x128 .f32) :
    k0_pay118 (k0_pay117 (k0_pay113 xs acc ws g) (k0_pay114 xs acc ws g) k0_pay115) = codeB (preK xs acc ws g) := rfl

theorem codeK7 (xs : Vec F S1x128 .f32) (acc : Vec F S1x1x1x512x128 .f32) (ws g : Vec F S1x512x128 .f32) :
    k0_pay125 (k0_pay122 (k0_pay120 xs acc ws) (k0_pay121 xs acc ws) (Scalar.ofBits .f32 0x3727C5AC#32) g) (k0_pay124 (k0_pay120 xs acc ws) (k0_pay121 xs acc ws) (Scalar.ofBits .f32 0x3727C5AC#32) g) 23#32 = codeB (preK xs acc ws g) := rfl

theorem codeV0 (xs : Vec F S1x128 .f32) (acc : Vec F S1x1x1x512x128 .f32) (ws : Vec F S1x512x128 .f32) :
    k0_pay81 (k0_pay80 (k0_pay77 xs acc ws) (k0_pay78 xs acc ws)) = codeB (preV xs acc ws) := rfl

theorem codeV1 (xs : Vec F S1x128 .f32) (acc : Vec F S1x1x1x512x128 .f32) (ws : Vec F S1x512x128 .f32) :
    k0_pay87 (k0_pay86 (k0_pay83 xs acc ws) (k0_pay84 xs acc ws) 4#32) = codeB (preV xs acc ws) := rfl

theorem codeV2 (xs : Vec F S1x128 .f32) (acc : Vec F S1x1x1x512x128 .f32) (ws : Vec F S1x512x128 .f32) :
    k0_pay92 (k0_pay89 xs acc ws) (k0_pay91 xs acc ws) = codeB (preV xs acc ws) := rfl

theorem codeV3 (xs : Vec F S1x128 .f32) (acc : Vec F S1x1x1x512x128 .f32) (ws : Vec F S1x512x128 .f32) :
    k0_pay97 (k0_pay94 xs acc ws) (k0_pay96 xs acc ws) = codeB (preV xs acc ws) := rfl

theorem codeV4 (xs : Vec F S1x128 .f32) (acc : Vec F S1x1x1x512x128 .f32) (ws : Vec F S1x512x128 .f32) :
    k0_pay131 (k0_pay128 xs acc ws) (k0_pay129 xs acc ws) 0#32 = codeB (preV xs acc ws) := rfl

theorem codeV5 (xs : Vec F S1x128 .f32) (acc : Vec F S1x1x1x512x128 .f32) (ws : Vec F S1x512x128 .f32) :
    k0_pay139 (k0_pay135 xs acc ws) (k0_pay136 xs acc ws) (k0_pay137 xs acc ws) = codeB (preV xs acc ws) := rfl

theorem codeV6 (xs : Vec F S1x128 .f32) (acc : Vec F S1x1x1x512x128 .f32) (ws : Vec F S1x512x128 .f32) :
    k0_pay149 (k0_pay143 xs acc ws) (k0_pay144 xs acc ws) k0_pay145 (k0_pay146 xs acc ws) k0_pay147 = codeB (preV xs acc ws) := rfl

theorem codeV7 (xs : Vec F S1x128 .f32) (acc : Vec F S1x1x1x512x128 .f32) (ws : Vec F S1x512x128 .f32) :
    k0_pay158 (k0_pay153 xs acc ws) (k0_pay154 xs acc ws) (k0_pay155 xs acc ws) k0_pay156 = codeB (preV xs acc ws) := rfl

theorem scaleK0 (xs : Vec F S1x128 .f32) (a0 a1 : Vec F S1x1x1x512x128 .f32) (w0 w1 g0 g1 : Vec F S1x512x128 .f32) :
    k0_pay55 (iota .tc S8x128 32 [0] iota_S8x128_d0_w32) (k0_pay47 (k0_pay45 (k0_pay42 xs a0 w0) (k0_pay43 xs a0 w0) g0)) (k0_pay51 (k0_pay49 xs a1 w1 g1) (k0_pay50 xs a1 w1 g1)) (k0_pay53 (k0_pay49 xs a1 w1 g1) (k0_pay50 xs a1 w1 g1)) (k0_pay54 (k0_pay49 xs a1 w1 g1) (k0_pay50 xs a1 w1 g1)) = scaleB (preK xs a0 w0 g0) (preK xs a1 w1 g1) := rfl

theorem scaleK1 (xs : Vec F S1x128 .f32) (a0 a1 : Vec F S1x1x1x512x128 .f32) (w0 w1 g0 g1 : Vec F S1x512x128 .f32) :
    k0_pay76 (iota .tc S8x128 32 [0] iota_S8x128_d0_w32) (k0_pay67 (k0_pay64 (k0_pay60 (k0_pay56 xs a0 w0) (k0_pay57 xs a0 w0) (4#32) g0) (k0_pay61 (k0_pay56 xs a0 w0) (k0_pay57 xs a0 w0) (4#32) g0) 0#32) (k0_pay65 (k0_pay60 (k0_pay56 xs a0 w0) (k0_pay57 xs a0 w0) (4#32) g0) (k0_pay61 (k0_pay56 xs a0 w0) (k0_pay57 xs a0 w0) (4#32) g0) 0#32) k0_pay66) (k0_pay72 (k0_pay69 xs a1 w1 g1) (k0_pay70 xs a1 w1 g1) k0_pay71) (k0_pay74 (k0_pay69 xs a1 w1 g1) (k0_pay70 xs a1 w1 g1) k0_pay71) (k0_pay75 (k0_pay69 xs a1 w1 g1) (k0_pay70 xs a1 w1 g1) k0_pay71) 127#32 = scaleB (preK xs a0 w0 g0) (preK xs a1 w1 g1) := rfl

theorem scaleK2 (xs : Vec F S1x128 .f32) (a0 a1 : Vec F S1x1x1x512x128 .f32) (w0 w1 g0 g1 : Vec F S1x512x128 .f32) :
    k0_pay112 (k0_pay111 (iota .tc S8x128 32 [0] iota_S8x128_d0_w32) (k0_pay104 (k0_pay102 (k0_pay101 xs a0 w0 g0) (iota .tc S246x4x8x128 32 [0] iota_S246x4x8x128_d0_w32))) (k0_pay108 (k0_pay105 xs a1 w1) (k0_pay106 xs a1 w1) g1)) = scaleB (preK xs a0 w0 g0) (preK xs a1 w1 g1) := rfl

theorem scaleK3 (xs : Vec F S1x128 .f32) (a0 a1 : Vec F S1x1x1x512x128 .f32) (w0 w1 g0 g1 : Vec F S1x512x128 .f32) :
    k0_pay127 (k0_pay126 (iota .tc S8x128 32 [0] iota_S8x128_d0_w32) (k0_pay119 (k0_pay116 (k0_pay114 xs a0 w0 g0) k0_pay115)) (k0_pay123 (k0_pay120 xs a1 w1) (k0_pay121 xs a1 w1) (Scalar.ofBits .f32 0x3727C5AC#32) g1)) = scaleB (preK xs a0 w0 g0) (preK xs a1 w1 g1) := rfl

theorem scaleV0 (xs : Vec F S1x128 .f32) (a0 a1 : Vec F S1x1x1x512x128 .f32) (w0 w1 : Vec F S1x512x128 .f32) :
    k0_pay88 (iota .tc S8x128 32 [0] iota_S8x128_d0_w32) (k0_pay82 (k0_pay79 (k0_pay78 xs a0 w0))) (k0_pay85 (k0_pay84 xs a1 w1) 4#32) = scaleB (preV xs a0 w0) (preV xs a1 w1) := rfl

theorem scaleV1 (xs : Vec F S1x128 .f32) (a0 a1 : Vec F S1x1x1x512x128 .f32) (w0 w1 : Vec F S1x512x128 .f32) :
    k0_pay99 (k0_pay98 (iota .tc S8x128 32 [0] iota_S8x128_d0_w32) (k0_pay93 (k0_pay90 xs a0 w0)) (k0_pay95 xs a1 w1)) = scaleB (preV xs a0 w0) (preV xs a1 w1) := rfl

theorem scaleV2 (xs : Vec F S1x128 .f32) (a0 a1 : Vec F S1x1x1x512x128 .f32) (w0 w1 : Vec F S1x512x128 .f32) :
    k0_pay142 (iota .tc S8x128 32 [0] iota_S8x128_d0_w32) (k0_pay134 (k0_pay130 (k0_pay129 xs a0 w0) 0#32) (k0_pay132 (k0_pay129 xs a0 w0) 0#32) (k0_pay133 (k0_pay129 xs a0 w0) 0#32) 16#32) (k0_pay138 (k0_pay136 xs a1 w1) (k0_pay137 xs a1 w1)) (k0_pay140 (k0_pay136 xs a1 w1) (k0_pay137 xs a1 w1)) (k0_pay141 (k0_pay136 xs a1 w1) (k0_pay137 xs a1 w1)) = scaleB (preV xs a0 w0) (preV xs a1 w1) := rfl

theorem scaleV3 (xs : Vec F S1x128 .f32) (a0 a1 : Vec F S1x1x1x512x128 .f32) (w0 w1 : Vec F S1x512x128 .f32) :
    k0_pay1 (iota .tc S8x128 32 [0] iota_S8x128_d0_w32) (k0_pay152 (k0_pay148 (k0_pay144 xs a0 w0) k0_pay145 (k0_pay146 xs a0 w0) k0_pay147) (k0_pay150 (k0_pay144 xs a0 w0) k0_pay145 (k0_pay146 xs a0 w0) k0_pay147) (k0_pay151 (k0_pay144 xs a0 w0) k0_pay145 (k0_pay146 xs a0 w0) k0_pay147)) (k0_pay157 (k0_pay154 xs a1 w1) (k0_pay155 xs a1 w1) k0_pay156) (k0_pay161 (k0_pay159 (k0_pay154 xs a1 w1) (k0_pay155 xs a1 w1) k0_pay156) (k0_pay160 (k0_pay154 xs a1 w1) (k0_pay155 xs a1 w1) k0_pay156) 127#32) (k0_pay162 (k0_pay157 (k0_pay154 xs a1 w1) (k0_pay155 xs a1 w1) k0_pay156)) 16#32 = scaleB (preV xs a0 w0) (preV xs a1 w1) := rfl

theorem dot3 (ws : Vec F S1x1024x4096 .fp8e4m3) (x : Vec F S1x1x256x4096 .fp8e4m3) : k0_pay41 (k0_pay40 ws) x = k0_pay38 ws x := rfl

theorem dot2 (ws : Vec F S1x1024x4096 .fp8e4m3) (x : Vec F S1x1x256x4096 .fp8e4m3) : k0_pay39 ws x = k0_pay38 ws x := rfl

theorem dot0 (ws : Vec F S1x1024x4096 .fp8e4m3) (x : Vec F S1x1x256x4096 .fp8e4m3) :
    k0_pay37 (k0_pay35 ws) (k0_pay36 x) (constant S1024x256 .f32 0x00000000#32) = k0_pay38 ws x := rfl

/-! Reading the whole of a buffer is the buffer. -/

theorem whole0 {f : Vec F S2x2048x4096 .fp8e4m3} {y : S2x2048x4096.Idx} {a : Elt F .fp8e4m3}
    (h : View.read (Elt F) (Memref.whole cc0_scratch0).view f y = a) : f y = a := h

theorem whole1 {f : Vec F S2x2x256x4096 .fp8e4m3} {y : S2x2x256x4096.Idx} {a : Elt F .fp8e4m3}
    (h : View.read (Elt F) (Memref.whole cc0_scratch1).view f y = a) : f y = a := h

theorem whole2 {f : Vec F S2x2x2x1024x256 .f32} {y : S2x2x2x1024x256.Idx} {a : Elt F .f32}
    (h : View.read (Elt F) (Memref.whole cc0_scratch2).view f y = a) : f y = a := h

theorem whole3 {f : Vec F S3x1024x128 .f32} {y : S3x1024x128.Idx} {a : Elt F .f32}
    (h : View.read (Elt F) (Memref.whole cc0_scratch3).view f y = a) : f y = a := h

end Cert.KernelIdeal.Hand

end
-- ==== Proof.KernelIdeal.Offs.lean ====
module

public import proofs.«01_k».proof.Proof.Gen.KernelIdeal.Loops
public import Idealize.ShloMosaic.Lib.Exec

@[expose] public section

set_option maxRecDepth 16384

noncomputable section

/-! # The body's offsets in closed form

Each offset that the body computes from the grid point, as a vector of plain arithmetic in the point's number. The four
quantities are: the slot of the current step, the slot of the step before, the weight slot in use, and the weight slot
being filled with the column it is filled at. -/

namespace Cert.KernelIdeal.Hand

open Cert.KernelIdeal Cert.KernelIdeal.Gen Idealize.ShloMosaic

/-- The point's number. -/
abbrev pnt (i : grid0.Coords) : Nat := (i 0).val

theorem off6_eq : ∀ i : grid0.Coords, k0_off6 i = ![pnt i % 2, 0, 0, 0] := by decide +kernel
instance (i : grid0.Coords) : ClosedOff (k0_off6 i) := ⟨![pnt i % 2, 0, 0, 0], off6_eq i⟩
theorem off7_eq : ∀ i : grid0.Coords, k0_off7 i = ![((pnt i - 1) / 26 + 1) % 2, 0, min ((pnt i - 1) % 26) 15 * 256] := by decide +kernel
instance (i : grid0.Coords) : ClosedOff (k0_off7 i) := ⟨![((pnt i - 1) / 26 + 1) % 2, 0, min ((pnt i - 1) % 26) 15 * 256], off7_eq i⟩
theorem off8_eq : ∀ i : grid0.Coords, k0_off8 i = ![((pnt i - 1) / 26 + 1) % 2, 512, min ((pnt i - 1) % 26) 15 * 256] := by decide +kernel
instance (i : grid0.Coords) : ClosedOff (k0_off8 i) := ⟨![((pnt i - 1) / 26 + 1) % 2, 512, min ((pnt i - 1) % 26) 15 * 256], off8_eq i⟩
theorem off9_eq : ∀ i : grid0.Coords, k0_off9 i = ![((pnt i - 1) / 26 + 1) % 2, 1024, min ((pnt i - 1) % 26) 15 * 256] := by decide +kernel
instance (i : grid0.Coords) : ClosedOff (k0_off9 i) := ⟨![((pnt i - 1) / 26 + 1) % 2, 1024, min ((pnt i - 1) % 26) 15 * 256], off9_eq i⟩
theorem off10_eq : ∀ i : grid0.Coords, k0_off10 i = ![((pnt i - 1) / 26 + 1) % 2, 1536, min ((pnt i - 1) % 26) 15 * 256] := by decide +kernel
instance (i : grid0.Coords) : ClosedOff (k0_off10 i) := ⟨![((pnt i - 1) / 26 + 1) % 2, 1536, min ((pnt i - 1) % 26) 15 * 256], off10_eq i⟩
theorem off11_eq : ∀ i : grid0.Coords, k0_off11 i = ![((pnt i - 1) / 26) % 2, 0, 0] := by decide +kernel
instance (i : grid0.Coords) : ClosedOff (k0_off11 i) := ⟨![((pnt i - 1) / 26) % 2, 0, 0], off11_eq i⟩
theorem off12_eq : ∀ i : grid0.Coords, k0_off12 i = ![(pnt i + 1) % 2, 0, 0, 0] := by decide +kernel
instance (i : grid0.Coords) : ClosedOff (k0_off12 i) := ⟨![(pnt i + 1) % 2, 0, 0, 0], off12_eq i⟩
theorem off13_eq : ∀ i : grid0.Coords, k0_off13 i = ![pnt i % 2, 0, 0, 0, 0] := by decide +kernel
instance (i : grid0.Coords) : ClosedOff (k0_off13 i) := ⟨![pnt i % 2, 0, 0, 0, 0], off13_eq i⟩
theorem off14_eq : ∀ i : grid0.Coords, k0_off14 i = ![((pnt i - 1) / 26) % 2, 1024, 0] := by decide +kernel
instance (i : grid0.Coords) : ClosedOff (k0_off14 i) := ⟨![((pnt i - 1) / 26) % 2, 1024, 0], off14_eq i⟩
theorem off15_eq : ∀ i : grid0.Coords, k0_off15 i = ![pnt i % 2, 0, 1, 0, 0] := by decide +kernel
instance (i : grid0.Coords) : ClosedOff (k0_off15 i) := ⟨![pnt i % 2, 0, 1, 0, 0], off15_eq i⟩
theorem off16_eq : ∀ i : grid0.Coords, k0_off16 i = ![(pnt i + 1) % 2, 1, 0, 0] := by decide +kernel
instance (i : grid0.Coords) : ClosedOff (k0_off16 i) := ⟨![(pnt i + 1) % 2, 1, 0, 0], off16_eq i⟩
theorem off17_eq : ∀ i : grid0.Coords, k0_off17 i = ![pnt i % 2, 1, 0, 0, 0] := by decide +kernel
instance (i : grid0.Coords) : ClosedOff (k0_off17 i) := ⟨![pnt i % 2, 1, 0, 0, 0], off17_eq i⟩
theorem off18_eq : ∀ i : grid0.Coords, k0_off18 i = ![pnt i % 2, 1, 1, 0, 0] := by decide +kernel
instance (i : grid0.Coords) : ClosedOff (k0_off18 i) := ⟨![pnt i % 2, 1, 1, 0, 0], off18_eq i⟩
theorem off19_eq : ∀ i : grid0.Coords, k0_off19 i = ![(pnt i + 1) % 2, 0, 0, 0, 0] := by decide +kernel
instance (i : grid0.Coords) : ClosedOff (k0_off19 i) := ⟨![(pnt i + 1) % 2, 0, 0, 0, 0], off19_eq i⟩
theorem off20_eq : ∀ i : grid0.Coords, k0_off20 i = ![(pnt i + 1) % 2, 0, 0, 512, 0] := by decide +kernel
instance (i : grid0.Coords) : ClosedOff (k0_off20 i) := ⟨![(pnt i + 1) % 2, 0, 0, 512, 0], off20_eq i⟩
theorem off21_eq : ∀ i : grid0.Coords, k0_off21 i = ![(pnt i + 1) % 2, 0, 0, 0, 128] := by decide +kernel
instance (i : grid0.Coords) : ClosedOff (k0_off21 i) := ⟨![(pnt i + 1) % 2, 0, 0, 0, 128], off21_eq i⟩
theorem off22_eq : ∀ i : grid0.Coords, k0_off22 i = ![(pnt i + 1) % 2, 0, 0, 512, 128] := by decide +kernel
instance (i : grid0.Coords) : ClosedOff (k0_off22 i) := ⟨![(pnt i + 1) % 2, 0, 0, 512, 128], off22_eq i⟩
theorem off23_eq : ∀ i : grid0.Coords, k0_off23 i = ![(pnt i + 1) % 2, 0, 1, 0, 0] := by decide +kernel
instance (i : grid0.Coords) : ClosedOff (k0_off23 i) := ⟨![(pnt i + 1) % 2, 0, 1, 0, 0], off23_eq i⟩
theorem off24_eq : ∀ i : grid0.Coords, k0_off24 i = ![(pnt i + 1) % 2, 0, 1, 512, 0] := by decide +kernel
instance (i : grid0.Coords) : ClosedOff (k0_off24 i) := ⟨![(pnt i + 1) % 2, 0, 1, 512, 0], off24_eq i⟩
theorem off25_eq : ∀ i : grid0.Coords, k0_off25 i = ![(pnt i + 1) % 2, 0, 1, 0, 128] := by decide +kernel
instance (i : grid0.Coords) : ClosedOff (k0_off25 i) := ⟨![(pnt i + 1) % 2, 0, 1, 0, 128], off25_eq i⟩
theorem off26_eq : ∀ i : grid0.Coords, k0_off26 i = ![(pnt i + 1) % 2, 0, 1, 512, 128] := by decide +kernel
instance (i : grid0.Coords) : ClosedOff (k0_off26 i) := ⟨![(pnt i + 1) % 2, 0, 1, 512, 128], off26_eq i⟩
theorem off27_eq : ∀ i : grid0.Coords, k0_off27 i = ![(pnt i + 1) % 2, 1, 0, 0, 0] := by decide +kernel
instance (i : grid0.Coords) : ClosedOff (k0_off27 i) := ⟨![(pnt i + 1) % 2, 1, 0, 0, 0], off27_eq i⟩
theorem off28_eq : ∀ i : grid0.Coords, k0_off28 i = ![(pnt i + 1) % 2, 1, 0, 512, 0] := by decide +kernel
instance (i : grid0.Coords) : ClosedOff (k0_off28 i) := ⟨![(pnt i + 1) % 2, 1, 0, 512, 0], off28_eq i⟩
theorem off29_eq : ∀ i : grid0.Coords, k0_off29 i = ![(pnt i + 1) % 2, 1, 0, 0, 128] := by decide +kernel
instance (i : grid0.Coords) : ClosedOff (k0_off29 i) := ⟨![(pnt i + 1) % 2, 1, 0, 0, 128], off29_eq i⟩
theorem off30_eq : ∀ i : grid0.Coords, k0_off30 i = ![(pnt i + 1) % 2, 1, 0, 512, 128] := by decide +kernel
instance (i : grid0.Coords) : ClosedOff (k0_off30 i) := ⟨![(pnt i + 1) % 2, 1, 0, 512, 128], off30_eq i⟩
theorem off31_eq : ∀ i : grid0.Coords, k0_off31 i = ![(pnt i + 1) % 2, 1, 1, 0, 0] := by decide +kernel
instance (i : grid0.Coords) : ClosedOff (k0_off31 i) := ⟨![(pnt i + 1) % 2, 1, 1, 0, 0], off31_eq i⟩
theorem off32_eq : ∀ i : grid0.Coords, k0_off32 i = ![(pnt i + 1) % 2, 1, 1, 512, 0] := by decide +kernel
instance (i : grid0.Coords) : ClosedOff (k0_off32 i) := ⟨![(pnt i + 1) % 2, 1, 1, 512, 0], off32_eq i⟩
theorem off33_eq : ∀ i : grid0.Coords, k0_off33 i = ![(pnt i + 1) % 2, 1, 1, 0, 128] := by decide +kernel
instance (i : grid0.Coords) : ClosedOff (k0_off33 i) := ⟨![(pnt i + 1) % 2, 1, 1, 0, 128], off33_eq i⟩
theorem off34_eq : ∀ i : grid0.Coords, k0_off34 i = ![(pnt i + 1) % 2, 1, 1, 512, 128] := by decide +kernel
instance (i : grid0.Coords) : ClosedOff (k0_off34 i) := ⟨![(pnt i + 1) % 2, 1, 1, 512, 128], off34_eq i⟩

/-- The copy loop runs at point 0 only. -/
theorem cond1_iff : ∀ i : grid0.Coords, k0_cond1 i = 1#1 ↔ pnt i = 0 := by decide +kernel

end Cert.KernelIdeal.Hand

end
-- ==== Proof.KernelIdeal.Body.lean ====
module

public import proofs.«01_k».proof.Proof.KernelIdeal.Unroll
public import proofs.«01_k».proof.Proof.KernelIdeal.Offs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 40000000 in
theorem kernelRun (c : Dev nD) (i : grid0.Coords) (arg1 : Memref sig .tc .vmem S2x256x4096 .fp8e4m3) (harg1 : arg1.IsWhole) (arg2 : Memref sig .tc .vmem S2x256 .f32) (harg2 : arg2.IsWhole) (arg3 : Memref sig .tc .vmem S1x256x8x128 .fp8e4m3) (harg3 : arg3.IsWhole) (arg4 : Memref sig .tc .vmem S1x256x8x128 .fp8e4m3) (harg4 : arg4.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x2x256x8x128 .fp8e4m3) (harg10 : arg10.IsWhole) (arg11 : Memref sig .tc .vmem S1x2x8x4x256 .i8) (harg11 : arg11.IsWhole) (arg12 : Memref sig .tc .vmem S1x2x256x8x128 .fp8e4m3) (harg12 : arg12.IsWhole) (arg13 : Memref sig .tc .vmem S1x2x8x4x256 .i8) (harg13 : arg13.IsWhole)
    (x1 : Vec F S2x256x4096 .fp8e4m3) (x2 : Vec F S2x256 .f32) (x3 : Vec F S1x256x8x128 .fp8e4m3) (x4 : Vec F S1x256x8x128 .fp8e4m3) (x7 : Vec F S1x1x1024 .f32) (x8 : Vec F S1x1x1024 .f32) (x9 : Vec F S1x1x1024 .f32)
    (f5 : Bf F c (Memref.whole main_arg2)) (f6 : Bf F c (Memref.whole main_arg4)) (f14 : Bf F c (Memref.whole cc0_scratch0)) (f15 : Bf F c (Memref.whole cc0_scratch1)) (f16 : Bf F c (Memref.whole cc0_scratch2)) (f17 : Bf F c (Memref.whole cc0_scratch3)) (f18 : Bf F c (Memref.whole cc0_scratch4))
    (q5 q6 : PosShare TreeShare) (hc : ¬ k0_cond1 i = 1#1)
    (W : Waits sig Unit) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ ptq c (Memref.whole main_arg2) q5 f5 ∗ ptq c (Memref.whole main_arg4) q6 f6 ∗ owns (c : Thread nD τ) arg7 fullShare x7 ∗ owns (c : Thread nD τ) arg8 fullShare x8 ∗ owns (c : Thread nD τ) arg9 fullShare x9
      ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ pt c (Memref.whole cc0_scratch0) f14 ∗ pt c (Memref.whole cc0_scratch1) f15 ∗ pt c (Memref.whole cc0_scratch2) f16 ∗ pt c (Memref.whole cc0_scratch3) f17 ∗ pt c (Memref.whole cc0_scratch4) f18
      ∗ semVal ((c : Thread nD τ), osem 0) 0 ∗ semVal ((c : Thread nD τ), osem 1) 0 ∗ owes (c : Thread nD τ) 0 W
      ∗ (iprop(owns (c : Thread nD τ) arg1 fullShare x1 ∗ owns (c : Thread nD τ) arg2 fullShare x2 ∗ owns (c : Thread nD τ) arg3 fullShare x3 ∗ owns (c : Thread nD τ) arg4 fullShare x4 ∗ ptq c (Memref.whole main_arg2) q5 f5 ∗ ptq c (Memref.whole main_arg4) q6 f6 ∗ owns (c : Thread nD τ) arg7 fullShare x7 ∗ owns (c : Thread nD τ) arg8 fullShare x8 ∗ owns (c : Thread nD τ) arg9 fullShare x9
          ∗ ∃ X10 X11 X12 X13 g14 g15 g16, ⌜KRel c i x1 x2 x3 x4 x7 x8 x9 f5 f6 f14 f15 f16 X10 X11 X12 X13 g14 g15 g16⌝
          ∗ owns (c : Thread nD τ) arg10 fullShare X10 ∗ owns (c : Thread nD τ) arg11 fullShare X11 ∗ owns (c : Thread nD τ) arg12 fullShare X12 ∗ owns (c : Thread nD τ) arg13 fullShare X13
          ∗ pt c (Memref.whole cc0_scratch0) g14 ∗ pt c (Memref.whole cc0_scratch1) g15 ∗ pt c (Memref.whole cc0_scratch2) g16
          ∗ (∃ f, pt c (Memref.whole cc0_scratch3) f) ∗ (∃ f, pt c (Memref.whole cc0_scratch4) f)
          ∗ semVal ((c : Thread nD τ), osem 0) 0 ∗ semVal ((c : Thread nD τ), osem 1) 0 ∗ ∃ W, owes (c : Thread nD τ) 0 W) -∗ Q ⟨⟩))
    ⊢ wp frame (wpE (defs₀ (F := F)) Variants.none c none) Set.univ (cc0_kv_fill i arg1 harg1 arg2 harg2 arg3 harg3 arg4 harg4 (Memref.whole main_arg2) (Memref.isWhole_whole _) (Memref.whole main_arg4) (Memref.isWhole_whole _) arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5) Q := by
  simp only [cc0_kv_fill_eq_skeleton]; unfold cc0_kv_fill_skel
  simp only [k0_part51_eq_skeleton]; unfold k0_part51_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold owns
  iintro ⟨⟨%f1, %hf1, H1⟩, ⟨%f2, %hf2, H2⟩, ⟨%f3, %hf3, H3⟩, ⟨%f4, %hf4, H4⟩, H5, H6, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, H14, H15, H16, H17, H18, Hd0, Hd1, HO, Hk⟩
  subst hf1 hf2 hf3 hf4 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]; · iexact H5
  isplitl [H6]; · iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _, _, _, _, _, _, _
  isplitr; swap
  · isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]; · iexact H14
    isplitl [H15]; · iexact H15
    isplitl [H16]; · iexact H16
    isplitl [H17]; · iexists _; iexact H17
    isplitl [H18]; · iexists _; iexact H18
    isplitl [Hd0]; · iexact Hd0
    isplitl [Hd1]; · iexact Hd1
    iexists _; iexact HO
  ipureintro
  have htab : ∀ y : S3x1024x128.Idx, ((Memref.whole cc0_scratch3).view.writes (Elt F) (Memref.whole cc0_scratch3).view.junk
      (kernelRun.sl.H17_24 c arg7 arg8 arg9 f7 f8 f9) : Vec F S3x1024x128 .f32) y
      = tables (View.read (Elt F) arg7.view f7) (View.read (Elt F) arg8.view f8) (View.read (Elt F) arg9.view f9) (y 0).val (y 1).val := by
    intro y
    have y0 : (y 0).val < 3 := (y 0).isLt
    refine whole3 ?_
    unfold kernelRun.sl.H17_24
    rcases (by omega : (y 0).val = 0 ∨ (y 0).val = 1 ∨ (y 0).val = 2) with h | h | h
    · rw [h]
      rw [rows_kept (Memref.whole cc0_scratch3).view _ 2 _ y (by omega), rows_kept (Memref.whole cc0_scratch3).view _ 1 _ y (by omega)]
      refine rows_written (Memref.whole cc0_scratch3).view _ (tables (View.read (Elt F) arg7.view f7) (View.read (Elt F) arg8.view f8) (View.read (Elt F) arg9.view f9) 0) 0 ?_ ?_ ?_ ?_ ?_ ?_ ?_ ?_ _ y h
      · exact fun x => row_stored arg7 f7 896 _ x
      · exact fun x => row_stored arg7 f7 768 _ x
      · exact fun x => row_stored arg7 f7 640 _ x
      · exact fun x => row_stored arg7 f7 512 _ x
      · exact fun x => row_stored arg7 f7 384 _ x
      · exact fun x => row_stored arg7 f7 256 _ x
      · exact fun x => row_stored arg7 f7 128 _ x
      · exact fun x => row_stored arg7 f7 0 _ x
    · rw [h]
      rw [rows_kept (Memref.whole cc0_scratch3).view _ 2 _ y (by omega)]
      refine rows_written (Memref.whole cc0_scratch3).view _ (tables (View.read (Elt F) arg7.view f7) (View.read (Elt F) arg8.view f8) (View.read (Elt F) arg9.view f9) 1) 1 ?_ ?_ ?_ ?_ ?_ ?_ ?_ ?_ _ y h
      · exact fun x => row_stored arg8 f8 896 _ x
      · exact fun x => row_stored arg8 f8 768 _ x
      · exact fun x => row_stored arg8 f8 640 _ x
      · exact fun x => row_stored arg8 f8 512 _ x
      · exact fun x => row_stored arg8 f8 384 _ x
      · exact fun x => row_stored arg8 f8 256 _ x
      · exact fun x => row_stored arg8 f8 128 _ x
      · exact fun x => row_stored arg8 f8 0 _ x
    · rw [h]
      refine rows_written (Memref.whole cc0_scratch3).view _ (tables (View.read (Elt F) arg7.view f7) (View.read (Elt F) arg8.view f8) (View.read (Elt F) arg9.view f9) 2) 2 ?_ ?_ ?_ ?_ ?_ ?_ ?_ ?_ _ y h
      · exact fun x => row_stored arg9 f9 896 _ x
      · exact fun x => row_stored arg9 f9 768 _ x
      · exact fun x => row_stored arg9 f9 640 _ x
      · exact fun x => row_stored arg9 f9 512 _ x
      · exact fun x => row_stored arg9 f9 384 _ x
      · exact fun x => row_stored arg9 f9 256 _ x
      · exact fun x => row_stored arg9 f9 128 _ x
      · exact fun x => row_stored arg9 f9 0 _ x
  have hv386 : kernelRun.sl.v386 c arg7 arg8 arg9 f7 f8 f9 = scB (View.read (Elt F) arg7.view f7) 0 :=
    tables_read _ _ _ _ htab 0 0 _
  have hv403 : kernelRun.sl.v403 c arg7 arg8 arg9 f7 f8 f9 = scB (View.read (Elt F) arg9.view f9) 0 :=
    tables_read _ _ _ _ htab 2 0 _
  have hv485 : kernelRun.sl.v485 c arg7 arg8 arg9 f7 f8 f9 = scB (View.read (Elt F) arg7.view f7) 1 :=
    tables_read _ _ _ _ htab 0 1 _
  have hv502 : kernelRun.sl.v502 c arg7 arg8 arg9 f7 f8 f9 = scB (View.read (Elt F) arg9.view f9) 1 :=
    tables_read _ _ _ _ htab 2 1 _
  have hv800 : kernelRun.sl.v800 c arg7 arg8 arg9 f7 f8 f9 = scB (View.read (Elt F) arg8.view f8) 0 :=
    tables_read _ _ _ _ htab 1 0 _
  have hv882 : kernelRun.sl.v882 c arg7 arg8 arg9 f7 f8 f9 = scB (View.read (Elt F) arg8.view f8) 1 :=
    tables_read _ _ _ _ htab 1 1 _
  constructor
  case tile =>
    intro y hy
    refine whole1 ?_
    refine tile_written (Memref.whole cc0_scratch1).view f15 (View.read (Elt F) arg1.view f1) (pnt i % 2) (off6_eq i) ?_ y hy
    exact fun x => tile_stored arg1 f1 _ x
  case tile' =>
    intro y hy
    refine whole1 ?_
    exact tile_kept (Memref.whole cc0_scratch1).view f15 (pnt i % 2) (off6_eq i) y hy
  case wts =>
    intro y hy0 hy2
    refine whole0 ?_
    refine wts_written (Memref.whole cc0_scratch0).view f14 (wsrc (View.read (Elt F) arg3.view f3) (View.read (Elt F) arg4.view f4))
      _ _ (off10_eq i) (off9_eq i) (off8_eq i) (off7_eq i) ?_ ?_ ?_ ?_ y hy0 hy2
    · exact fun x => (heads_stored arg4 f4 4 _ x).trans (wsrc_quarter (View.read (Elt F) arg3.view f3) (View.read (Elt F) arg4.view f4) 3 (x 1).val (x 2).val (x 1).isLt (by omega)).symm
    · exact fun x => (heads_stored arg4 f4 0 _ x).trans (wsrc_quarter (View.read (Elt F) arg3.view f3) (View.read (Elt F) arg4.view f4) 2 (x 1).val (x 2).val (x 1).isLt (by omega)).symm
    · exact fun x => (heads_stored arg3 f3 4 _ x).trans (wsrc_quarter (View.read (Elt F) arg3.view f3) (View.read (Elt F) arg4.view f4) 1 (x 1).val (x 2).val (x 1).isLt (by omega)).symm
    · exact fun x => (heads_stored arg3 f3 0 _ x).trans (wsrc_quarter (View.read (Elt F) arg3.view f3) (View.read (Elt F) arg4.view f4) 0 (x 1).val (x 2).val (x 1).isLt (by omega)).symm
  case wts' =>
    intro _ y hy
    refine whole0 ?_
    exact wts_kept (Memref.whole cc0_scratch0).view f14 _ _ (off10_eq i) (off9_eq i) (off8_eq i) (off7_eq i) y hy
  case wts0 => exact fun h => absurd ((cond1_iff i).mpr h) hc
  case acc =>
    intro y hy
    refine whole2 ?_
    refine accs_written (Memref.whole cc0_scratch2).view f16 (fun b kv => k0_pay38 (wB ((Memref.whole cc0_scratch0).view.writes (Elt F) f14 (kernelRun.sl.H14_4 c i arg3 arg4 f3 f4)) ((pnt i - 1) / 26 % 2) kv)
      (xB ((Memref.whole cc0_scratch1).view.writes (Elt F) f15 (kernelRun.sl.H15_1 c i arg1 f1)) ((pnt i + 1) % 2) b)) (pnt i % 2) (off18_eq i) (off17_eq i) (off15_eq i) (off13_eq i) ?_ ?_ ?_ ?_ y hy
    · exact (dot3 _ _).trans (congrArg₂ k0_pay38 (w_read _ _ 1 _ (off14_eq i) _) (x_read _ _ 1 _ (off16_eq i) _))
    · exact (dot2 _ _).trans (congrArg₂ k0_pay38 (w_read _ _ 0 _ (off11_eq i) _) (x_read _ _ 1 _ (off16_eq i) _))
    · exact congrArg₂ k0_pay38 (w_read _ _ 1 _ (off14_eq i) _) (x_read _ _ 0 _ (off12_eq i) _)
    · exact (dot0 _ _).trans (congrArg₂ k0_pay38 (w_read _ _ 0 _ (off11_eq i) _) (x_read _ _ 0 _ (off12_eq i) _))
  case acc' =>
    intro y hy
    refine whole2 ?_
    exact accs_kept (Memref.whole cc0_scratch2).view f16 (pnt i % 2) (off18_eq i) (off17_eq i) (off15_eq i) (off13_eq i) y hy
  case kc =>
    intro y
    refine codes_written (Val := Elt F) arg10.view _ (fun b th hq => codeB (blkKc (View.read (Elt F) arg2.view f2) ((Memref.whole cc0_scratch2).view.writes (Elt F) f16 (kernelRun.sl.H16_4 c i arg1 arg3 arg4 f14 f15 f1 f3 f4)) (View.read (Elt F) arg7.view f7) (View.read (Elt F) arg9.view f9) ((pnt i + 1) % 2) b th hq)) ?_ ?_ ?_ ?_ ?_ ?_ ?_ ?_ y
    · exact (codeK7 _ _ _ _).trans (codeK_congr (xs_read arg2 f2 1 1 ![1, 128] rfl _) (acc_read _ _ 1 0 1 1 _ (off30_eq i) _) hv485 hv502)
    · exact (codeK6 _ _ _ _).trans (codeK_congr (xs_read arg2 f2 1 1 ![1, 128] rfl _) (acc_read _ _ 1 0 0 1 _ (off29_eq i) _) hv386 hv403)
    · exact (codeK5 _ _ _ _).trans (codeK_congr (xs_read arg2 f2 1 0 ![1, 0] rfl _) (acc_read _ _ 1 0 1 0 _ (off28_eq i) _) hv485 hv502)
    · exact (codeK4 _ _ _ _).trans (codeK_congr (xs_read arg2 f2 1 0 ![1, 0] rfl _) (acc_read _ _ 1 0 0 0 _ (off27_eq i) _) hv386 hv403)
    · exact (codeK3 _ _ _ _).trans (codeK_congr (xs_read arg2 f2 0 1 ![0, 128] rfl _) (acc_read _ _ 0 0 1 1 _ (off22_eq i) _) hv485 hv502)
    · exact (codeK2 _ _ _ _).trans (codeK_congr (xs_read arg2 f2 0 1 ![0, 128] rfl _) (acc_read _ _ 0 0 0 1 _ (off21_eq i) _) hv386 hv403)
    · exact (codeK1 _ _ _ _).trans (codeK_congr (xs_read arg2 f2 0 0 ![0, 0] rfl _) (acc_read _ _ 0 0 1 0 _ (off20_eq i) _) hv485 hv502)
    · exact (codeK0 _ _ _ _).trans (codeK_congr (xs_read arg2 f2 0 0 ![0, 0] rfl _) (acc_read _ _ 0 0 0 0 _ (off19_eq i) _) hv386 hv403)
  case ksc =>
    intro y
    refine scales_written (Val := Elt F) arg11.view _ (fun b th => scaleB (blkKc (View.read (Elt F) arg2.view f2) ((Memref.whole cc0_scratch2).view.writes (Elt F) f16 (kernelRun.sl.H16_4 c i arg1 arg3 arg4 f14 f15 f1 f3 f4)) (View.read (Elt F) arg7.view f7) (View.read (Elt F) arg9.view f9) ((pnt i + 1) % 2) b th 0) (blkKc (View.read (Elt F) arg2.view f2) ((Memref.whole cc0_scratch2).view.writes (Elt F) f16 (kernelRun.sl.H16_4 c i arg1 arg3 arg4 f14 f15 f1 f3 f4)) (View.read (Elt F) arg7.view f7) (View.read (Elt F) arg9.view f9) ((pnt i + 1) % 2) b th 1)) ?_ ?_ ?_ ?_ y
    · exact (scaleK3 _ _ _ _ _ _ _).trans (scaleK_congr (xs_read arg2 f2 1 1 ![1, 128] rfl _) (acc_read _ _ 1 0 0 1 _ (off29_eq i) _) hv386 hv403 (acc_read _ _ 1 0 1 1 _ (off30_eq i) _) hv485 hv502)
    · exact (scaleK2 _ _ _ _ _ _ _).trans (scaleK_congr (xs_read arg2 f2 1 0 ![1, 0] rfl _) (acc_read _ _ 1 0 0 0 _ (off27_eq i) _) hv386 hv403 (acc_read _ _ 1 0 1 0 _ (off28_eq i) _) hv485 hv502)
    · exact (scaleK1 _ _ _ _ _ _ _).trans (scaleK_congr (xs_read arg2 f2 0 1 ![0, 128] rfl _) (acc_read _ _ 0 0 0 1 _ (off21_eq i) _) hv386 hv403 (acc_read _ _ 0 0 1 1 _ (off22_eq i) _) hv485 hv502)
    · exact (scaleK0 _ _ _ _ _ _ _).trans (scaleK_congr (xs_read arg2 f2 0 0 ![0, 0] rfl _) (acc_read _ _ 0 0 0 0 _ (off19_eq i) _) hv386 hv403 (acc_read _ _ 0 0 1 0 _ (off20_eq i) _) hv485 hv502)
  case vc =>
    intro y
    refine codes_written (Val := Elt F) arg12.view _ (fun b th hq => codeB (blkVc (View.read (Elt F) arg2.view f2) ((Memref.whole cc0_scratch2).view.writes (Elt F) f16 (kernelRun.sl.H16_4 c i arg1 arg3 arg4 f14 f15 f1 f3 f4)) (View.read (Elt F) arg8.view f8) ((pnt i + 1) % 2) b th hq)) ?_ ?_ ?_ ?_ ?_ ?_ ?_ ?_ y
    · exact (codeV7 _ _ _).trans (codeV_congr (xs_read arg2 f2 1 1 ![1, 128] rfl _) (acc_read _ _ 1 1 1 1 _ (off34_eq i) _) hv882)
    · exact (codeV6 _ _ _).trans (codeV_congr (xs_read arg2 f2 1 1 ![1, 128] rfl _) (acc_read _ _ 1 1 0 1 _ (off33_eq i) _) hv800)
    · exact (codeV5 _ _ _).trans (codeV_congr (xs_read arg2 f2 1 0 ![1, 0] rfl _) (acc_read _ _ 1 1 1 0 _ (off32_eq i) _) hv882)
    · exact (codeV4 _ _ _).trans (codeV_congr (xs_read arg2 f2 1 0 ![1, 0] rfl _) (acc_read _ _ 1 1 0 0 _ (off31_eq i) _) hv800)
    · exact (codeV3 _ _ _).trans (codeV_congr (xs_read arg2 f2 0 1 ![0, 128] rfl _) (acc_read _ _ 0 1 1 1 _ (off26_eq i) _) hv882)
    · exact (codeV2 _ _ _).trans (codeV_congr (xs_read arg2 f2 0 1 ![0, 128] rfl _) (acc_read _ _ 0 1 0 1 _ (off25_eq i) _) hv800)
    · exact (codeV1 _ _ _).trans (codeV_congr (xs_read arg2 f2 0 0 ![0, 0] rfl _) (acc_read _ _ 0 1 1 0 _ (off24_eq i) _) hv882)
    · exact (codeV0 _ _ _).trans (codeV_congr (xs_read arg2 f2 0 0 ![0, 0] rfl _) (acc_read _ _ 0 1 0 0 _ (off23_eq i) _) hv800)
  case vsc =>
    intro y
    refine scales_written (Val := Elt F) arg13.view _ (fun b th => scaleB (blkVc (View.read (Elt F) arg2.view f2) ((Memref.whole cc0_scratch2).view.writes (Elt F) f16 (kernelRun.sl.H16_4 c i arg1 arg3 arg4 f14 f15 f1 f3 f4)) (View.read (Elt F) arg8.view f8) ((pnt i + 1) % 2) b th 0) (blkVc (View.read (Elt F) arg2.view f2) ((Memref.whole cc0_scratch2).view.writes (Elt F) f16 (kernelRun.sl.H16_4 c i arg1 arg3 arg4 f14 f15 f1 f3 f4)) (View.read (Elt F) arg8.view f8) ((pnt i + 1) % 2) b th 1)) ?_ ?_ ?_ ?_ y
    · exact (scaleV3 _ _ _ _ _).trans (scaleV_congr (xs_read arg2 f2 1 1 ![1, 128] rfl _) (acc_read _ _ 1 1 0 1 _ (off33_eq i) _) hv800 (acc_read _ _ 1 1 1 1 _ (off34_eq i) _) hv882)
    · exact (scaleV2 _ _ _ _ _).trans (scaleV_congr (xs_read arg2 f2 1 0 ![1, 0] rfl _) (acc_read _ _ 1 1 0 0 _ (off31_eq i) _) hv800 (acc_read _ _ 1 1 1 0 _ (off32_eq i) _) hv882)
    · exact (scaleV1 _ _ _ _ _).trans (scaleV_congr (xs_read arg2 f2 0 1 ![0, 128] rfl _) (acc_read _ _ 0 1 0 1 _ (off25_eq i) _) hv800 (acc_read _ _ 0 1 1 1 _ (off26_eq i) _) hv882)
    · exact (scaleV0 _ _ _ _ _).trans (scaleV_congr (xs_read arg2 f2 0 0 ![0, 0] rfl _) (acc_read _ _ 0 1 0 0 _ (off23_eq i) _) hv800 (acc_read _ _ 0 1 1 0 _ (off24_eq i) _) hv882)

end Cert.KernelIdeal.Hand

end
-- ==== Proof.KernelIdeal.Loop.lean ====
module

public import proofs.«01_k».proof.Proof.KernelIdeal.Unroll
public import proofs.«01_k».proof.Proof.KernelIdeal.Offs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Where an index of a slice with one leading element, seen without that dimension, lies. -/
theorem lead_emb {κ : Kind} {sp : Space} (a : Memref sig κ sp S2x256x8x128 .fp8e4m3) (o : Fin 4 → ℕ) (b : ℕ) (ho : o = ![b, 0, 0, 0])
    (h : ∀ a, o a + S1x256x8x128.size a ≤ S2x256x8x128.size a)
    (p : ∀ a, (Rect.unit (s := S2x256x8x128) o S1x256x8x128.size h).stride a = 1) (x : S256x8x128.Idx) :
    ((a.slice (Rect.unit (s := S2x256x8x128) o S1x256x8x128.size h) p).squeeze S256x8x128 squeezes_S1x256x8x128_S256x8x128).view.emb x
      = a.view.emb (nidx S2x256x8x128 (by decide) ![b, (x 0).val, (x 1).val, (x 2).val]) := by
  subst ho
  idx_vars x
  show a.view.emb ((Rect.unit (s := S2x256x8x128) ![b, 0, 0, 0] S1x256x8x128.size h).emb
    (Shape.reshapeEquiv squeezes_S1x256x8x128_S256x8x128.numel_eq (ix3 x0 x1 x2))) = _
  refine congrArg a.view.emb (nidx_eq _ _ _ _ ?_).symm
  intro a
  pointwise
  fin_cases a
  · show b = b + 1 * 0; omega
  · show x0.val = 0 + 1 * x0.val; omega
  · show x1.val = 0 + 1 * x1.val; omega
  · show x2.val = 0 + 1 * x2.val; omega

/-- The same in the whole weights: where an index of a slice with one leading element, seen without that dimension, lies. -/
theorem chunk_emb {κ : Kind} {sp : Space} (a : Memref sig κ sp S10x4096x8x128 .fp8e4m3) (o : Fin 4 → ℕ) (k : ℕ) (ho : o = ![0, 256 * k, 0, 0])
    (h : ∀ a, o a + S1x256x8x128.size a ≤ S10x4096x8x128.size a)
    (p : ∀ a, (Rect.unit (s := S10x4096x8x128) o S1x256x8x128.size h).stride a = 1) (x : S256x8x128.Idx) :
    ((a.slice (Rect.unit (s := S10x4096x8x128) o S1x256x8x128.size h) p).squeeze S256x8x128 squeezes_S1x256x8x128_S256x8x128).view.emb x
      = a.view.emb (nidx S10x4096x8x128 (by decide) ![0, 256 * k + (x 0).val, (x 1).val, (x 2).val]) := by
  subst ho
  idx_vars x
  show a.view.emb ((Rect.unit (s := S10x4096x8x128) ![0, 256 * k, 0, 0] S1x256x8x128.size h).emb
    (Shape.reshapeEquiv squeezes_S1x256x8x128_S256x8x128.numel_eq (ix3 x0 x1 x2))) = _
  refine congrArg a.view.emb (nidx_eq _ _ _ _ ?_).symm
  intro a
  pointwise
  fin_cases a
  · show 0 = 0 + 1 * 0; omega
  · show 256 * k + x0.val = 256 * k + 1 * x0.val; omega
  · show x1.val = 0 + 1 * x1.val; omega
  · show x2.val = 0 + 1 * x2.val; omega

/-- One of the two halves of the buffer that a chunk of a layer's weights is copied into. -/
abbrev rawB (b : ℕ) (h : ∀ a, (![b, 0, 0, 0] : Fin 4 → ℕ) a + S1x256x8x128.size a ≤ S2x256x8x128.size a)
    (p : ∀ a, (Rect.unit (s := S2x256x8x128) ![b, 0, 0, 0] S1x256x8x128.size h).stride a = 1) : Memref sig .tc .vmem S256x8x128 .fp8e4m3 :=
  ((Memref.whole cc0_scratch4).slice (Rect.unit (s := S2x256x8x128) ![b, 0, 0, 0] S1x256x8x128.size h) p).squeeze S256x8x128 squeezes_S1x256x8x128_S256x8x128

theorem rawB_emb (b : ℕ) (h : ∀ a, (![b, 0, 0, 0] : Fin 4 → ℕ) a + S1x256x8x128.size a ≤ S2x256x8x128.size a)
    (p : ∀ a, (Rect.unit (s := S2x256x8x128) ![b, 0, 0, 0] S1x256x8x128.size h).stride a = 1) (x : S256x8x128.Idx) :
    (rawB b h p).view.emb x = nidx S2x256x8x128 (by decide) ![b, (x 0).val, (x 1).val, (x 2).val] := by
  exact lead_emb (Memref.whole cc0_scratch4) _ b rfl h p x

/-- A copy into one half leaves the other as it was. -/
theorem raw_other (h0 p0 h1 p1) (f : Vec F S2x256x8x128 .fp8e4m3) (w : S256x8x128.Idx → Elt F .fp8e4m3) :
    View.read (Elt F) (rawB 0 h0 p0).view (View.write (Elt F) (rawB 1 h1 p1).view f w Finset.univ) = View.read (Elt F) (rawB 0 h0 p0).view f := by
  funext x
  refine View.write_of_not_mem _ _ _ ?_
  intro hm
  obtain ⟨z, -, hz⟩ := Finset.mem_map.mp hm
  have e : (rawB 1 h1 p1).view.emb z = (rawB 0 h0 p0).view.emb x := hz
  rw [rawB_emb, rawB_emb] at e
  have e0 : (1 : ℕ) % 2 = 0 % 2 := congrArg (fun q : S2x256x8x128.Idx => (q 0).val) e
  omega

/-- What a chunk of a layer's weights reads. -/
theorem chunk_read2 (f : Vec F S10x4096x8x128 .fp8e4m3) (k : ℕ) (o : Fin 4 → ℕ) (ho : o = ![0, 256 * k, 0, 0])
    (h : ∀ a, o a + S1x256x8x128.size a ≤ S10x4096x8x128.size a)
    (p : ∀ a, (Rect.unit (s := S10x4096x8x128) o S1x256x8x128.size h).stride a = 1) (x : S256x8x128.Idx) :
    View.read (Elt F) (((Memref.whole main_arg2).slice (Rect.unit (s := S10x4096x8x128) o S1x256x8x128.size h) p).squeeze
        S256x8x128 squeezes_S1x256x8x128_S256x8x128).view f x
      = f (nidx S10x4096x8x128 (by decide) ![0, 256 * k + (x 0).val, (x 1).val, (x 2).val]) := by
  exact congrArg f (chunk_emb (Memref.whole main_arg2) _ k ho h p x)

theorem chunk_read4 (f : Vec F S10x4096x8x128 .fp8e4m3) (k : ℕ) (o : Fin 4 → ℕ) (ho : o = ![0, 256 * k, 0, 0])
    (h : ∀ a, o a + S1x256x8x128.size a ≤ S10x4096x8x128.size a)
    (p : ∀ a, (Rect.unit (s := S10x4096x8x128) o S1x256x8x128.size h).stride a = 1) (x : S256x8x128.Idx) :
    View.read (Elt F) (((Memref.whole main_arg4).slice (Rect.unit (s := S10x4096x8x128) o S1x256x8x128.size h) p).squeeze
        S256x8x128 squeezes_S1x256x8x128_S256x8x128).view f x
      = f (nidx S10x4096x8x128 (by decide) ![0, 256 * k + (x 0).val, (x 1).val, (x 2).val]) := by
  exact congrArg f (chunk_emb (Memref.whole main_arg4) _ k ho h p x)

/-- Four heads of a chunk in the kernel's order, from a buffer that holds the chunk. -/
theorem chunk_stored (f5 f6 : Vec F S10x4096x8x128 .fp8e4m3) (q k : ℕ) (hq : q < 4) (v : Vec F S256x4x128 .fp8e4m3)
    (hv : ∀ j : S256x4x128.Idx, v j = (if q < 2 then f5 else f6) (nidx S10x4096x8x128 (by decide)
      ![0, 256 * k + (j 0).val, 4 * (q % 2) + (j 1).val, (j 2).val])) (x : S1x512x256.Idx) :
    k0_pay7 v x = wfull f5 f6 0 (512 * q + (x 1).val) (256 * k + (x 2).val) := by
  have x1 : (x 1).val < 512 := (x 1).isLt
  have x2 : (x 2).val < 256 := (x 2).isLt
  rw [relay_apply, hv]
  have e0 : (nidx S256x4x128 (by decide) ![(x 2).val, (x 1).val % 4, (x 1).val / 4] 0).val = (x 2).val := by
    show (x 2).val % 256 = _
    omega
  have e1 : (nidx S256x4x128 (by decide) ![(x 2).val, (x 1).val % 4, (x 1).val / 4] 1).val = (x 1).val % 4 := by
    show (x 1).val % 4 % 4 = _
    omega
  have e2 : (nidx S256x4x128 (by decide) ![(x 2).val, (x 1).val % 4, (x 1).val / 4] 2).val = (x 1).val / 4 := by
    show (x 1).val / 4 % 128 = _
    omega
  rw [e0, e1, e2]
  unfold wfull
  have c1 : (512 * q + (x 1).val < 1024) = (q < 2) := propext (by omega)
  have c2 : (512 * q + (x 1).val) % 1024 / 512 * 4 + (512 * q + (x 1).val) % 4 = 4 * (q % 2) + (x 1).val % 4 := by omega
  have c3 : (512 * q + (x 1).val) % 512 / 4 = (x 1).val / 4 := by omega
  simp only [c1, c2, c3]

/-- A load of four heads of the half of the buffer copied last. -/
theorem raw_read1 (h0 p0 h1 p1) (f : Vec F S2x256x8x128 .fp8e4m3) (w0 w1 : S256x8x128.Idx → Elt F .fp8e4m3) (o : ℕ)
    (inb : ∀ a, (![0, o, 0] : Fin 3 → ℕ) a + S256x4x128.size a ≤ S256x8x128.size a) (j : S256x4x128.Idx) :
    View.readAt (Elt F) (rawB 1 h1 p1).view (Rect.unit (s := S256x8x128) ![0, o, 0] S256x4x128.size inb).toLoadRect
      (View.write (Elt F) (rawB 1 h1 p1).view (View.write (Elt F) (rawB 0 h0 p0).view f w0 Finset.univ) w1 Finset.univ) j
      = w1 (nidx S256x8x128 (by decide) ![(j 0).val, o + (j 1).val, (j 2).val]) := by
  rw [View.readAt_apply, View.read_write_univ]
  refine congrArg w1 (nidx_eq _ _ _ _ ?_).symm
  intro a
  fin_cases a
  · show (j 0).val = 0 + 1 * (j 0).val; omega
  · show o + (j 1).val = o + 1 * (j 1).val; omega
  · show (j 2).val = 0 + 1 * (j 2).val; omega

/-- A load of four heads of the half of the buffer copied first. -/
theorem raw_read0 (h0 p0 h1 p1) (f : Vec F S2x256x8x128 .fp8e4m3) (w0 w1 : S256x8x128.Idx → Elt F .fp8e4m3) (o : ℕ)
    (inb : ∀ a, (![0, o, 0] : Fin 3 → ℕ) a + S256x4x128.size a ≤ S256x8x128.size a) (j : S256x4x128.Idx) :
    View.readAt (Elt F) (rawB 0 h0 p0).view (Rect.unit (s := S256x8x128) ![0, o, 0] S256x4x128.size inb).toLoadRect
      (View.write (Elt F) (rawB 1 h1 p1).view (View.write (Elt F) (rawB 0 h0 p0).view f w0 Finset.univ) w1 Finset.univ) j
      = w0 (nidx S256x8x128 (by decide) ![(j 0).val, o + (j 1).val, (j 2).val]) := by
  rw [View.readAt_apply, raw_other, View.read_write_univ]
  refine congrArg w0 (nidx_eq _ _ _ _ ?_).symm
  intro a
  fin_cases a
  · show (j 0).val = 0 + 1 * (j 0).val; omega
  · show o + (j 1).val = o + 1 * (j 1).val; omega
  · show (j 2).val = 0 + 1 * (j 2).val; omega

/-- The place in a chunk that a load of four heads reads. -/
theorem chunk_place (k o : ℕ) (ho : o + 4 ≤ 8) (j : S256x4x128.Idx) :
    nidx S10x4096x8x128 (by decide) ![0, 256 * k + (nidx S256x8x128 (by decide) ![(j 0).val, o + (j 1).val, (j 2).val] 0).val,
      (nidx S256x8x128 (by decide) ![(j 0).val, o + (j 1).val, (j 2).val] 1).val,
      (nidx S256x8x128 (by decide) ![(j 0).val, o + (j 1).val, (j 2).val] 2).val]
    = nidx S10x4096x8x128 (by decide) ![0, 256 * k + (j 0).val, o + (j 1).val, (j 2).val] := by
  have j0 : (j 0).val < 256 := (j 0).isLt
  have j1 : (j 1).val < 4 := (j 1).isLt
  have j2 : (j 2).val < 128 := (j 2).isLt
  have e0 : (nidx S256x8x128 (by decide) ![(j 0).val, o + (j 1).val, (j 2).val] 0).val = (j 0).val := by
    show (j 0).val % 256 = _
    omega
  have e1 : (nidx S256x8x128 (by decide) ![(j 0).val, o + (j 1).val, (j 2).val] 1).val = o + (j 1).val := by
    show (o + (j 1).val) % 8 = _
    omega
  have e2 : (nidx S256x8x128 (by decide) ![(j 0).val, o + (j 1).val, (j 2).val] 2).val = (j 2).val := by
    show (j 2).val % 128 = _
    omega
  rw [e0, e1, e2]

set_option sl_exec.dmaWindow true in
set_option maxHeartbeats 4000000 in
@[sl_loop, instance_reducible] def loopInv (c : Dev nD) (q5 q6 : PosShare TreeShare) (f5 : Bf F c (Memref.whole main_arg2)) (f6 : Bf F c (Memref.whole main_arg4))
    (i : grid0.Coords) (arg1 : Memref sig .tc .vmem S2x256x4096 .fp8e4m3) (harg1 : arg1.IsWhole) (arg2 : Memref sig .tc .vmem S2x256 .f32) (harg2 : arg2.IsWhole) (arg3 : Memref sig .tc .vmem S1x256x8x128 .fp8e4m3) (harg3 : arg3.IsWhole) (arg4 : Memref sig .tc .vmem S1x256x8x128 .fp8e4m3) (harg4 : arg4.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x2x256x8x128 .fp8e4m3) (harg10 : arg10.IsWhole) (arg11 : Memref sig .tc .vmem S1x2x8x4x256 .i8) (harg11 : arg11.IsWhole) (arg12 : Memref sig .tc .vmem S1x2x256x8x128 .fp8e4m3) (harg12 : arg12.IsWhole) (arg13 : Memref sig .tc .vmem S1x2x8x4x256 .i8) (harg13 : arg13.IsWhole)
    (arg0 : BitVec 32) (v18 : BitVec 32) (v28 : BitVec 32) (v31 : BitVec 32) (v36 : BitVec 1) (v37 : BitVec 32) (k0_h1 : k0_cond1 i = 1#1) :
    LoopInvTy_k0_t1 (F := F) Unit ℕ (Pipeline.UD sig nD τ) ℕ Variants.none c none Set.univ i arg1 harg1 arg2 harg2 arg3 harg3 arg4 harg4 (Memref.whole main_arg2) (Memref.isWhole_whole _) (Memref.whole main_arg4) (Memref.isWhole_whole _) arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 arg0 v18 v28 v31 v36 v37 k0_h1 where
  inv := fun k _ => iprop(ptq c (Memref.whole main_arg2) q5 f5 ∗ ptq c (Memref.whole main_arg4) q6 f6
    ∗ (∃ f, ⌜∀ y : S2x2048x4096.Idx, (y 0).val = 0 → (y 2).val < 256 * k → (f : Vec F S2x2048x4096 .fp8e4m3) y = wfull f5 f6 0 (y 1).val (y 2).val⌝ ∗ pt c (Memref.whole cc0_scratch0) f)
    ∗ (∃ f, pt c (Memref.whole cc0_scratch4) f)
    ∗ semVal ((c : Thread nD τ), osem 0) 0 ∗ semVal ((c : Thread nD τ), osem 1) 0 ∗ ∃ W, owes (c : Thread nD τ) 0 W)
  step := fun k acc => by
    unfold k0_t1_body
    simp only [k0_part1_eq_skeleton, k0_part2_eq_skeleton]
    iintro ⟨H5, H6, ⟨%f14, %hf14, H14⟩, ⟨%f18, H18⟩, Hd0, Hd1, ⟨%W, HO⟩⟩
    sl_exec
    sl_step
    isplitl [H5]; · iexact H5
    isplitl [H6]; · iexact H6
    isplitl [H14]
    · iexists _; isplitr; swap; · iexact H14
      ipureintro
      intro y hy hk
      refine whole0 ?_
      by_cases h : (y 2).val / 256 = k.val
      · refine (wts_written (Memref.whole cc0_scratch0).view f14 (fun r d => wfull f5 f6 0 r (256 * k.val + d)) 0 k.val
          ((k0_off5_eq k).trans (by rw [Nat.mul_comm])) ((k0_off4_eq k).trans (by rw [Nat.mul_comm]))
          ((k0_off3_eq k).trans (by rw [Nat.mul_comm])) ((k0_off2_eq k).trans (by rw [Nat.mul_comm])) ?_ ?_ ?_ ?_ y hy h).trans ?_
        · exact fun x => chunk_stored f5 f6 3 k.val (by omega) _ (fun j => (raw_read1 _ _ _ _ _ _ _ 4 _ j).trans
            ((chunk_read4 f6 k.val _ (k0_off1_eq k) _ _ _).trans (congrArg f6 (chunk_place k.val 4 (by omega) j)))) x
        · exact fun x => chunk_stored f5 f6 2 k.val (by omega) _ (fun j => (raw_read1 _ _ _ _ _ _ _ 0 _ j).trans
            ((chunk_read4 f6 k.val _ (k0_off1_eq k) _ _ _).trans (congrArg f6 (chunk_place k.val 0 (by omega) j)))) x
        · exact fun x => chunk_stored f5 f6 1 k.val (by omega) _ (fun j => (raw_read0 _ _ _ _ _ _ _ 4 _ j).trans
            ((chunk_read2 f5 k.val _ (k0_off1_eq k) _ _ _).trans (congrArg f5 (chunk_place k.val 4 (by omega) j)))) x
        · exact fun x => chunk_stored f5 f6 0 k.val (by omega) _ (fun j => (raw_read0 _ _ _ _ _ _ _ 0 _ j).trans
            ((chunk_read2 f5 k.val _ (k0_off1_eq k) _ _ _).trans (congrArg f5 (chunk_place k.val 0 (by omega) j)))) x
        · exact congrArg (wfull f5 f6 0 (y 1).val) (by omega)
      · refine (wts_kept (Memref.whole cc0_scratch0).view f14 0 k.val
          ((k0_off5_eq k).trans (by rw [Nat.mul_comm])) ((k0_off4_eq k).trans (by rw [Nat.mul_comm]))
          ((k0_off3_eq k).trans (by rw [Nat.mul_comm])) ((k0_off2_eq k).trans (by rw [Nat.mul_comm])) y (by omega)).trans ?_
        exact hf14 y hy (by omega)
    isplitl [H18]; · iexists _; iexact H18
    isplitl [Hd0]; · iexact Hd0
    isplitl [Hd1]; · iexact Hd1
    iexists _; iexact HO

end Cert.KernelIdeal.Hand

end
-- ==== Proof.KernelIdeal.Body0.lean ====
module

public import proofs.«01_k».proof.Proof.KernelIdeal.Loop
public import proofs.«01_k».proof.Proof.KernelIdeal.Offs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 40000000 in
theorem kernelRun0 (c : Dev nD) (i : grid0.Coords) (arg1 : Memref sig .tc .vmem S2x256x4096 .fp8e4m3) (harg1 : arg1.IsWhole) (arg2 : Memref sig .tc .vmem S2x256 .f32) (harg2 : arg2.IsWhole) (arg3 : Memref sig .tc .vmem S1x256x8x128 .fp8e4m3) (harg3 : arg3.IsWhole) (arg4 : Memref sig .tc .vmem S1x256x8x128 .fp8e4m3) (harg4 : arg4.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x2x256x8x128 .fp8e4m3) (harg10 : arg10.IsWhole) (arg11 : Memref sig .tc .vmem S1x2x8x4x256 .i8) (harg11 : arg11.IsWhole) (arg12 : Memref sig .tc .vmem S1x2x256x8x128 .fp8e4m3) (harg12 : arg12.IsWhole) (arg13 : Memref sig .tc .vmem S1x2x8x4x256 .i8) (harg13 : arg13.IsWhole)
    (x1 : Vec F S2x256x4096 .fp8e4m3) (x2 : Vec F S2x256 .f32) (x3 : Vec F S1x256x8x128 .fp8e4m3) (x4 : Vec F S1x256x8x128 .fp8e4m3) (x7 : Vec F S1x1x1024 .f32) (x8 : Vec F S1x1x1024 .f32) (x9 : Vec F S1x1x1024 .f32)
    (f5 : Bf F c (Memref.whole main_arg2)) (f6 : Bf F c (Memref.whole main_arg4)) (f14 : Bf F c (Memref.whole cc0_scratch0)) (f15 : Bf F c (Memref.whole cc0_scratch1)) (f16 : Bf F c (Memref.whole cc0_scratch2)) (f17 : Bf F c (Memref.whole cc0_scratch3)) (f18 : Bf F c (Memref.whole cc0_scratch4))
    (q5 q6 : PosShare TreeShare) (hc : k0_cond1 i = 1#1)
    (W : Waits sig Unit) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ ptq c (Memref.whole main_arg2) q5 f5 ∗ ptq c (Memref.whole main_arg4) q6 f6 ∗ owns (c : Thread nD τ) arg7 fullShare x7 ∗ owns (c : Thread nD τ) arg8 fullShare x8 ∗ owns (c : Thread nD τ) arg9 fullShare x9
      ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ pt c (Memref.whole cc0_scratch0) f14 ∗ pt c (Memref.whole cc0_scratch1) f15 ∗ pt c (Memref.whole cc0_scratch2) f16 ∗ pt c (Memref.whole cc0_scratch3) f17 ∗ pt c (Memref.whole cc0_scratch4) f18
      ∗ semVal ((c : Thread nD τ), osem 0) 0 ∗ semVal ((c : Thread nD τ), osem 1) 0 ∗ owes (c : Thread nD τ) 0 W
      ∗ (iprop(owns (c : Thread nD τ) arg1 fullShare x1 ∗ owns (c : Thread nD τ) arg2 fullShare x2 ∗ owns (c : Thread nD τ) arg3 fullShare x3 ∗ owns (c : Thread nD τ) arg4 fullShare x4 ∗ ptq c (Memref.whole main_arg2) q5 f5 ∗ ptq c (Memref.whole main_arg4) q6 f6 ∗ owns (c : Thread nD τ) arg7 fullShare x7 ∗ owns (c : Thread nD τ) arg8 fullShare x8 ∗ owns (c : Thread nD τ) arg9 fullShare x9
          ∗ ∃ X10 X11 X12 X13 g14 g15 g16, ⌜KRel c i x1 x2 x3 x4 x7 x8 x9 f5 f6 f14 f15 f16 X10 X11 X12 X13 g14 g15 g16⌝
          ∗ owns (c : Thread nD τ) arg10 fullShare X10 ∗ owns (c : Thread nD τ) arg11 fullShare X11 ∗ owns (c : Thread nD τ) arg12 fullShare X12 ∗ owns (c : Thread nD τ) arg13 fullShare X13
          ∗ pt c (Memref.whole cc0_scratch0) g14 ∗ pt c (Memref.whole cc0_scratch1) g15 ∗ pt c (Memref.whole cc0_scratch2) g16
          ∗ (∃ f, pt c (Memref.whole cc0_scratch3) f) ∗ (∃ f, pt c (Memref.whole cc0_scratch4) f)
          ∗ semVal ((c : Thread nD τ), osem 0) 0 ∗ semVal ((c : Thread nD τ), osem 1) 0 ∗ ∃ W, owes (c : Thread nD τ) 0 W) -∗ Q ⟨⟩))
    ⊢ wp frame (wpE (defs₀ (F := F)) Variants.none c none) Set.univ (cc0_kv_fill i arg1 harg1 arg2 harg2 arg3 harg3 arg4 harg4 (Memref.whole main_arg2) (Memref.isWhole_whole _) (Memref.whole main_arg4) (Memref.isWhole_whole _) arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5) Q := by
  simp only [cc0_kv_fill_eq_skeleton]; unfold cc0_kv_fill_skel
  simp only [k0_part51_eq_skeleton]; unfold k0_part51_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
  unfold owns
  iintro ⟨⟨%f1, %hf1, H1⟩, ⟨%f2, %hf2, H2⟩, ⟨%f3, %hf3, H3⟩, ⟨%f4, %hf4, H4⟩, H5, H6, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, H14, H15, H16, H17, H18, Hd0, Hd1, HO, Hk⟩
  subst hf1 hf2 hf3 hf4 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]; · iexact H5
  isplitl [H6]; · iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _, _, _, _, _, _, _
  isplitr; swap
  · isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]; · iexact H14
    isplitl [H15]; · iexact H15
    isplitl [H16]; · iexact H16
    isplitl [H17]; · iexists _; iexact H17
    isplitl [H18]; · iexists _; iexact H18
    isplitl [Hd0]; · iexact Hd0
    isplitl [Hd1]; · iexact Hd1
    iexists _; iexact HO
  ipureintro
  have htab : ∀ y : S3x1024x128.Idx, ((Memref.whole cc0_scratch3).view.writes (Elt F) (Memref.whole cc0_scratch3).view.junk
      (kernelRun0.sl.H17_24 c arg7 arg8 arg9 f7 f8 f9) : Vec F S3x1024x128 .f32) y
      = tables (View.read (Elt F) arg7.view f7) (View.read (Elt F) arg8.view f8) (View.read (Elt F) arg9.view f9) (y 0).val (y 1).val := by
    intro y
    have y0 : (y 0).val < 3 := (y 0).isLt
    refine whole3 ?_
    unfold kernelRun0.sl.H17_24
    rcases (by omega : (y 0).val = 0 ∨ (y 0).val = 1 ∨ (y 0).val = 2) with h | h | h
    · rw [h]
      rw [rows_kept (Memref.whole cc0_scratch3).view _ 2 _ y (by omega), rows_kept (Memref.whole cc0_scratch3).view _ 1 _ y (by omega)]
      refine rows_written (Memref.whole cc0_scratch3).view _ (tables (View.read (Elt F) arg7.view f7) (View.read (Elt F) arg8.view f8) (View.read (Elt F) arg9.view f9) 0) 0 ?_ ?_ ?_ ?_ ?_ ?_ ?_ ?_ _ y h
      · exact fun x => row_stored arg7 f7 896 _ x
      · exact fun x => row_stored arg7 f7 768 _ x
      · exact fun x => row_stored arg7 f7 640 _ x
      · exact fun x => row_stored arg7 f7 512 _ x
      · exact fun x => row_stored arg7 f7 384 _ x
      · exact fun x => row_stored arg7 f7 256 _ x
      · exact fun x => row_stored arg7 f7 128 _ x
      · exact fun x => row_stored arg7 f7 0 _ x
    · rw [h]
      rw [rows_kept (Memref.whole cc0_scratch3).view _ 2 _ y (by omega)]
      refine rows_written (Memref.whole cc0_scratch3).view _ (tables (View.read (Elt F) arg7.view f7) (View.read (Elt F) arg8.view f8) (View.read (Elt F) arg9.view f9) 1) 1 ?_ ?_ ?_ ?_ ?_ ?_ ?_ ?_ _ y h
      · exact fun x => row_stored arg8 f8 896 _ x
      · exact fun x => row_stored arg8 f8 768 _ x
      · exact fun x => row_stored arg8 f8 640 _ x
      · exact fun x => row_stored arg8 f8 512 _ x
      · exact fun x => row_stored arg8 f8 384 _ x
      · exact fun x => row_stored arg8 f8 256 _ x
      · exact fun x => row_stored arg8 f8 128 _ x
      · exact fun x => row_stored arg8 f8 0 _ x
    · rw [h]
      refine rows_written (Memref.whole cc0_scratch3).view _ (tables (View.read (Elt F) arg7.view f7) (View.read (Elt F) arg8.view f8) (View.read (Elt F) arg9.view f9) 2) 2 ?_ ?_ ?_ ?_ ?_ ?_ ?_ ?_ _ y h
      · exact fun x => row_stored arg9 f9 896 _ x
      · exact fun x => row_stored arg9 f9 768 _ x
      · exact fun x => row_stored arg9 f9 640 _ x
      · exact fun x => row_stored arg9 f9 512 _ x
      · exact fun x => row_stored arg9 f9 384 _ x
      · exact fun x => row_stored arg9 f9 256 _ x
      · exact fun x => row_stored arg9 f9 128 _ x
      · exact fun x => row_stored arg9 f9 0 _ x
  have hv386 : kernelRun0.sl.v386 c arg7 arg8 arg9 f7 f8 f9 = scB (View.read (Elt F) arg7.view f7) 0 :=
    tables_read _ _ _ _ htab 0 0 _
  have hv403 : kernelRun0.sl.v403 c arg7 arg8 arg9 f7 f8 f9 = scB (View.read (Elt F) arg9.view f9) 0 :=
    tables_read _ _ _ _ htab 2 0 _
  have hv485 : kernelRun0.sl.v485 c arg7 arg8 arg9 f7 f8 f9 = scB (View.read (Elt F) arg7.view f7) 1 :=
    tables_read _ _ _ _ htab 0 1 _
  have hv502 : kernelRun0.sl.v502 c arg7 arg8 arg9 f7 f8 f9 = scB (View.read (Elt F) arg9.view f9) 1 :=
    tables_read _ _ _ _ htab 2 1 _
  have hv800 : kernelRun0.sl.v800 c arg7 arg8 arg9 f7 f8 f9 = scB (View.read (Elt F) arg8.view f8) 0 :=
    tables_read _ _ _ _ htab 1 0 _
  have hv882 : kernelRun0.sl.v882 c arg7 arg8 arg9 f7 f8 f9 = scB (View.read (Elt F) arg8.view f8) 1 :=
    tables_read _ _ _ _ htab 1 1 _
  constructor
  case tile =>
    intro y hy
    refine whole1 ?_
    refine tile_written (Memref.whole cc0_scratch1).view f15 (View.read (Elt F) arg1.view f1) (pnt i % 2) (off6_eq i) ?_ y hy
    exact fun x => tile_stored arg1 f1 _ x
  case tile' =>
    intro y hy
    refine whole1 ?_
    exact tile_kept (Memref.whole cc0_scratch1).view f15 (pnt i % 2) (off6_eq i) y hy
  case wts =>
    intro y hy0 hy2
    refine whole0 ?_
    refine wts_written (Memref.whole cc0_scratch0).view fL0 (wsrc (View.read (Elt F) arg3.view f3) (View.read (Elt F) arg4.view f4))
      _ _ (off10_eq i) (off9_eq i) (off8_eq i) (off7_eq i) ?_ ?_ ?_ ?_ y hy0 hy2
    · exact fun x => (heads_stored arg4 f4 4 _ x).trans (wsrc_quarter (View.read (Elt F) arg3.view f3) (View.read (Elt F) arg4.view f4) 3 (x 1).val (x 2).val (x 1).isLt (by omega)).symm
    · exact fun x => (heads_stored arg4 f4 0 _ x).trans (wsrc_quarter (View.read (Elt F) arg3.view f3) (View.read (Elt F) arg4.view f4) 2 (x 1).val (x 2).val (x 1).isLt (by omega)).symm
    · exact fun x => (heads_stored arg3 f3 4 _ x).trans (wsrc_quarter (View.read (Elt F) arg3.view f3) (View.read (Elt F) arg4.view f4) 1 (x 1).val (x 2).val (x 1).isLt (by omega)).symm
    · exact fun x => (heads_stored arg3 f3 0 _ x).trans (wsrc_quarter (View.read (Elt F) arg3.view f3) (View.read (Elt F) arg4.view f4) 0 (x 1).val (x 2).val (x 1).isLt (by omega)).symm
  case wts' => exact fun h => absurd ((cond1_iff i).mp hc) h
  case wts0 =>
    intro h y hy
    have h' : pnt i = 0 := h
    have y2 : (y 2).val < 4096 := (y 2).isLt
    have e : Scf.trips k0_t1_loop.lb k0_t1_loop.ub k0_t1_loop.st = 16 := by decide +kernel
    refine whole0 ?_
    refine (wts_kept (Memref.whole cc0_scratch0).view fL0 _ _ (off10_eq i) (off9_eq i) (off8_eq i) (off7_eq i) y (by omega)).trans ?_
    exact hL2 y hy (by rw [e]; omega)
  case acc =>
    intro y hy
    refine whole2 ?_
    refine accs_written (Memref.whole cc0_scratch2).view f16 (fun b kv => k0_pay38 (wB ((Memref.whole cc0_scratch0).view.writes (Elt F) fL0 (kernelRun0.sl.H14_4 c i arg3 arg4 f3 f4)) ((pnt i - 1) / 26 % 2) kv)
      (xB ((Memref.whole cc0_scratch1).view.writes (Elt F) f15 (kernelRun0.sl.H15_1 c i arg1 f1)) ((pnt i + 1) % 2) b)) (pnt i % 2) (off18_eq i) (off17_eq i) (off15_eq i) (off13_eq i) ?_ ?_ ?_ ?_ y hy
    · exact (dot3 _ _).trans (congrArg₂ k0_pay38 (w_read _ _ 1 _ (off14_eq i) _) (x_read _ _ 1 _ (off16_eq i) _))
    · exact (dot2 _ _).trans (congrArg₂ k0_pay38 (w_read _ _ 0 _ (off11_eq i) _) (x_read _ _ 1 _ (off16_eq i) _))
    · exact congrArg₂ k0_pay38 (w_read _ _ 1 _ (off14_eq i) _) (x_read _ _ 0 _ (off12_eq i) _)
    · exact (dot0 _ _).trans (congrArg₂ k0_pay38 (w_read _ _ 0 _ (off11_eq i) _) (x_read _ _ 0 _ (off12_eq i) _))
  case acc' =>
    intro y hy
    refine whole2 ?_
    exact accs_kept (Memref.whole cc0_scratch2).view f16 (pnt i % 2) (off18_eq i) (off17_eq i) (off15_eq i) (off13_eq i) y hy
  case kc =>
    intro y
    refine codes_written (Val := Elt F) arg10.view _ (fun b th hq => codeB (blkKc (View.read (Elt F) arg2.view f2) ((Memref.whole cc0_scratch2).view.writes (Elt F) f16 (kernelRun0.sl.H16_4 c i arg1 arg3 arg4 f15 f1 f3 f4 fL0)) (View.read (Elt F) arg7.view f7) (View.read (Elt F) arg9.view f9) ((pnt i + 1) % 2) b th hq)) ?_ ?_ ?_ ?_ ?_ ?_ ?_ ?_ y
    · exact (codeK7 _ _ _ _).trans (codeK_congr (xs_read arg2 f2 1 1 ![1, 128] rfl _) (acc_read _ _ 1 0 1 1 _ (off30_eq i) _) hv485 hv502)
    · exact (codeK6 _ _ _ _).trans (codeK_congr (xs_read arg2 f2 1 1 ![1, 128] rfl _) (acc_read _ _ 1 0 0 1 _ (off29_eq i) _) hv386 hv403)
    · exact (codeK5 _ _ _ _).trans (codeK_congr (xs_read arg2 f2 1 0 ![1, 0] rfl _) (acc_read _ _ 1 0 1 0 _ (off28_eq i) _) hv485 hv502)
    · exact (codeK4 _ _ _ _).trans (codeK_congr (xs_read arg2 f2 1 0 ![1, 0] rfl _) (acc_read _ _ 1 0 0 0 _ (off27_eq i) _) hv386 hv403)
    · exact (codeK3 _ _ _ _).trans (codeK_congr (xs_read arg2 f2 0 1 ![0, 128] rfl _) (acc_read _ _ 0 0 1 1 _ (off22_eq i) _) hv485 hv502)
    · exact (codeK2 _ _ _ _).trans (codeK_congr (xs_read arg2 f2 0 1 ![0, 128] rfl _) (acc_read _ _ 0 0 0 1 _ (off21_eq i) _) hv386 hv403)
    · exact (codeK1 _ _ _ _).trans (codeK_congr (xs_read arg2 f2 0 0 ![0, 0] rfl _) (acc_read _ _ 0 0 1 0 _ (off20_eq i) _) hv485 hv502)
    · exact (codeK0 _ _ _ _).trans (codeK_congr (xs_read arg2 f2 0 0 ![0, 0] rfl _) (acc_read _ _ 0 0 0 0 _ (off19_eq i) _) hv386 hv403)
  case ksc =>
    intro y
    refine scales_written (Val := Elt F) arg11.view _ (fun b th => scaleB (blkKc (View.read (Elt F) arg2.view f2) ((Memref.whole cc0_scratch2).view.writes (Elt F) f16 (kernelRun0.sl.H16_4 c i arg1 arg3 arg4 f15 f1 f3 f4 fL0)) (View.read (Elt F) arg7.view f7) (View.read (Elt F) arg9.view f9) ((pnt i + 1) % 2) b th 0) (blkKc (View.read (Elt F) arg2.view f2) ((Memref.whole cc0_scratch2).view.writes (Elt F) f16 (kernelRun0.sl.H16_4 c i arg1 arg3 arg4 f15 f1 f3 f4 fL0)) (View.read (Elt F) arg7.view f7) (View.read (Elt F) arg9.view f9) ((pnt i + 1) % 2) b th 1)) ?_ ?_ ?_ ?_ y
    · exact (scaleK3 _ _ _ _ _ _ _).trans (scaleK_congr (xs_read arg2 f2 1 1 ![1, 128] rfl _) (acc_read _ _ 1 0 0 1 _ (off29_eq i) _) hv386 hv403 (acc_read _ _ 1 0 1 1 _ (off30_eq i) _) hv485 hv502)
    · exact (scaleK2 _ _ _ _ _ _ _).trans (scaleK_congr (xs_read arg2 f2 1 0 ![1, 0] rfl _) (acc_read _ _ 1 0 0 0 _ (off27_eq i) _) hv386 hv403 (acc_read _ _ 1 0 1 0 _ (off28_eq i) _) hv485 hv502)
    · exact (scaleK1 _ _ _ _ _ _ _).trans (scaleK_congr (xs_read arg2 f2 0 1 ![0, 128] rfl _) (acc_read _ _ 0 0 0 1 _ (off21_eq i) _) hv386 hv403 (acc_read _ _ 0 0 1 1 _ (off22_eq i) _) hv485 hv502)
    · exact (scaleK0 _ _ _ _ _ _ _).trans (scaleK_congr (xs_read arg2 f2 0 0 ![0, 0] rfl _) (acc_read _ _ 0 0 0 0 _ (off19_eq i) _) hv386 hv403 (acc_read _ _ 0 0 1 0 _ (off20_eq i) _) hv485 hv502)
  case vc =>
    intro y
    refine codes_written (Val := Elt F) arg12.view _ (fun b th hq => codeB (blkVc (View.read (Elt F) arg2.view f2) ((Memref.whole cc0_scratch2).view.writes (Elt F) f16 (kernelRun0.sl.H16_4 c i arg1 arg3 arg4 f15 f1 f3 f4 fL0)) (View.read (Elt F) arg8.view f8) ((pnt i + 1) % 2) b th hq)) ?_ ?_ ?_ ?_ ?_ ?_ ?_ ?_ y
    · exact (codeV7 _ _ _).trans (codeV_congr (xs_read arg2 f2 1 1 ![1, 128] rfl _) (acc_read _ _ 1 1 1 1 _ (off34_eq i) _) hv882)
    · exact (codeV6 _ _ _).trans (codeV_congr (xs_read arg2 f2 1 1 ![1, 128] rfl _) (acc_read _ _ 1 1 0 1 _ (off33_eq i) _) hv800)
    · exact (codeV5 _ _ _).trans (codeV_congr (xs_read arg2 f2 1 0 ![1, 0] rfl _) (acc_read _ _ 1 1 1 0 _ (off32_eq i) _) hv882)
    · exact (codeV4 _ _ _).trans (codeV_congr (xs_read arg2 f2 1 0 ![1, 0] rfl _) (acc_read _ _ 1 1 0 0 _ (off31_eq i) _) hv800)
    · exact (codeV3 _ _ _).trans (codeV_congr (xs_read arg2 f2 0 1 ![0, 128] rfl _) (acc_read _ _ 0 1 1 1 _ (off26_eq i) _) hv882)
    · exact (codeV2 _ _ _).trans (codeV_congr (xs_read arg2 f2 0 1 ![0, 128] rfl _) (acc_read _ _ 0 1 0 1 _ (off25_eq i) _) hv800)
    · exact (codeV1 _ _ _).trans (codeV_congr (xs_read arg2 f2 0 0 ![0, 0] rfl _) (acc_read _ _ 0 1 1 0 _ (off24_eq i) _) hv882)
    · exact (codeV0 _ _ _).trans (codeV_congr (xs_read arg2 f2 0 0 ![0, 0] rfl _) (acc_read _ _ 0 1 0 0 _ (off23_eq i) _) hv800)
  case vsc =>
    intro y
    refine scales_written (Val := Elt F) arg13.view _ (fun b th => scaleB (blkVc (View.read (Elt F) arg2.view f2) ((Memref.whole cc0_scratch2).view.writes (Elt F) f16 (kernelRun0.sl.H16_4 c i arg1 arg3 arg4 f15 f1 f3 f4 fL0)) (View.read (Elt F) arg8.view f8) ((pnt i + 1) % 2) b th 0) (blkVc (View.read (Elt F) arg2.view f2) ((Memref.whole cc0_scratch2).view.writes (Elt F) f16 (kernelRun0.sl.H16_4 c i arg1 arg3 arg4 f15 f1 f3 f4 fL0)) (View.read (Elt F) arg8.view f8) ((pnt i + 1) % 2) b th 1)) ?_ ?_ ?_ ?_ y
    · exact (scaleV3 _ _ _ _ _).trans (scaleV_congr (xs_read arg2 f2 1 1 ![1, 128] rfl _) (acc_read _ _ 1 1 0 1 _ (off33_eq i) _) hv800 (acc_read _ _ 1 1 1 1 _ (off34_eq i) _) hv882)
    · exact (scaleV2 _ _ _ _ _).trans (scaleV_congr (xs_read arg2 f2 1 0 ![1, 0] rfl _) (acc_read _ _ 1 1 0 0 _ (off31_eq i) _) hv800 (acc_read _ _ 1 1 1 0 _ (off32_eq i) _) hv882)
    · exact (scaleV1 _ _ _ _ _).trans (scaleV_congr (xs_read arg2 f2 0 1 ![0, 128] rfl _) (acc_read _ _ 0 1 0 1 _ (off25_eq i) _) hv800 (acc_read _ _ 0 1 1 1 _ (off26_eq i) _) hv882)
    · exact (scaleV0 _ _ _ _ _).trans (scaleV_congr (xs_read arg2 f2 0 0 ![0, 0] rfl _) (acc_read _ _ 0 1 0 0 _ (off23_eq i) _) hv800 (acc_read _ _ 0 1 1 0 _ (off24_eq i) _) hv882)

end Cert.KernelIdeal.Hand

end
-- ==== Proof.KernelIdeal.Run.lean ====
module

public import proofs.«01_k».proof.Proof.KernelIdeal.Spec
public import proofs.«01_k».proof.Proof.KernelIdeal.Body
public import proofs.«01_k».proof.Proof.KernelIdeal.Body0
public import Idealize.ShloMosaic.Lib.Pipeline.Regions

@[expose] public section

set_option maxRecDepth 16384

noncomputable section

/-! # The run: the pipeline's proof data, the body's obligation and the launch -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (Pipeline.UD sig nD τ) ℕ

/-- An input window that the body leaves alone holds, at every point, what a fetch there puts in the buffer. -/
theorem finds_in {c : Dev nD} (rd : RDat τ (Elt F) Unit ℕ (Pipeline.UD sig nD τ) ℕ cfg0 c) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, rd.after w t Y X → X = Y) :
    ∀ (n : ℕ) (t : Fin cfg0.N), t.val = n → ∀ X, rd.Finds w t X → ∃ d, X = rd.fetched w t d := by
  intro n
  induction n with
  | zero =>
    intro t ht X hX
    refine (rd.finds_of_fetch ?_ X).mp hX
    rw [(cfg0.win w).fetch_in hw t]; exact .inl ht
  | succ n ih =>
    intro t ht X hX
    by_cases hf : (cfg0.win w).fetch t = true
    · exact (rd.finds_of_fetch hf X).mp hX
    · have hf' : (cfg0.win w).fetch t = false := by simpa using hf
      obtain ⟨h0, hi⟩ := Pipeline.Window.index_eq_of_fetch _ hw t hf'
      have := (rd.finds_of_pos hf' h0 X).mp hX
      have hfl : (cfg0.win w).flush ⟨t.val - 1, Nat.lt_of_le_of_lt (Nat.sub_le _ _) t.isLt⟩ = false := by
        unfold Pipeline.Window.flush; rw [hw]; rfl
      obtain ⟨Y, hY, hXY⟩ := this.resolve_left (by rw [hfl]; exact Bool.false_ne_true)
      obtain ⟨d, rfl⟩ := ih _ (by show t.val - 1 = n; omega) Y hY
      exact ⟨d, (hkeep _ _ _ hXY).trans (rd.fetched_congr w hi.symm (hclip _ _ hi.symm) d)⟩

variable (m : (ℓ : Loc nD τ sig) → Buf (Elt F) ℓ) (ρ : Dev nD → PrngReg)

/-- The share of each input array the windows hold: the two weight arrays, which the body's own copies read too, by half. -/
def qs (w : Fin cfg0.W) : PosShare TreeShare := if w.val = 2 ∨ w.val = 3 then fullShare.left else fullShare

/-- What is held between points: the scratch buffers in the invariant's relation, the kernel's own semaphores at zero, and the
    other half of the two weight arrays. -/
def Φc (c : Dev nD) (t : ℕ) : sProp 𝕄 :=
  iprop(∃ f14 f15 f16, ⌜Inv m c t f14 f15 f16⌝
    ∗ pt c (Memref.whole cc0_scratch0) f14 ∗ pt c (Memref.whole cc0_scratch1) f15 ∗ pt c (Memref.whole cc0_scratch2) f16
    ∗ (∃ f, pt c (Memref.whole cc0_scratch3) f) ∗ (∃ f, pt c (Memref.whole cc0_scratch4) f)
    ∗ semVal ((c : Thread nD τ), osem 0) 0 ∗ semVal ((c : Thread nD τ), osem 1) 0
    ∗ ptq c (Memref.whole main_arg2) fullShare.right (V m c main_arg2) ∗ ptq c (Memref.whole main_arg4) fullShare.right (V m c main_arg4))

/-- The proof data: an input's staging buffer is left as found, an output's as `Out` states. -/
def rdats (_ : Fin 1) (c : Dev nD) : RDat τ (Elt F) Unit ℕ (Pipeline.UD sig nD τ) ℕ cfg0 c where
  A w := V m c (Pipeline.arrRef spec0 w)
  after w t Y X := if w.val < 7 then X = Y else Out m c w t X
  Φ t := Φc m c t.val
  q := qs
  owed _ := 0

theorem A_eq (c : Dev nD) (w : Fin cfg0.W) : (rdats m 0 c).A w = V m c (Pipeline.arrRef spec0 w) := by dsimp only [rdats]

theorem after_in (c : Dev nD) (w : Fin cfg0.W) (hw : w.val < 7) (t Y X) : (rdats m 0 c).after w t Y X ↔ X = Y := by
  dsimp only [rdats]; rw [if_pos hw]

theorem after_out (c : Dev nD) (w : Fin cfg0.W) (hw : ¬ w.val < 7) (t Y X) : (rdats m 0 c).after w t Y X ↔ Out m c w t X := by
  dsimp only [rdats]; rw [if_neg hw]

/-- Every input's cut is a function of its block index. -/
theorem clip_congr (w : Fin cfg0.W) (hw : w.val < 7) (t t' : Fin cfg0.N) (h : (cfg0.win w).index t = (cfg0.win w).index t') :
    (cfg0.win w).clip (cfg0.grid.coords t) = (cfg0.win w).clip (cfg0.grid.coords t') := by
  match w, hw with
  | ⟨0, _⟩, _ => exact funext fun a => congrArg (fun ix => Pipeline.Clip.of (ix a) (S2x256x4096.size a) (S2x6404x4096.size a)) h
  | ⟨1, _⟩, _ => exact funext fun a => congrArg (fun ix => Pipeline.Clip.of (ix a) (S2x256.size a) (S2x6404.size a)) h
  | ⟨2, _⟩, _ => rfl
  | ⟨3, _⟩, _ => rfl
  | ⟨4, _⟩, _ => rfl
  | ⟨5, _⟩, _ => rfl
  | ⟨6, _⟩, _ => rfl

/-- An input's staging buffer when the body runs. -/
theorem staged (c : Dev nD) (w : Fin cfg0.W) (hw : w.val < 7) (ho : (cfg0.win w).isOut = false) (t : Fin cfg0.N) (X)
    (h : (rdats m 0 c).Finds w t X) : Staged m c w t X := by
  obtain ⟨d, hd⟩ := finds_in (rdats m 0 c) w ho (clip_congr w hw) (fun t Y X => (after_in m c w hw t Y X).mp) _ t rfl X h
  exact ⟨d, hd⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- One point of the body, whichever of its two cases. -/
theorem body_run (c : Dev nD) (t : Fin cfg0.N) (Y : (w : Fin cfg0.W) → (cfg0.win w).block.Idx → Elt F (cfg0.win w).elt) (hY : ∀ w, (rdats m 0 c).Finds w t (Y w)) :
    iprop((rdats m 0 c).Φ t.castSucc ∗ (rdats m 0 c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
      ⊢ wp frame (wpE (defs₀ (F := F)) Variants.none c none) Set.univ (bodyAt0 t) (fun _ =>
        iprop((rdats m 0 c).Φ t.succ ∗ (rdats m 0 c).owesAt () t.succ
          ∗ (∃ X, ⌜(rdats m 0 c).after 0 t (Y 0) X⌝ ∗ owns (c : Thread nD τ) (st0_0 t) fullShare X) ∗ (∃ X, ⌜(rdats m 0 c).after 1 t (Y 1) X⌝ ∗ owns (c : Thread nD τ) (st0_1 t) fullShare X) ∗ (∃ X, ⌜(rdats m 0 c).after 2 t (Y 2) X⌝ ∗ owns (c : Thread nD τ) (st0_2 t) fullShare X) ∗ (∃ X, ⌜(rdats m 0 c).after 3 t (Y 3) X⌝ ∗ owns (c : Thread nD τ) (st0_3 t) fullShare X) ∗ (∃ X, ⌜(rdats m 0 c).after 4 t (Y 4) X⌝ ∗ owns (c : Thread nD τ) (st0_4 t) fullShare X) ∗ (∃ X, ⌜(rdats m 0 c).after 5 t (Y 5) X⌝ ∗ owns (c : Thread nD τ) (st0_5 t) fullShare X) ∗ (∃ X, ⌜(rdats m 0 c).after 6 t (Y 6) X⌝ ∗ owns (c : Thread nD τ) (st0_6 t) fullShare X) ∗ (∃ X, ⌜(rdats m 0 c).after 7 t (Y 7) X⌝ ∗ owns (c : Thread nD τ) (st0_7 t) fullShare X) ∗ (∃ X, ⌜(rdats m 0 c).after 8 t (Y 8) X⌝ ∗ owns (c : Thread nD τ) (st0_8 t) fullShare X) ∗ (∃ X, ⌜(rdats m 0 c).after 9 t (Y 9) X⌝ ∗ owns (c : Thread nD τ) (st0_9 t) fullShare X) ∗ (∃ X, ⌜(rdats m 0 c).after 10 t (Y 10) X⌝ ∗ owns (c : Thread nD τ) (st0_10 t) fullShare X))) := by
  rw [show (rdats m 0 c).Φ t.castSucc = Φc m c t.val from rfl, show (rdats m 0 c).Φ t.succ = Φc m c (t.val + 1) from rfl]
  unfold Φc RDat.owesAt Pipeline.owesWithin
  rw [show (rdats m 0 c).owed t.castSucc = 0 from rfl, show (rdats m 0 c).owed t.succ = 0 from rfl]
  iintro ⟨⟨%f14, %f15, %f16, %hinv, H14, H15, H16, ⟨%f17, H17⟩, ⟨%f18, H18⟩, Hd0, Hd1, HA2, HA4⟩, ⟨%W, %hW, HO⟩, H0, H1, H2, H3, H4, H5, H6, H7, H8, H9, H10⟩
  have hstep := inv_step m c t (Y 0) (Y 1) (Y 2) (Y 3) (Y 4) (Y 5) (Y 6) f14 f15 f16 (hf := hinv)
    (h1 := staged m c 0 (by decide) rfl t _ (hY 0)) (h2 := staged m c 1 (by decide) rfl t _ (hY 1)) (h3 := staged m c 2 (by decide) rfl t _ (hY 2)) (h4 := staged m c 3 (by decide) rfl t _ (hY 3)) (h7 := staged m c 4 (by decide) rfl t _ (hY 4)) (h8 := staged m c 5 (by decide) rfl t _ (hY 5)) (h9 := staged m c 6 (by decide) rfl t _ (hY 6))
  unfold bodyAt0
  by_cases hc : k0_cond1 (grid0.coords t) = 1#1
  · iapply (kernelRun0 (F := F) c (grid0.coords t) _ _ _ _ _ _ _ _ _ _ _ _ _ _ _ _ _ _ _ _ _ _ (Y 0) (Y 1) (Y 2) (Y 3) (Y 4) (Y 5) (Y 6) (V m c main_arg2) (V m c main_arg4) f14 f15 f16 f17 f18 fullShare.right fullShare.right hc W _)
    isplitl [H0]; · iexact H0
    isplitl [H1]; · iexact H1
    isplitl [H2]; · iexact H2
    isplitl [H3]; · iexact H3
    isplitl [HA2]; · iexact HA2
    isplitl [HA4]; · iexact HA4
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H14]; · iexact H14
    isplitl [H15]; · iexact H15
    isplitl [H16]; · iexact H16
    isplitl [H17]; · iexact H17
    isplitl [H18]; · iexact H18
    isplitl [Hd0]; · iexact Hd0
    isplitl [Hd1]; · iexact Hd1
    isplitl [HO]; · iexact HO
    iintro ⟨H0, H1, H2, H3, HA2, HA4, H4, H5, H6, ⟨%X10, %X11, %X12, %X13, %g14, %g15, %g16, %hk, H7, H8, H9, H10, H14, H15, H16, H17, H18, Hd0, Hd1, ⟨%W', HO⟩⟩⟩
    obtain ⟨hi, h7, h8, h9, h10⟩ := hstep _ _ _ _ _ _ _ hk
    isplitl [H14 H15 H16 H17 H18 Hd0 Hd1 HA2 HA4]
    · iexists g14, g15, g16; isplitr; · ipureintro; exact hi
      isplitl [H14]; · iexact H14
      isplitl [H15]; · iexact H15
      isplitl [H16]; · iexact H16
      isplitl [H17]; · iexact H17
      isplitl [H18]; · iexact H18
      isplitl [Hd0]; · iexact Hd0
      isplitl [Hd1]; · iexact Hd1
      isplitl [HA2]; · iexact HA2
      iexact HA4
    isplitl [HO]
    · iexists W'; isplitr; · ipureintro; exact fun _ _ => Or.inl trivial
      iexact HO
    isplitl [H0]; · iexists _; isplitr; swap; (· iexact H0); ipureintro; exact (after_in m c 0 (by decide) t _ _).mpr rfl
    isplitl [H1]; · iexists _; isplitr; swap; (· iexact H1); ipureintro; exact (after_in m c 1 (by decide) t _ _).mpr rfl
    isplitl [H2]; · iexists _; isplitr; swap; (· iexact H2); ipureintro; exact (after_in m c 2 (by decide) t _ _).mpr rfl
    isplitl [H3]; · iexists _; isplitr; swap; (· iexact H3); ipureintro; exact (after_in m c 3 (by decide) t _ _).mpr rfl
    isplitl [H4]; · iexists _; isplitr; swap; (· iexact H4); ipureintro; exact (after_in m c 4 (by decide) t _ _).mpr rfl
    isplitl [H5]; · iexists _; isplitr; swap; (· iexact H5); ipureintro; exact (after_in m c 5 (by decide) t _ _).mpr rfl
    isplitl [H6]; · iexists _; isplitr; swap; (· iexact H6); ipureintro; exact (after_in m c 6 (by decide) t _ _).mpr rfl
    isplitl [H7]; · iexists _; isplitr; swap; (· iexact H7); ipureintro; exact (after_out m c 7 (by decide) t _ _).mpr h7
    isplitl [H8]; · iexists _; isplitr; swap; (· iexact H8); ipureintro; exact (after_out m c 8 (by decide) t _ _).mpr h8
    isplitl [H9]; · iexists _; isplitr; swap; (· iexact H9); ipureintro; exact (after_out m c 9 (by decide) t _ _).mpr h9
    iexists _; isplitr; swap; (· iexact H10); ipureintro; exact (after_out m c 10 (by decide) t _ _).mpr h10
  · iapply (kernelRun (F := F) c (grid0.coords t) _ _ _ _ _ _ _ _ _ _ _ _ _ _ _ _ _ _ _ _ _ _ (Y 0) (Y 1) (Y 2) (Y 3) (Y 4) (Y 5) (Y 6) (V m c main_arg2) (V m c main_arg4) f14 f15 f16 f17 f18 fullShare.right fullShare.right hc W _)
    isplitl [H0]; · iexact H0
    isplitl [H1]; · iexact H1
    isplitl [H2]; · iexact H2
    isplitl [H3]; · iexact H3
    isplitl [HA2]; · iexact HA2
    isplitl [HA4]; · iexact HA4
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H14]; · iexact H14
    isplitl [H15]; · iexact H15
    isplitl [H16]; · iexact H16
    isplitl [H17]; · iexact H17
    isplitl [H18]; · iexact H18
    isplitl [Hd0]; · iexact Hd0
    isplitl [Hd1]; · iexact Hd1
    isplitl [HO]; · iexact HO
    iintro ⟨H0, H1, H2, H3, HA2, HA4, H4, H5, H6, ⟨%X10, %X11, %X12, %X13, %g14, %g15, %g16, %hk, H7, H8, H9, H10, H14, H15, H16, H17, H18, Hd0, Hd1, ⟨%W', HO⟩⟩⟩
    obtain ⟨hi, h7, h8, h9, h10⟩ := hstep _ _ _ _ _ _ _ hk
    isplitl [H14 H15 H16 H17 H18 Hd0 Hd1 HA2 HA4]
    · iexists g14, g15, g16; isplitr; · ipureintro; exact hi
      isplitl [H14]; · iexact H14
      isplitl [H15]; · iexact H15
      isplitl [H16]; · iexact H16
      isplitl [H17]; · iexact H17
      isplitl [H18]; · iexact H18
      isplitl [Hd0]; · iexact Hd0
      isplitl [Hd1]; · iexact Hd1
      isplitl [HA2]; · iexact HA2
      iexact HA4
    isplitl [HO]
    · iexists W'; isplitr; · ipureintro; exact fun _ _ => Or.inl trivial
      iexact HO
    isplitl [H0]; · iexists _; isplitr; swap; (· iexact H0); ipureintro; exact (after_in m c 0 (by decide) t _ _).mpr rfl
    isplitl [H1]; · iexists _; isplitr; swap; (· iexact H1); ipureintro; exact (after_in m c 1 (by decide) t _ _).mpr rfl
    isplitl [H2]; · iexists _; isplitr; swap; (· iexact H2); ipureintro; exact (after_in m c 2 (by decide) t _ _).mpr rfl
    isplitl [H3]; · iexists _; isplitr; swap; (· iexact H3); ipureintro; exact (after_in m c 3 (by decide) t _ _).mpr rfl
    isplitl [H4]; · iexists _; isplitr; swap; (· iexact H4); ipureintro; exact (after_in m c 4 (by decide) t _ _).mpr rfl
    isplitl [H5]; · iexists _; isplitr; swap; (· iexact H5); ipureintro; exact (after_in m c 5 (by decide) t _ _).mpr rfl
    isplitl [H6]; · iexists _; isplitr; swap; (· iexact H6); ipureintro; exact (after_in m c 6 (by decide) t _ _).mpr rfl
    isplitl [H7]; · iexists _; isplitr; swap; (· iexact H7); ipureintro; exact (after_out m c 7 (by decide) t _ _).mpr h7
    isplitl [H8]; · iexists _; isplitr; swap; (· iexact H8); ipureintro; exact (after_out m c 8 (by decide) t _ _).mpr h8
    isplitl [H9]; · iexists _; isplitr; swap; (· iexact H9); ipureintro; exact (after_out m c 9 (by decide) t _ _).mpr h9
    iexists _; isplitr; swap; (· iexact H10); ipureintro; exact (after_out m c 10 (by decide) t _ _).mpr h10

/-- The library's body obligation, at every point. -/
theorem body_obligation (c : Dev nD) : (rdats (F := F) m 0 c).BodyObligation (defs₀ (F := F)) Variants.none () Set.univ := fun t Y hY => by
  rw [bigSep_W0, bigSep_W0, defs₀_row]
  exact body_run m c t Y hY

end Cert.KernelIdeal.Hand

end
-- ==== Proof.KernelIdeal.Launch.lean ====
module

public import proofs.«01_k».proof.Proof.KernelIdeal.Run
public import Idealize.ShloMosaic.Lib.Pipeline.Regions

@[expose] public section

set_option maxRecDepth 16384

noncomputable section

/-! # The launch: @main as its host operations and the region -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (Pipeline.UD sig nD τ) ℕ

/-- The pipeline library's algebra is the left component of the certificate's. -/
abbrev EP : Emb (UR sig nD τ) (MT nD τ sig Unit (Elt F) ℕ (Pipeline.UD sig nD τ) ℕ) := embL

/-- The TensorCore's unscoped references, as device buffers: the set the host operations run within. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- A host operation names no scoped buffer. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The kernel's own semaphores: scoped, distinct, and no staging semaphore. -/
theorem ownSemFacts : Pipeline.OwnSemFacts spec0 osem := by decide

/-- The launch element. -/
def u₀ : Pipeline.UD sig nD τ := (initOf (Pipeline.cells cfgs cellOf_inj) (Pipeline.launchToks cfgs cellOf_inj), 1)

/-- The kernel's own cells at zero, listed. -/
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), osem 0) 0 ∗ semVal ((c : Thread nD τ), osem 1) 0) :=
  Pipeline.ownSems0_eq_of_list c osem [0, 1] (by decide) (by decide)

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

variable (m : (ℓ : Loc nD τ sig) → Buf (Elt F) ℓ) (ρ : Dev nD → PrngReg)

/-- Core `c`'s buffers at launch, as the operations' valuation. -/
abbrev V₀ (c : Dev nD) : Valuation τ sig (Elt F) := fun b => m (c, b)

/-- What rides beside the buffers through the host operations: the core's `owes`. -/
abbrev R (c : Dev nD) : sProp 𝕄 := iprop(∃ W, owes (c : Thread nD τ) (0 : CellTallies nD τ sig Unit) W)

/-- The host segment: the eleven operations over the unscoped buffers. -/
def seg0 : Pipeline.HostSeg (Name := ℕ) (U := Pipeline.UD sig nD τ) (pcfgs (F := F)) defs₀ Variants.none L lv :=
  Pipeline.HostSeg.ofOps _ _ _ _ _ ucRefs hostOps0 (fun op h => sub_ucRefs op ((List.forall_iff_forall_mem.mp hostOps0_sub) op h))
    (List.forall_iff_forall_mem.mp hostOps0_fresh) (V₀ m) R

/-- What bypasses the region: the arguments no window reads. -/
abbrev Zc (c : Dev nD) : sProp 𝕄 :=
  iprop(pt c (Memref.whole main_arg3) (V m c main_arg3) ∗ pt c (Memref.whole main_arg5) (V m c main_arg5) ∗ pt c (Memref.whole main_arg6) (V m c main_arg6))

/-- What the region leaves for the end. -/
abbrev Tₙ (c : Dev nD) : sProp 𝕄 := iprop((rdats m 0 c).arraysAt cfg0.N ∗ Zc m c)

/-- The half of the two weight arrays that the body's own copies read. -/
abbrev halves (c : Dev nD) : sProp 𝕄 :=
  iprop(ptq c (Memref.whole main_arg2) fullShare.right (V m c main_arg2) ∗ ptq c (Memref.whole main_arg4) fullShare.right (V m c main_arg4))

/-- An array held at the share its window takes, whole. -/
theorem arr_pt (c : Dev nD) (w : Fin cfg0.W) (q : PosShare TreeShare) (hq : (rdats m 0 c).share w = q) :
    ((((c : Thread nD τ).loc (Pipeline.arrRef spec0 w)) ↦{q} V m c (Pipeline.arrRef spec0 w)) : sProp 𝕄)
      ⊢ (cfg0.win w).arr.view.loc (c : Thread nD τ) ↦[(cfg0.win w).arr.view.set]{(rdats m 0 c).share w} (rdats m 0 c).A w := by
  rw [hq, (launch0.arr_whole w).set_eq_univ]
  exact .rfl

/-- The windows' arrays, and the halves left over, from the unscoped buffers at the region's entry. -/
theorem arrays_entry (c : Dev nD) : (unscopedBufs c (V m c) : sProp 𝕄)
    ⊢ iprop((rdats m 0 c).arrays (rdats m 0 c).A ∗ halves m c ∗ Zc m c) := by
  rw [Pipeline.unscopedBufs_split cfgs 0 (by decide) (by decide) c (V m c), unscopedRest0_eq]
  unfold RDat.arrays
  rw [bigSep_W0, bigSep_W0]
  iintro ⟨⟨H0, H1, H2, H3, H4, H5, H6, H7, H8, H9, H10⟩, A3, A5, A6, -⟩
  ihave S2 := (pointsTo_share (PosShare.mem_left_op_right fullShare)).1 $$ H2
  icases S2 with ⟨H2, R2⟩
  ihave S3 := (pointsTo_share (PosShare.mem_left_op_right fullShare)).1 $$ H3
  icases S3 with ⟨H3, R3⟩
  isplitr [R2 R3 A3 A5 A6]
  · isplitl [H0]; · iapply (arr_pt m c 0 fullShare rfl); iexact H0
    isplitl [H1]; · iapply (arr_pt m c 1 fullShare rfl); iexact H1
    isplitl [H2]; · iapply (arr_pt m c 2 fullShare.left rfl); iexact H2
    isplitl [H3]; · iapply (arr_pt m c 3 fullShare.left rfl); iexact H3
    isplitl [H4]; · iapply (arr_pt m c 4 fullShare rfl); iexact H4
    isplitl [H5]; · iapply (arr_pt m c 5 fullShare rfl); iexact H5
    isplitl [H6]; · iapply (arr_pt m c 6 fullShare rfl); iexact H6
    isplitl [H7]; · iapply (arr_pt m c 7 fullShare rfl); iexact H7
    isplitl [H8]; · iapply (arr_pt m c 8 fullShare rfl); iexact H8
    isplitl [H9]; · iapply (arr_pt m c 9 fullShare rfl); iexact H9
    iapply (arr_pt m c 10 fullShare rfl); iexact H10
  isplitl [R2 R3]
  · isplitl [R2]; · iexact R2
    iexact R3
  isplitl [A3]; · iexact A3
  isplitl [A5]; · iexact A5
  iexact A6

set_option backward.isDefEq.respectTransparency.types false in
/-- The region. -/
def reg0 : Pipeline.RDat.RegionSeg (pcfgs (F := F)) adm (rdats m) () defs₀ Variants.none L lv 0 where
  win := launch0.win.to₀
  block_pos := launch0.block_pos
  stage_whole := launch0.stage_whole
  K := Fin 2
  osem := osem
  ho := ownSemFacts
  hbody c := body_obligation m c
  hwaits := Pipeline.RDat.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop((semVal ((c : Thread nD τ), osem 0) 0 ∗ semVal ((c : Thread nD τ), osem 1) 0) ∗ halves m c)
  Y c := iprop(emp)
  Z c := Zc m c
  hentry c := by
    rw [show StableHlo.held (c : Thread nD τ) ucRefs (StableHlo.after hostOps0 (V₀ m c)) = unscopedBufs c (V m c) from (unscopedBufs_held c _).symm,
      ownSems0_eq]
    iintro ⟨⟨Hub, HO⟩, Hos, -⟩
    ihave H := (arrays_entry m c) $$ Hub
    icases H with ⟨Ha, Hh, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hos Hh]
    · isplitl [Hos]; · iexact Hos
      iexact Hh
    iexact HZ
  hin c := by
    rw [show (rdats m 0 c).Φ 0 = Φc m c 0 from rfl, show Pipeline.scopedRest (Pipeline.pin (pcfgs (F := F)) adm 0).spec c = _ from scopedRest0_eq c]; unfold Φc
    iintro ⟨⟨⟨Hd0, Hd1⟩, HA2, HA4⟩, -, ⟨%f14, H14⟩, ⟨%f15, H15⟩, ⟨%f16, H16⟩, H17, H18⟩
    iexists f14, f15, f16
    isplitr; · ipureintro; exact inv_zero m c f14 f15 f16
    isplitl [H14]; · iexact H14
    isplitl [H15]; · iexact H15
    isplitl [H16]; · iexact H16
    isplitl [H17]; · iexact H17
    isplitl [H18]; · iexact H18
    isplitl [Hd0]; · iexact Hd0
    isplitl [Hd1]; · iexact Hd1
    isplitl [HA2]; · iexact HA2
    iexact HA4
  hout c := by
    rw [ownSems0_eq, show (rdats m 0 c).Φ (Fin.last cfg0.N) = Φc m c cfg0.N from rfl, show Pipeline.scopedRest (Pipeline.pin (pcfgs (F := F)) adm 0).spec c = _ from scopedRest0_eq c]; unfold Φc
    iintro ⟨%f14, %f15, %f16, -, H14, H15, H16, H17, H18, Hd0, Hd1, -, -⟩
    isplitr; · iempintro
    isplitl [Hd0 Hd1]
    · isplitl [Hd0]; · iexact Hd0
      iexact Hd1
    isplitl [H14]; · iexists f14; iexact H14
    isplitl [H15]; · iexists f15; iexact H15
    isplitl [H16]; · iexists f16; iexact H16
    isplitl [H17]; · iexact H17
    iexact H18
  hexit c := by
    iintro ⟨Ha, HO, -, HZ⟩
    imodintro
    isplitr [HO]
    · isplitl [Ha]; · iexact Ha
      iexact HZ
    · unfold Pipeline.RDat.owesAt Pipeline.owesWithin
      icases HO with ⟨%W, -, HO⟩; iexists W; iexact HO

/-- @main as the list of the two. -/
abbrev segs : List (Pipeline.RDat.Seg (pcfgs (F := F)) adm (rdats m) () defs₀ Variants.none L lv) := [.host (seg0 m), .region (reg0 m)]

/-- What the run establishes of the memory: every window's array as the proof data relate it, the other arguments as launched. -/
def QC (c : Dev nD) (s : MemSt nD τ sig (Elt F)) : Prop :=
  (∀ w : Fin cfg0.W, (rdats m 0 c).ArrAt w cfg0.N (s.mem ((cfg0.win w).arr.view.loc (c : Thread nD τ))))
    ∧ s.mem ((c : Thread nD τ).loc main_arg3) = m ((c : Thread nD τ).loc main_arg3)
    ∧ s.mem ((c : Thread nD τ).loc main_arg5) = m ((c : Thread nD τ).loc main_arg5)
    ∧ s.mem ((c : Thread nD τ).loc main_arg6) = m ((c : Thread nD τ).loc main_arg6)

set_option backward.isDefEq.respectTransparency.types false in
/-- Every weakly fair execution of @main from zero counters ends, with every counter at zero and the memory as `QC`. -/
theorem run_main : θ_run defs (onTc (τ := τ) (main (F := F))) ⟨m, fun _ => 0, ρ⟩ (fun r => (∀ c, QC m c r.2) ∧ r.2.sem = fun _ => 0) :=
  Pipeline.RDat.θ_run_regions_kit_sems (pcfgs (F := F)) adm (rdats m) () cellOf_inj EP defs₀ Variants.none L lv m ρ main (segs m)
    (fun c Q => by rw [main_chain, Pipeline.RDat.Seg.run_eq_chain]; exact .rfl)
    (by simp only [Pipeline.RDat.Seg.pipes_host, Pipeline.RDat.Seg.pipes_region, Pipeline.RDat.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := QC m)
    (hfin := fun c s' => by
      dsimp only [Tₙ, Zc]; rw [V_main_arg3, V_main_arg5, V_main_arg6]
      iintro ⟨⟨Ha, H3, H5, H6⟩, HSI⟩
      icombine HSI H3 gives %h3
      icombine HSI H5 gives %h5
      icombine HSI H6 gives %h6
      ihave Hr := (Pipeline.RDat.arraysAt_read (pcfgs (F := F)) adm (rdats m) 0 c launch0.arr_whole cfg0.N s') $$ [Ha HSI]
      · isplitl [Ha] <;> iassumption
      icases Hr with ⟨%ha, HSI⟩
      imodintro
      isplitr; · ipureintro; exact ⟨ha, Buf.eq_of_forall_mem_univ h3, Buf.eq_of_forall_mem_univ h5, Buf.eq_of_forall_mem_univ h6⟩
      iexact HSI)
    (hQ := fun _ h hz => ⟨h, funext fun g => hz g (.inr (by revert g; decide))⟩)

/-- An input's array ends as launched. -/
theorem arg_kept (c : Dev nD) (w : Fin cfg0.W) (ho : (cfg0.win w).isOut = false) (B) (h : (rdats m 0 c).ArrAt w cfg0.N B) :
    B = V m c (Pipeline.arrRef spec0 w) := by
  rw [(rdats m 0 c).ArrAt_in w ho] at h
  exact h

/-- The seven arguments end as launched, and every counter at zero. -/
theorem frame : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) ∧ r.2.sem = fun _ => 0) :=
  (θ_run defs _ _).mono (fun r ⟨h, hz⟩ => ⟨fun c =>
    ⟨(arg_kept m c 0 rfl _ ((h c).1 0)).trans (V_main_arg0 m c), (arg_kept m c 1 rfl _ ((h c).1 1)).trans (V_main_arg1 m c),
      (arg_kept m c 2 rfl _ ((h c).1 2)).trans (V_main_arg2 m c), (h c).2.1, (arg_kept m c 3 rfl _ ((h c).1 3)).trans (V_main_arg4 m c),
      (h c).2.2.1, (h c).2.2.2⟩, hz⟩) (run_main m ρ)

end Cert.KernelIdeal.Hand

end
-- ==== Proof.Quant.lean ====
module

public import Idealize.ShloMosaic.Lib.Pointwise
public import Idealize.ShloMosaic.Lib.IndicatorCount

@[expose] public section

set_option maxRecDepth 16384

noncomputable section

/-! The projection, the normalisation and the quantiser over the extended reals, one head of one token at a time: what both
programs are shown to compute. -/

namespace Cert.Quant

open Idealize.ShloMosaic

/-- The greatest magnitude of a group, divided by the greatest code. -/
def peakQ (y : Fin 32 → EReal) : EReal :=
  Finset.univ.fold max (Ideal.ofBits .f32 0xFF800000#32) (fun i => FloatOps.absf (F := Ideal) (φ := .f32) (y i)) * Ideal.ofBits .f32 0x3B124925#32

/-- How many of the powers of two from 2^-126 to 2^119 are at most `a`. -/
def cnt (a : EReal) : ℕ := (Finset.univ.filter fun k : Fin 246 => (((2 : ℝ) ^ ((k.val : ℤ) - 126) : ℝ) : EReal) ≤ a).card

/-- The exponent of a group. -/
def expQ (a : EReal) : BitVec 32 := if cnt a = 0 ∨ a = ⊤ then 0#32 else BitVec.ofNat 32 (cnt a) - 126#32

/-- The code of a number of a group of exponent `e`. -/
def codeQ (y : EReal) (e : BitVec 32) : EReal :=
  min (Ideal.ofBits .f32 0x43E00000#32) (max (Ideal.ofBits .f32 0xC3E00000#32)
    (y * FloatOps.exp2 (F := Ideal) (φ := .f32) (FloatOps.sitofp (F := Ideal) .f32 (IntOp.subi 0#32 e))))

/-- The scale byte of a group of exponent `e`. -/
def byteQ (e : BitVec 32) : BitVec 8 := BitVec.setWidth 8 (IntOp.addi e 127#32)

/-- One head of one token of the projection, scaled. -/
def rawQ (x : Fin 4096 → EReal) (w : Fin 4096 → Fin 128 → EReal) (xs : EReal) (ws : Fin 128 → EReal) (e : Fin 128) : EReal :=
  (∑ k, x k * w k e) * xs * ws e

/-- A head divided by its root mean square, times the gains. -/
def normQ (r g : Fin 128 → EReal) (e : Fin 128) : EReal :=
  r e * Ideal.rsqrt (Ideal.div (∑ e, r e * r e) (Ideal.ofBits .f32 0x43000000#32) + Ideal.ofBits .f32 0x3727C5AC#32) * g e

/-- Group `g` of a head. -/
def grp (r : Fin 128 → EReal) (g : Fin 4) : Fin 32 → EReal := fun i => r ⟨g.val * 32 + i.val, by omega⟩

/-- The codes of a head. -/
def codesQ (r : Fin 128 → EReal) (e : Fin 128) : EReal := codeQ (r e) (expQ (peakQ (grp r ⟨e.val / 32, by omega⟩)))

/-- The scale bytes of a head. -/
def bytesQ (r : Fin 128 → EReal) (g : Fin 4) : BitVec 8 := byteQ (expQ (peakQ (grp r g)))

theorem cnt_le (a : EReal) : cnt a ≤ 246 := (Finset.card_le_univ _).trans (by simp)

theorem word_parts : ∀ n : Fin 255, ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

theorem ieee_pow (b : BitVec 32) (n : ℕ) (hn : (b.extractLsb' 31 1 == 1#1) = false) (he : (b.extractLsb' 23 8).toNat = n)
    (hf : (b.extractLsb' 0 23).toNat = 0) (h1 : 1 ≤ n) (h2 : n < 255) :
    Ideal.ofBits .f32 b = (((2 : ℝ) ^ ((n : ℤ) - 127) : ℝ) : EReal) := by
  show Ideal.ieee 8 23 b = _
  unfold Ideal.ieee
  simp only [Nat.reduceAdd, hn, he, hf]
  rw [if_neg (by omega), if_neg (by omega)]
  congr 1
  rw [if_neg (by simp), one_mul, show ((n : ℤ) - (2 ^ (8 - 1) - 1) - (23 : ℕ)) = ((n : ℤ) - 127) - 23 by norm_num, zpow_sub₀ (by norm_num)]
  norm_num
  ring

/-- A word whose exponent field is `n` and whose other fields are zero is a power of two. -/
theorem pow_word (n : ℕ) (h1 : 1 ≤ n) (h2 : n < 255) :
    Ideal.ofBits .f32 (IntOp.shli .vector (BitVec.ofNat 32 n) 23#32) = (((2 : ℝ) ^ ((n : ℤ) - 127) : ℝ) : EReal) :=
  have h := word_parts ⟨n, h2⟩
  ieee_pow _ n h.1 h.2.1 h.2.2 h1 h2

theorem toInt_sub : ∀ k : Fin 246, (IntOp.addi (BitVec.ofNat 32 k.val) 4294967170#32).toInt = (k.val : ℤ) - 126 := by decide +kernel

/-- Two to an integer power. -/
theorem exp2_int (b : BitVec 32) : FloatOps.exp2 (F := Ideal) (φ := .f32) (FloatOps.sitofp (F := Ideal) .f32 b) = (((2 : ℝ) ^ b.toInt : ℝ) : EReal) := by
  show Ideal.exp2 ((b.toInt : ℝ) : EReal) = _
  rw [Ideal.exp2_coe]
  exact congrArg _ (Real.rpow_intCast 2 b.toInt)

theorem add_one_word : ∀ k : Fin 246, IntOp.addi (BitVec.ofNat 32 k.val) 1#32 = BitVec.ofNat 32 (k.val + 1) := by decide +kernel

/-- The powers counted by their words. -/
theorem count_words (a : EReal) :
    Finset.univ.fold IntOp.addi (0#32) (fun x : Fin 246 => BitVec.setWidth 32 (BitVec.ofBool (decide
      (Ideal.ofBits .f32 (IntOp.shli ArithUnit.vector (IntOp.addi (BitVec.ofNat 32 x.val) 1#32) 23#32) ≤ a)))) = BitVec.ofNat 32 (cnt a) := by
  rw [IndicatorCount.fold_addi_setWidth_eq_card (fun x : Fin 246 => BitVec.ofBool (decide
      (Ideal.ofBits .f32 (IntOp.shli ArithUnit.vector (IntOp.addi (BitVec.ofNat 32 x.val) 1#32) 23#32) ≤ a)))]
  unfold cnt
  congr 2
  refine Finset.filter_congr fun k _ => ?_
  rw [add_one_word, pow_word _ (by omega) (by omega), show (((k.val + 1 : ℕ) : ℤ) - 127) = (k.val : ℤ) - 126 by push_cast; ring]
  by_cases h : (((2 : ℝ) ^ ((k.val : ℤ) - 126) : ℝ) : EReal) ≤ a <;> simp [h]

/-- The powers counted by their exponents. -/
theorem count_exps (a : EReal) :
    Finset.univ.fold IntOp.addi (0#32) (fun x : Fin 246 => BitVec.setWidth 32 (BitVec.ofBool (decide
      (FloatOps.exp2 (F := Ideal) (φ := .f32) (FloatOps.sitofp (F := Ideal) .f32 (IntOp.addi (BitVec.ofNat 32 x.val) 4294967170#32)) ≤ a)))) = BitVec.ofNat 32 (cnt a) := by
  rw [IndicatorCount.fold_addi_setWidth_eq_card (fun x : Fin 246 => BitVec.ofBool (decide
      (FloatOps.exp2 (F := Ideal) (φ := .f32) (FloatOps.sitofp (F := Ideal) .f32 (IntOp.addi (BitVec.ofNat 32 x.val) 4294967170#32)) ≤ a)))]
  unfold cnt
  congr 2
  refine Finset.filter_congr fun k _ => ?_
  rw [exp2_int, toInt_sub]
  by_cases h : (((2 : ℝ) ^ ((k.val : ℤ) - 126) : ℝ) : EReal) ≤ a <;> simp [h]

theorem cnt_zero : cnt 0 = 0 := by
  unfold cnt
  rw [Finset.card_eq_zero, Finset.filter_eq_empty_iff]
  intro k _ h
  have : (0 : ℝ) < (2 : ℝ) ^ ((k.val : ℤ) - 126) := by positivity
  exact absurd (EReal.coe_le_coe_iff.mp h) (not_le.mpr this)

theorem inf_word : Ideal.ofBits .f32 0x7F800000#32 = ⊤ := by simp [Ideal.ofBits, Ideal.ieee]

theorem pick_k : ∀ n : Fin 247, Scalar.select (IntOp.andi (IntOp.cmpi CmpIPredicate.sgt (BitVec.ofNat 32 n.val) 0#32)
      (IntOp.cmpi CmpIPredicate.slt (BitVec.ofNat 32 n.val) 255#32)) (IntOp.subi (BitVec.ofNat 32 n.val) 126#32) 0#32
    = if n.val = 0 then 0#32 else BitVec.ofNat 32 n.val - 126#32 := by decide +kernel

theorem pick_k' : Scalar.select (IntOp.andi (IntOp.cmpi CmpIPredicate.sgt 255#32 0#32)
      (IntOp.cmpi CmpIPredicate.slt 255#32 255#32)) (IntOp.subi 255#32 126#32) 0#32 = 0#32 := by decide

theorem pick_r : ∀ (n : Fin 247) (p q : Bool), Scalar.select (IntOp.ori (IntOp.ori (BitVec.ofBool p) (IntOp.cmpi CmpIPredicate.eq (BitVec.ofNat 32 n.val) 0#32)) (BitVec.ofBool q))
      (0#32) (IntOp.addi (BitVec.ofNat 32 n.val) 4294967170#32)
    = if p = true ∨ n.val = 0 ∨ q = true then 0#32 else BitVec.ofNat 32 n.val - 126#32 := by decide +kernel

/-- The exponent as the kernel picks it. -/
theorem exp_k (a : EReal) : (if a = Ideal.ofBits .f32 0x7F800000#32 then 255#32 else BitVec.ofNat 32 (cnt a)) = (if a = ⊤ then 255#32 else BitVec.ofNat 32 (cnt a)) := by
  rw [inf_word]

theorem exp_k' (a : EReal) (n : BitVec 32) (h : n = if a = ⊤ then 255#32 else BitVec.ofNat 32 (cnt a)) :
    Scalar.select (IntOp.andi (IntOp.cmpi CmpIPredicate.sgt n 0#32) (IntOp.cmpi CmpIPredicate.slt n 255#32)) (IntOp.subi n 126#32) 0#32 = expQ a := by
  subst h
  unfold expQ
  by_cases ha : a = ⊤
  · rw [if_pos ha, pick_k', if_pos (Or.inr ha)]
  · rw [if_neg ha, pick_k ⟨cnt a, Nat.lt_succ_of_le (cnt_le a)⟩]
    by_cases h0 : cnt a = 0
    · rw [if_pos h0, if_pos (Or.inl h0)]
    · rw [if_neg h0, if_neg (by tauto)]

/-- The exponent as the reference picks it. -/
theorem exp_r (a : EReal) (n : BitVec 32) (h : n = BitVec.ofNat 32 (cnt a)) :
    Scalar.select (IntOp.ori (IntOp.ori (BitVec.ofBool (decide (a = 0))) (IntOp.cmpi CmpIPredicate.eq n 0#32)) (BitVec.ofBool (decide (a = Ideal.ofBits .f32 0x7F800000#32))))
      (0#32) (IntOp.addi n 4294967170#32) = expQ a := by
  subst h
  rw [pick_r ⟨cnt a, Nat.lt_succ_of_le (cnt_le a)⟩, inf_word]
  unfold expQ
  by_cases h0 : cnt a = 0
  · rw [if_pos (Or.inr (Or.inl h0)), if_pos (Or.inl h0)]
  · have ha : a ≠ 0 := fun e => h0 (e ▸ cnt_zero)
    by_cases ht : a = ⊤
    · rw [if_pos (Or.inr (Or.inr (by simpa using ht))), if_pos (Or.inr ht)]
    · rw [if_neg (by simp [ha, h0, ht]), if_neg (by tauto)]

theorem neg_words : ∀ n : Fin 247, ∃ k : Fin 255, 1 ≤ k.val ∧ IntOp.subi (127#32) (if n.val = 0 then 0#32 else BitVec.ofNat 32 n.val - 126#32) = BitVec.ofNat 32 k.val
    ∧ (IntOp.subi (0#32) (if n.val = 0 then 0#32 else BitVec.ofNat 32 n.val - 126#32)).toInt = (k.val : ℤ) - 127 := by
  intro n
  have h : ∀ n : Fin 247, 1 ≤ (if n.val = 0 then 127 else 253 - n.val) ∧ (if n.val = 0 then 127 else 253 - n.val) < 255 ∧
      IntOp.subi (127#32) (if n.val = 0 then 0#32 else BitVec.ofNat 32 n.val - 126#32) = BitVec.ofNat 32 (if n.val = 0 then 127 else 253 - n.val)
    ∧ (IntOp.subi (0#32) (if n.val = 0 then 0#32 else BitVec.ofNat 32 n.val - 126#32)).toInt = ((if n.val = 0 then 127 else 253 - n.val : ℕ) : ℤ) - 127 := by decide +kernel
  obtain ⟨h1, h2, h3, h4⟩ := h n
  exact ⟨⟨_, h2⟩, h1, h3, h4⟩

theorem expQ_form (a : EReal) : ∃ n : Fin 247, expQ a = if n.val = 0 then 0#32 else BitVec.ofNat 32 n.val - 126#32 := by
  unfold expQ
  by_cases ht : a = ⊤
  · exact ⟨0, by rw [if_pos (Or.inr ht)]; rfl⟩
  · exact ⟨⟨cnt a, Nat.lt_succ_of_le (cnt_le a)⟩, by simp [ht]⟩

/-- The factor made of a word is the factor made by an exponential. -/
theorem factor (a : EReal) : Ideal.ofBits .f32 (IntOp.shli ArithUnit.vector (IntOp.subi (127#32) (expQ a)) 23#32)
    = FloatOps.exp2 (F := Ideal) (φ := .f32) (FloatOps.sitofp (F := Ideal) .f32 (IntOp.subi 0#32 (expQ a))) := by
  obtain ⟨n, hn⟩ := expQ_form a
  obtain ⟨k, h1, h2, h3⟩ := neg_words n
  rw [hn, h2, pow_word _ h1 k.isLt, exp2_int, h3]

theorem w128 : Ideal.ofBits .f32 0x43000000#32 = ((128 : ℝ) : EReal) := by simp [Ideal.ofBits, Ideal.ieee, -EReal.coe_mul]; norm_num
theorem w128' : Ideal.ofBits .f32 0x3C000000#32 = ((1 / 128 : ℝ) : EReal) := by simp [Ideal.ofBits, Ideal.ieee, -EReal.coe_mul]; norm_num

/-- Times 1/128 is divided by 128. -/
theorem mean (s : EReal) : s * Ideal.ofBits .f32 0x3C000000#32 = Ideal.div s (Ideal.ofBits .f32 0x43000000#32) := by
  rw [w128, w128', Ideal.div_coe (by norm_num)]

/-- A sum over the elements of a head, taken by parity. -/
theorem sum_parity (f : Fin 128 → EReal) (s : Fin 2) :
    (∑ x : Fin 64, f ⟨2 * x.val + s.val, by omega⟩) + (∑ x : Fin 64, f ⟨2 * x.val + (1 - s.val), by omega⟩) = ∑ e, f e := by
  have h : ∑ e, f e = ∑ x : Fin 64, ∑ p : Fin 2, f ⟨2 * x.val + p.val, by omega⟩ := by
    rw [← Fintype.sum_prod_type' (f := fun (x : Fin 64) (p : Fin 2) => f ⟨2 * x.val + p.val, by omega⟩)]
    refine Fintype.sum_equiv (finProdFinEquiv.symm : Fin (64 * 2) ≃ Fin 64 × Fin 2) _ _ fun e => congrArg f (Fin.ext ?_)
    show e.val = 2 * (e.val / 2) + e.val % 2
    omega
  rw [h]
  simp only [Fin.sum_univ_two, Finset.sum_add_distrib]
  fin_cases s
  · rfl
  · exact add_comm _ _

/-- A maximum over a group, taken by parity. -/
theorem max_parity (f : Fin 32 → EReal) (b : EReal) (s : Fin 2) :
    max (Finset.univ.fold max b fun x : Fin 16 => f ⟨2 * x.val + s.val, by omega⟩) (Finset.univ.fold max b fun x : Fin 16 => f ⟨2 * x.val + (1 - s.val), by omega⟩)
      = Finset.univ.fold max b f := by
  apply le_antisymm
  · refine max_le ?_ ?_ <;>
    · rw [Finset.fold_max_le]
      refine ⟨(Finset.le_fold_max _).mpr (Or.inl le_rfl), fun x _ => (Finset.le_fold_max _).mpr (Or.inr ⟨_, Finset.mem_univ _, le_rfl⟩)⟩
  · rw [Finset.fold_max_le]
    refine ⟨le_max_of_le_left ((Finset.le_fold_max _).mpr (Or.inl le_rfl)), fun x _ => ?_⟩
    by_cases hx : x.val % 2 = s.val
    · refine le_max_of_le_left ((Finset.le_fold_max _).mpr (Or.inr ⟨⟨x.val / 2, by omega⟩, Finset.mem_univ _, le_of_eq (congrArg f (Fin.ext ?_))⟩))
      show x.val = 2 * (x.val / 2) + s.val
      omega
    · refine le_max_of_le_right ((Finset.le_fold_max _).mpr (Or.inr ⟨⟨x.val / 2, by omega⟩, Finset.mem_univ _, le_of_eq (congrArg f (Fin.ext ?_))⟩))
      show x.val = 2 * (x.val / 2) + (1 - s.val)
      omega

end Cert.Quant

end
-- ==== Proof.KernelIdeal.Point.lean ====
module

public import proofs.«01_k».proof.Proof.KernelIdeal.Block
public import proofs.«01_k».proof.Proof.Quant
public import Idealize.ShloMosaic.Lib.BitcastFour

@[expose] public section

set_option maxRecDepth 16384

noncomputable section

/-! The kernel's blocks, index by index. -/

namespace Cert.KernelIdeal.Hand

open Cert.KernelIdeal Cert.KernelIdeal.Gen
open Idealize.ShloMosaic Idealize.ShloMosaic.TcCoe Idealize.ShloMosaic.Tactic
open Cert.Quant

theorem expo_apply (x : FVec Ideal S4x8x128 .f32) (j : S4x8x128.Idx) : expo x j = expQ (x j) := by
  idx_vars j
  pointwise [expo]
  refine exp_k' _ _ ?_
  exact (congrArg (fun n => if x (ix3 j0 j1 j2) = Ideal.ofBits .f32 0x7F800000#32 then 255#32 else n) (count_words _)).trans (exp_k _)

/-- The element of a head that row `r` of 512 holds is `r / 4`, the head `r % 4`: a block of four heads, laid out so. -/
def HeadsOf (y : FVec Ideal S4x16x8x128 .f32) (r : Fin 4 → Fin 128 → EReal) (n : Fin 128) : Prop :=
  ∀ (j0 : Fin 4) (j1 : Fin 16) (j2 : Fin 8), y (ix4 j0 j1 j2 n)
    = r ⟨j2.val % 4, by omega⟩ ⟨32 * j0.val + 2 * j1.val + j2.val / 4, by omega⟩

theorem peak_apply (y : FVec Ideal S4x16x8x128 .f32) (r : Fin 4 → Fin 128 → EReal) (n : Fin 128) (h : HeadsOf y r n) (j0 : Fin 4) (j1 : Fin 8) :
    peak y (ix3 j0 j1 n) = peakQ (grp (r ⟨j1.val % 4, by omega⟩) j0) := by
  pointwise [peak]
  unfold peakQ
  refine congrArg (· * _) ?_
  rw [← max_parity _ _ ⟨j1.val / 4, by omega⟩]
  refine congrArg₂ max (congrArg (fun f => Finset.fold max _ f Finset.univ) (funext fun x => ?_)) (congrArg (fun f => Finset.fold max _ f Finset.univ) (funext fun x => ?_))
  · rw [h]
    refine congrArg (FloatOps.absf (F := Ideal)) (congrArg (r _) (Fin.ext ?_))
    show 32 * j0.val + 2 * x.val + j1.val / 4 = j0.val * 32 + (2 * x.val + j1.val / 4)
    omega
  · rw [h]
    refine congrArg (FloatOps.absf (F := Ideal)) (congrArg₂ r (Fin.ext ?_) (Fin.ext ?_))
    · show (j1.val + 8 - 4) % 8 % 4 = j1.val % 4
      omega
    · show 32 * j0.val + 2 * x.val + (j1.val + 8 - 4) % 8 / 4 = j0.val * 32 + (2 * x.val + (1 - j1.val / 4))
      omega

theorem codeB_apply (y : FVec Ideal S4x16x8x128 .f32) (r : Fin 4 → Fin 128 → EReal) (n : Fin 128) (h : HeadsOf y r n) (j0 j1 : Fin 1) (j3 : Fin 4) (j4 : Fin 128) :
    codeB y (ix5 j0 j1 n j3 j4) = codesQ (r j3) j4 := by
  unfold codeB
  generalize hE : expo (peak y) = E
  have hE' : ∀ (a : Fin 4) (b : Fin 8), E (ix3 a b n) = expQ (peakQ (grp (r ⟨b.val % 4, by omega⟩) a)) := by
    intro a b
    rw [← hE, expo_apply, peak_apply y r n h]
  pointwise [k0_pay46]
  rw [hE', factor, h]
  have e3 : (⟨(j4.val % 2 * 4 + j3.val) % 4, by omega⟩ : Fin 4) = j3 := Fin.ext (by show (j4.val % 2 * 4 + j3.val) % 4 = j3.val; omega)
  have e4 : (⟨32 * (j4.val / 32) + 2 * (j4.val / 2 % 16) + (j4.val % 2 * 4 + j3.val) / 4, by omega⟩ : Fin 128) = j4 :=
    Fin.ext (by show 32 * (j4.val / 32) + 2 * (j4.val / 2 % 16) + (j4.val % 2 * 4 + j3.val) / 4 = j4.val; omega)
  unfold codesQ codeQ
  simp only [e3, e4]

theorem preV_heads (xs : Vec Ideal S1x128 .f32) (acc : Vec Ideal S1x1x1x512x128 .f32) (ws : Vec Ideal S1x512x128 .f32) (r : Fin 4 → Fin 128 → EReal) (n : Fin 128)
    (h : ∀ i : Fin 512, acc (ix5 0 0 0 i n) * xs (ix2 0 n) * ws (ix3 0 i n) = r ⟨i.val % 4, by omega⟩ ⟨i.val / 4, by omega⟩) : HeadsOf (preV xs acc ws) r n := by
  intro j0 j1 j2
  pointwise [preV, k0_pay77]
  rw [h]
  refine congrArg₂ r (Fin.ext ?_) (Fin.ext ?_)
  · show (j0.val * 128 + j1.val * 8 + j2.val) % 4 = j2.val % 4; omega
  · show (j0.val * 128 + j1.val * 8 + j2.val) / 4 = 32 * j0.val + 2 * j1.val + j2.val / 4; omega

theorem preK_heads (xs : Vec Ideal S1x128 .f32) (acc : Vec Ideal S1x1x1x512x128 .f32) (ws g : Vec Ideal S1x512x128 .f32) (r : Fin 4 → Fin 128 → EReal) (n : Fin 128)
    (gs : Fin 4 → Fin 128 → EReal) (h : ∀ i : Fin 512, acc (ix5 0 0 0 i n) * xs (ix2 0 n) * ws (ix3 0 i n) = r ⟨i.val % 4, by omega⟩ ⟨i.val / 4, by omega⟩)
    (hg : ∀ i : Fin 512, g (ix3 0 i n) = gs ⟨i.val % 4, by omega⟩ ⟨i.val / 4, by omega⟩) : HeadsOf (preK xs acc ws g) (fun j => normQ (r j) (gs j)) n := by
  intro j0 j1 j2
  pointwise [preK, k0_pay42, k0_pay43, k0_pay44]
  simp only [h, hg, mean]
  unfold normQ
  have e3 : (⟨((j0.val * 128 + j1.val * 8 + j2.val) / 8 * 8 + j2.val) % 4, by omega⟩ : Fin 4) = ⟨j2.val % 4, by omega⟩ :=
    Fin.ext (by show ((j0.val * 128 + j1.val * 8 + j2.val) / 8 * 8 + j2.val) % 4 = j2.val % 4; omega)
  have e4 : (⟨((j0.val * 128 + j1.val * 8 + j2.val) / 8 * 8 + j2.val) / 4, by omega⟩ : Fin 128) = ⟨32 * j0.val + 2 * j1.val + j2.val / 4, by omega⟩ :=
    Fin.ext (by show ((j0.val * 128 + j1.val * 8 + j2.val) / 8 * 8 + j2.val) / 4 = 32 * j0.val + 2 * j1.val + j2.val / 4; omega)
  have e3' : (⟨(j0.val * 128 + j1.val * 8 + j2.val) % 4, by omega⟩ : Fin 4) = ⟨j2.val % 4, by omega⟩ :=
    Fin.ext (by show (j0.val * 128 + j1.val * 8 + j2.val) % 4 = j2.val % 4; omega)
  have e4' : (⟨(j0.val * 128 + j1.val * 8 + j2.val) / 4, by omega⟩ : Fin 128) = ⟨32 * j0.val + 2 * j1.val + j2.val / 4, by omega⟩ :=
    Fin.ext (by show (j0.val * 128 + j1.val * 8 + j2.val) / 4 = 32 * j0.val + 2 * j1.val + j2.val / 4; omega)
  rw [← sum_parity (fun e => r ⟨j2.val % 4, by omega⟩ e * r ⟨j2.val % 4, by omega⟩ e) ⟨j2.val / 4, by omega⟩]
  simp only [e3, e4, e3', e4']
  have a1 : ∀ x : Fin 64, r ⟨(x.val * 8 + j2.val) % 4, by omega⟩ ⟨(x.val * 8 + j2.val) / 4, by omega⟩
      = r ⟨j2.val % 4, by omega⟩ ⟨2 * x.val + j2.val / 4, by omega⟩ := fun x =>
    congrArg₂ r (Fin.ext (by show (x.val * 8 + j2.val) % 4 = j2.val % 4; omega)) (Fin.ext (by show (x.val * 8 + j2.val) / 4 = 2 * x.val + j2.val / 4; omega))
  have a2 : ∀ x : Fin 64, r ⟨(x.val * 8 + (j2.val + 8 - 4) % 8) % 4, by omega⟩ ⟨(x.val * 8 + (j2.val + 8 - 4) % 8) / 4, by omega⟩
      = r ⟨j2.val % 4, by omega⟩ ⟨2 * x.val + (1 - j2.val / 4), by omega⟩ := fun x =>
    congrArg₂ r (Fin.ext (by show (x.val * 8 + (j2.val + 8 - 4) % 8) % 4 = j2.val % 4; omega)) (Fin.ext (by show (x.val * 8 + (j2.val + 8 - 4) % 8) / 4 = 2 * x.val + (1 - j2.val / 4); omega))
  simp only [a1, a2]

theorem byte_word : ∀ n : Fin 247, IntOp.addi (if n.val = 0 then 0#32 else BitVec.ofNat 32 n.val - 126#32) 127#32
    = (BitVec.setWidth 8 (IntOp.addi (if n.val = 0 then 0#32 else BitVec.ofNat 32 n.val - 126#32) 127#32)).setWidth 32 := by decide +kernel

theorem byteQ_word (a : EReal) : IntOp.addi (expQ a) 127#32 = (byteQ (expQ a)).setWidth 32 := by
  obtain ⟨n, hn⟩ := expQ_form a
  rw [hn]
  exact byte_word n

/-- The four scale bytes of a head, in one word. -/
theorem word_apply (y : FVec Ideal S4x16x8x128 .f32) (r : Fin 4 → Fin 128 → EReal) (n : Fin 128) (h : HeadsOf y r n) (j : Fin 8) (q : ℕ) (hq : q < 32) :
    (k0_pay47 (expo (peak y)) (ix2 j n)).getLsbD q = (bytesQ (r ⟨j.val % 4, by omega⟩) ⟨q / 8, by omega⟩).getLsbD (q % 8) := by
  generalize hE : expo (peak y) = E
  have hE' : ∀ (a : Fin 4) (b : Fin 8), E (ix3 a b n) = expQ (peakQ (grp (r ⟨b.val % 4, by omega⟩) a)) := by
    intro a b
    rw [← hE, expo_apply, peak_apply y r n h]
  pointwise [k0_pay47]
  simp only [hE', byteQ_word]
  exact four_bytes_getLsbD (fun g => bytesQ (r ⟨j.val % 4, by omega⟩) g) q hq

/-- The scale bytes of the two halves of the heads. -/
theorem scaleB_apply (y0 y1 : FVec Ideal S4x16x8x128 .f32) (r0 r1 : Fin 4 → Fin 128 → EReal) (n : Fin 128) (h0 : HeadsOf y0 r0 n) (h1 : HeadsOf y1 r1 n)
    (j0 j1 : Fin 1) (j2 : Fin 8) (j3 : Fin 4) :
    scaleB y0 y1 (ix5 j0 j1 j2 j3 n) = bytesQ ((if j2.val < 4 then r0 else r1) ⟨j2.val % 4, by omega⟩) j3 := by
  unfold scaleB
  generalize hw0 : k0_pay47 (expo (peak y0)) = w0
  generalize hw1 : k0_pay47 (expo (peak y1)) = w1
  pointwise
  generalize hX : shapeCast S8x1x128 (select (cmpi CmpIPredicate.slt (iota Kind.tc S8x128 32 [0] iota_S8x128_d0_w32) (broadcast S8x128 4#32)) w0 w1) shapeCasts_S8x128_S8x1x128 = X
  have hX' : X (ix3 j2 0 n) = if j2.val < 4 then w0 (ix2 j2 n) else w1 (ix2 j2 n) := by
    rw [← hX]
    pointwise
    have hc : ∀ k : Fin 8, IntOp.cmpi CmpIPredicate.slt (BitVec.ofNat 32 k.val) 4#32 = if k.val < 4 then 1#1 else 0#1 := by decide
    rw [hc]
    split <;> rfl
  refine BitVec.eq_of_getLsbD_eq fun i hi => ?_
  rw [bitcast_getLsbD X _ _ i hi (by decide)]
  have hr : S8x4x128.row (ix3 j2 j3 n) = j3.val := rfl
  have e : ∀ p hp, p = 0 → (bitcasts_S8x1x128_w32_S8x4x128_w8).srcIdx (ix3 j2 j3 n) p hp = ix3 j2 0 n := by
    intro p hp hp0
    funext c
    match c with
    | ⟨0, _⟩ => exact Fin.ext ((bitcasts_S8x1x128_w32_S8x4x128_w8).srcIdx_other _ _ _ ⟨0, by decide⟩ (by decide))
    | ⟨1, _⟩ => exact Fin.ext (((bitcasts_S8x1x128_w32_S8x4x128_w8).srcIdx_row _ _ _ ⟨1, by decide⟩ (by decide)).trans hp0)
    | ⟨2, _⟩ => exact Fin.ext ((bitcasts_S8x1x128_w32_S8x4x128_w8).srcIdx_other _ _ _ ⟨2, by decide⟩ (by decide))
  rw [e _ _ (by rw [hr]; omega), hX']
  have hq : (S8x4x128.row (ix3 j2 j3 n) * 8 + i) % 32 = j3.val * 8 + i := by rw [hr]; omega
  rw [hq]
  have e3 : (⟨(j3.val * 8 + i) / 8, by omega⟩ : Fin 4) = j3 := Fin.ext (by show (j3.val * 8 + i) / 8 = j3.val; omega)
  have ei : (j3.val * 8 + i) % 8 = i := by omega
  by_cases h4 : j2.val < 4
  · rw [if_pos h4, if_pos h4, ← hw0, word_apply y0 r0 n h0 j2 _ (by omega), e3, ei]
  · rw [if_neg h4, if_neg h4, ← hw1, word_apply y1 r1 n h1 j2 _ (by omega), e3, ei]

/-- The products of a block of weights and a tile of tokens. -/
theorem prod_apply (a : Vec Ideal S1x1024x4096 .fp8e4m3) (b : Vec Ideal S1x1x256x4096 .fp8e4m3) (j0 j1 j2 : Fin 1) (j3 : Fin 1024) (j4 : Fin 256) :
    k0_pay38 a b (ix5 j0 j1 j2 j3 j4) = ∑ x : Fin 4096, b (ix4 0 0 j4 x) * a (ix3 0 j3 x) := by
  pointwise [k0_pay38]
  exact Finset.sum_congr rfl fun x _ => mul_comm _ _

end Cert.KernelIdeal.Hand

end
-- ==== Proof.KernelIdeal.Heads.lean ====
module

public import proofs.«01_k».proof.Proof.KernelIdeal.Spec
public import proofs.«01_k».proof.Proof.KernelIdeal.Point
public import Idealize.ShloMosaic.Lib.Claim

@[expose] public section

set_option maxRecDepth 16384

noncomputable section

/-! The heads that the blocks of a tile hold. -/

namespace Cert.KernelIdeal.Hand

open Cert.KernelIdeal Cert.KernelIdeal.Gen
open Idealize.ShloMosaic Idealize.ShloMosaic.TcCoe Idealize.ShloMosaic.Tactic
open Cert.Quant

variable (m : (ℓ : Loc nD τ sig) → Buf (Elt Ideal) ℓ) (c : Dev nD)

/-- Head `h` of layer `l` for token `n` of row `b`: the scaled projection. -/
def rowK (v0 : Vec Ideal S2x6404x4096 .fp8e4m3) (v2 : Vec Ideal S2x6404 .f32) (v4 : Vec Ideal S10x4096x8x128 .fp8e4m3) (v11 : Vec Ideal S10x8x128 .f32)
    (b : Fin 2) (n : Fin 6404) (l : Fin 10) (h : Fin 8) : Fin 128 → EReal :=
  rawQ (fun k => v0 (ix3 b n k)) (fun k e => v4 (ix4 l k h e)) (v2 (ix2 b n)) (fun e => v11 (ix3 l h e))

theorem v4_apply (l : Fin 10) (r : Fin 1024) : (V m c main_v4 : Vec Ideal S10x1x1024 .f32) (ix3 l 0 r)
    = (V m c main_arg3 : Vec Ideal S10x8x128 .f32) (ix3 l ⟨r.val / 512 * 4 + r.val % 4, by omega⟩ ⟨r.val % 512 / 4, by omega⟩) := by
  rw [V_main_arg3]
  entry_read
  pointwise
  have e : r.val / 4 % 128 = r.val % 512 / 4 := by omega
  simp only [e]

theorem v7_apply (l : Fin 10) (r : Fin 1024) : (V m c main_v7 : Vec Ideal S10x1x1024 .f32) (ix3 l 0 r)
    = (V m c main_arg5 : Vec Ideal S10x8x128 .f32) (ix3 l ⟨r.val / 512 * 4 + r.val % 4, by omega⟩ ⟨r.val % 512 / 4, by omega⟩) := by
  rw [V_main_arg5]
  entry_read
  pointwise
  have e : r.val / 4 % 128 = r.val % 512 / 4 := by omega
  simp only [e]

theorem v10_apply (l : Fin 10) (r : Fin 1024) : (V m c main_v10 : Vec Ideal S10x1x1024 .f32) (ix3 l 0 r)
    = (V m c main_arg6 : Vec Ideal S10x128 .f32) (ix2 l ⟨r.val % 512 / 4, by omega⟩) := by
  rw [V_main_arg6]
  entry_read
  pointwise
  have e : r.val / 4 % 128 = r.val % 512 / 4 := by omega
  simp only [e]

/-- The product of a token's row and a weight's. -/
def dot (x w : Fin 4096 → EReal) : EReal := ∑ k, x k * w k

/-- An element of a block of products: the product of a token's row and a weight's. -/
theorem acc_apply (l : Fin 10) (k : ℕ) (X : Vec Ideal S2x256x4096 .fp8e4m3) (hX : XV m c k X) (b kv : Fin 2) (hq : Fin 2) (th : Fin 2) (n : Fin 128)
    (hn : 256 * k + (128 * th.val + n.val) < 6404) (i : Fin 512) :
    accB (accG m c l.val X) 0 b.val kv.val hq.val th.val (ix5 0 0 0 i n)
      = dot (fun x => (V m c main_arg0 : Vec Ideal S2x6404x4096 .fp8e4m3) (ix3 b ⟨256 * k + (128 * th.val + n.val), hn⟩ x))
        fun x => (if kv.val = 0 then (V m c main_arg2 : Vec Ideal S10x4096x8x128 .fp8e4m3) else V m c main_arg4)
          (ix4 l x ⟨hq.val * 4 + i.val % 4, by omega⟩ ⟨i.val / 4, by omega⟩) := by
  have e : nidx S1x1x1x1024x256 (by decide) ![0, 0, 0, (512 * hq.val + i.val) % 1024, (128 * th.val + n.val) % 256]
      = (ix5 0 0 0 ⟨512 * hq.val + i.val, by omega⟩ ⟨128 * th.val + n.val, by omega⟩ : S1x1x1x1024x256.Idx) := by
    refine nidx_eq _ _ _ _ fun a => ?_
    fin_cases a
    · rfl
    · rfl
    · rfl
    · show (512 * hq.val + i.val) % 1024 = 512 * hq.val + i.val; omega
    · show (128 * th.val + n.val) % 256 = 128 * th.val + n.val; omega
  show k0_pay38 (WB m c l.val (kv.val % 2)) (XB X (b.val % 2)) (nidx S1x1x1x1024x256 (by decide) ![0, 0, 0, (512 * hq.val + i.val) % 1024, (128 * th.val + n.val) % 256]) = _
  rw [e, prod_apply]
  refine Finset.sum_congr rfl fun x _ => congrArg₂ (fun a b : EReal => a * b) ?_ ?_
  · have e1 : nidx S2x256x4096 (by decide) ![b.val % 2, 128 * th.val + n.val, x.val] = (ix3 b ⟨128 * th.val + n.val, by omega⟩ x : S2x256x4096.Idx) := by
      refine nidx_eq _ _ _ _ fun a => ?_
      fin_cases a
      · show b.val % 2 = b.val; omega
      · rfl
      · rfl
    show X (nidx S2x256x4096 (by decide) ![b.val % 2, 128 * th.val + n.val, x.val]) = _
    rw [e1]
    refine (hX _ hn).trans (congrArg (V m c main_arg0 : Vec Ideal S2x6404x4096 .fp8e4m3) (nidx_eq _ _ _ _ fun a => ?_))
    fin_cases a
    · rfl
    · rfl
    · rfl
  · show wfull (V m c main_arg2) (V m c main_arg4) l.val (1024 * (kv.val % 2) + (512 * hq.val + i.val)) x.val = _
    unfold wfull
    have hk : (1024 * (kv.val % 2) + (512 * hq.val + i.val) < 1024) = (kv.val = 0) := propext ⟨fun h => by omega, fun h => by omega⟩
    simp only [hk]
    refine congrArg (if kv.val = 0 then (V m c main_arg2 : Vec Ideal S10x4096x8x128 .fp8e4m3) else V m c main_arg4) (nidx_eq _ _ _ _ fun a => ?_)
    fin_cases a
    · rfl
    · rfl
    · show (1024 * (kv.val % 2) + (512 * hq.val + i.val)) % 1024 / 512 * 4 + (1024 * (kv.val % 2) + (512 * hq.val + i.val)) % 4 = hq.val * 4 + i.val % 4; omega
    · show (1024 * (kv.val % 2) + (512 * hq.val + i.val)) % 512 / 4 = i.val / 4; omega

theorem xs_apply (k : ℕ) (xs : Vec Ideal S2x256 .f32) (hS : SV m c k xs) (b th : Fin 2) (n : Fin 128) (hn : 256 * k + (128 * th.val + n.val) < 6404) :
    xsB xs b.val th.val (ix2 0 n) = (V m c main_arg1 : Vec Ideal S2x6404 .f32) (ix2 b ⟨256 * k + (128 * th.val + n.val), hn⟩) := by
  have e1 : nidx S2x256 (by decide) ![b.val, 128 * th.val + n.val] = (ix2 b ⟨128 * th.val + n.val, by omega⟩ : S2x256.Idx) := by
    refine nidx_eq _ _ _ _ fun a => ?_
    fin_cases a
    · rfl
    · rfl
  show xs (nidx S2x256 (by decide) ![b.val, 128 * th.val + n.val]) = _
  rw [e1]
  refine (hS _ hn).trans (congrArg (V m c main_arg1 : Vec Ideal S2x6404 .f32) (nidx_eq _ _ _ _ fun a => ?_))
  fin_cases a
  · rfl
  · rfl

theorem sc_apply (A : Vec Ideal S10x1x1024 .f32) (l : Fin 10) (hq : Fin 2) (i : Fin 512) (n : Fin 128) :
    scB (rowS A l.val) hq.val (ix3 0 i n) = A (ix3 l 0 ⟨512 * hq.val + i.val, by omega⟩) := by
  refine congrArg A (nidx_eq _ _ _ _ fun a => ?_)
  fin_cases a
  · rfl
  · rfl
  · show (512 * hq.val + i.val) % 1024 = 512 * hq.val + i.val; omega

/-- A block of values holds four heads of its tokens. -/
theorem VB_heads (l : Fin 10) (k : ℕ) (X : Vec Ideal S2x256x4096 .fp8e4m3) (xs : Vec Ideal S2x256 .f32) (hX : XV m c k X) (hS : SV m c k xs) (b th hq : Fin 2) (n : Fin 128)
    (hn : 256 * k + (128 * th.val + n.val) < 6404) :
    HeadsOf (VB m c l.val X xs b.val th.val hq.val) (fun j => rowK (V m c main_arg0) (V m c main_arg1) (V m c main_arg4) (V m c main_arg5) b
      ⟨256 * k + (128 * th.val + n.val), hn⟩ l ⟨hq.val * 4 + j.val, by omega⟩) n := by
  refine preV_heads _ _ _ _ _ fun i => ?_
  rw [xs_apply m c k xs hS b th n hn, sc_apply, v7_apply]
  refine congrArg₂ (fun a b : EReal => a * b) (congrArg (fun a : EReal => a * _) ((acc_apply m c l k X hX b 1 hq th n hn i).trans ?_)) (congrArg (V m c main_arg5 : Vec Ideal S10x8x128 .f32) ?_)
  · rfl
  · have e1 : (512 * hq.val + i.val) / 512 * 4 + (512 * hq.val + i.val) % 4 = hq.val * 4 + i.val % 4 := by omega
    have e2 : (512 * hq.val + i.val) % 512 / 4 = i.val / 4 := by omega
    simp only [e1, e2]

/-- A block of keys holds four normalised heads of its tokens. -/
theorem KB_heads (l : Fin 10) (k : ℕ) (X : Vec Ideal S2x256x4096 .fp8e4m3) (xs : Vec Ideal S2x256 .f32) (hX : XV m c k X) (hS : SV m c k xs) (b th hq : Fin 2) (n : Fin 128)
    (hn : 256 * k + (128 * th.val + n.val) < 6404) :
    HeadsOf (KB m c l.val X xs b.val th.val hq.val) (fun j => normQ (rowK (V m c main_arg0) (V m c main_arg1) (V m c main_arg2) (V m c main_arg3) b
      ⟨256 * k + (128 * th.val + n.val), hn⟩ l ⟨hq.val * 4 + j.val, by omega⟩) (fun e => (V m c main_arg6 : Vec Ideal S10x128 .f32) (ix2 l e))) n := by
  refine preK_heads _ _ _ _ (fun j => rowK (V m c main_arg0) (V m c main_arg1) (V m c main_arg2) (V m c main_arg3) b
      ⟨256 * k + (128 * th.val + n.val), hn⟩ l ⟨hq.val * 4 + j.val, by omega⟩) _ (fun _ e => (V m c main_arg6 : Vec Ideal S10x128 .f32) (ix2 l e)) (fun i => ?_) fun i => ?_
  · rw [xs_apply m c k xs hS b th n hn, sc_apply, v4_apply]
    refine congrArg₂ (fun a b : EReal => a * b) (congrArg (fun a : EReal => a * _) ((acc_apply m c l k X hX b 0 hq th n hn i).trans ?_)) (congrArg (V m c main_arg3 : Vec Ideal S10x8x128 .f32) ?_)
    · rfl
    · have e1 : (512 * hq.val + i.val) / 512 * 4 + (512 * hq.val + i.val) % 4 = hq.val * 4 + i.val % 4 := by omega
      have e2 : (512 * hq.val + i.val) % 512 / 4 = i.val / 4 := by omega
      simp only [e1, e2]
  · rw [sc_apply, v10_apply]
    have e2 : (512 * hq.val + i.val) % 512 / 4 = i.val / 4 := by omega
    simp only [e2]

end Cert.KernelIdeal.Hand

end
-- ==== Proof.KernelIdeal.Results.lean ====
module

public import proofs.«01_k».proof.Proof.KernelIdeal.Heads
public import proofs.«01_k».proof.Proof.KernelIdeal.Launch
public import Idealize.ShloMosaic.Lib.Pipeline.ArrRel

@[expose] public section

set_option maxRecDepth 16384

noncomputable section

/-! The kernel's results, index by index. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat RDat)
open Cert.Quant

/-- The codes of every head. -/
def codesK (r : Fin 2 → Fin 6404 → Fin 10 → Fin 8 → Fin 128 → EReal) : Vec Ideal S10x2x6404x8x128 .fp8e4m3 :=
  fun y => codesQ (r (y 1) (y 2) (y 0) (y 3)) (y 4)

/-- The scale bytes of every head. -/
def bytesK (r : Fin 2 → Fin 6404 → Fin 10 → Fin 8 → Fin 128 → EReal) : Vec Ideal S10x2x8x4x6404 .i8 :=
  fun y => bytesQ (r (y 1) (y 4) (y 0) (y 2)) (y 3)

/-- The blocks `B` of layer `l` and tile `k` hold the heads `r`. -/
def Holds (B : ℕ → ℕ → ℕ → FVec Ideal S4x16x8x128 .f32) (r : Fin 2 → Fin 6404 → Fin 10 → Fin 8 → Fin 128 → EReal) (l : Fin 10) (k : ℕ) : Prop :=
  ∀ (b th hq : Fin 2) (n : Fin 128) (hn : 256 * k + (128 * th.val + n.val) < 6404),
    HeadsOf (B b.val th.val hq.val) (fun j => r b ⟨256 * k + (128 * th.val + n.val), hn⟩ l ⟨hq.val * 4 + j.val, by omega⟩) n

theorem codes_elt (B : ℕ → ℕ → ℕ → FVec Ideal S4x16x8x128 .f32) (r : Fin 2 → Fin 6404 → Fin 10 → Fin 8 → Fin 128 → EReal) (l : Fin 10) (k : ℕ)
    (hB : Holds B r l k) (Y : Vec Ideal S1x2x256x8x128 .fp8e4m3) (hY : Codes B Y) (z : S1x2x256x8x128.Idx) (y : S10x2x6404x8x128.Idx)
    (e0 : (y 0).val = l.val) (e1 : (y 1).val = (z 1).val) (e2 : (y 2).val = 256 * k + (z 2).val) (e3 : (y 3).val = (z 3).val) (e4 : (y 4).val = (z 4).val) :
    Y z = codesK r y := by
  have z1 : (z 1).val < 2 := (z 1).isLt
  have z2 : (z 2).val < 256 := (z 2).isLt
  have z3 : (z 3).val < 8 := (z 3).isLt
  have z4 : (z 4).val < 128 := (z 4).isLt
  have y2 : (y 2).val < 6404 := (y 2).isLt
  have hn : 256 * k + (128 * ((z 2).val / 128) + (z 2).val % 128) < 6404 := by omega
  have h := hB ⟨(z 1).val, z1⟩ ⟨(z 2).val / 128, by omega⟩ ⟨(z 3).val / 4, by omega⟩ ⟨(z 2).val % 128, by omega⟩ hn
  have e : nidx S1x1x128x4x128 (by decide) ![0, 0, (z 2).val % 128, (z 3).val % 4, (z 4).val]
      = (ix5 0 0 ⟨(z 2).val % 128, by omega⟩ ⟨(z 3).val % 4, by omega⟩ ⟨(z 4).val, z4⟩ : S1x1x128x4x128.Idx) := by
    refine nidx_eq _ _ _ _ fun a => ?_
    fin_cases a <;> rfl
  rw [hY z, e, codeB_apply _ _ _ h]
  unfold codesK
  have a1 : (⟨(z 1).val, z1⟩ : Fin 2) = y 1 := Fin.ext e1.symm
  have a2 : (⟨256 * k + (128 * ((z 2).val / 128) + (z 2).val % 128), hn⟩ : Fin 6404) = y 2 := Fin.ext (by show 256 * k + (128 * ((z 2).val / 128) + (z 2).val % 128) = (y 2).val; omega)
  have a0 : l = y 0 := Fin.ext e0.symm
  have a3 : (⟨(z 3).val / 4 * 4 + (z 3).val % 4, by omega⟩ : Fin 8) = y 3 := Fin.ext (by show (z 3).val / 4 * 4 + (z 3).val % 4 = (y 3).val; omega)
  have a4 : (⟨(z 4).val, z4⟩ : Fin 128) = y 4 := Fin.ext e4.symm
  rw [← a0, ← a1, ← a2, ← a3, ← a4]

theorem bytes_elt (B : ℕ → ℕ → ℕ → FVec Ideal S4x16x8x128 .f32) (r : Fin 2 → Fin 6404 → Fin 10 → Fin 8 → Fin 128 → EReal) (l : Fin 10) (k : ℕ)
    (hB : Holds B r l k) (Y : Vec Ideal S1x2x8x4x256 .i8) (hY : Scales B Y) (z : S1x2x8x4x256.Idx) (y : S10x2x8x4x6404.Idx)
    (e0 : (y 0).val = l.val) (e1 : (y 1).val = (z 1).val) (e2 : (y 2).val = (z 2).val) (e3 : (y 3).val = (z 3).val) (e4 : (y 4).val = 256 * k + (z 4).val) :
    Y z = bytesK r y := by
  have z1 : (z 1).val < 2 := (z 1).isLt
  have z2 : (z 2).val < 8 := (z 2).isLt
  have z3 : (z 3).val < 4 := (z 3).isLt
  have z4 : (z 4).val < 256 := (z 4).isLt
  have y4 : (y 4).val < 6404 := (y 4).isLt
  have hn : 256 * k + (128 * ((z 4).val / 128) + (z 4).val % 128) < 6404 := by omega
  have h := fun hq : Fin 2 => hB ⟨(z 1).val, z1⟩ ⟨(z 4).val / 128, by omega⟩ hq ⟨(z 4).val % 128, by omega⟩ hn
  have e : nidx S1x1x8x4x128 (by decide) ![0, 0, (z 2).val, (z 3).val, (z 4).val % 128]
      = (ix5 0 0 ⟨(z 2).val, z2⟩ ⟨(z 3).val, z3⟩ ⟨(z 4).val % 128, by omega⟩ : S1x1x8x4x128.Idx) := by
    refine nidx_eq _ _ _ _ fun a => ?_
    fin_cases a <;> rfl
  rw [hY z, e]
  refine (scaleB_apply _ _ _ _ _ (h 0) (h 1) 0 0 ⟨(z 2).val, z2⟩ ⟨(z 3).val, z3⟩).trans ?_
  unfold bytesK
  have a1 : (⟨(z 1).val, z1⟩ : Fin 2) = y 1 := Fin.ext e1.symm
  have a2 : (⟨256 * k + (128 * ((z 4).val / 128) + (z 4).val % 128), hn⟩ : Fin 6404) = y 4 := Fin.ext (by show 256 * k + (128 * ((z 4).val / 128) + (z 4).val % 128) = (y 4).val; omega)
  have a0 : l = y 0 := Fin.ext e0.symm
  have a3 : (⟨(z 3).val, z3⟩ : Fin 4) = y 3 := Fin.ext e3.symm
  rw [← a0, ← a1, ← a2, ← a3]
  by_cases h4 : (z 2).val < 4
  · rw [if_pos h4]
    have a4 : (⟨(0 : Fin 2).val * 4 + (z 2).val % 4, by show 0 * 4 + (z 2).val % 4 < 8; omega⟩ : Fin 8) = y 2 := Fin.ext (by show 0 * 4 + (z 2).val % 4 = (y 2).val; omega)
    rw [← a4]
  · rw [if_neg h4]
    have a4 : (⟨(1 : Fin 2).val * 4 + (z 2).val % 4, by show 1 * 4 + (z 2).val % 4 < 8; omega⟩ : Fin 8) = y 2 := Fin.ext (by show 1 * 4 + (z 2).val % 4 = (y 2).val; omega)
    rw [← a4]

variable (m : (ℓ : Loc nD τ sig) → Buf (Elt Ideal) ℓ) (c : Dev nD)

/-- The key heads: the projection, normalised. -/
def keyK (b : Fin 2) (n : Fin 6404) (l : Fin 10) (h : Fin 8) : Fin 128 → EReal :=
  normQ (rowK (V m c main_arg0) (V m c main_arg1) (V m c main_arg2) (V m c main_arg3) b n l h) fun e => (V m c main_arg6 : Vec Ideal S10x128 .f32) (ix2 l e)

/-- The value heads: the projection. -/
def valK (b : Fin 2) (n : Fin 6404) (l : Fin 10) (h : Fin 8) : Fin 128 → EReal :=
  rowK (V m c main_arg0) (V m c main_arg1) (V m c main_arg4) (V m c main_arg5) b n l h

theorem keys_hold (l : Fin 10) (k : ℕ) (X : Vec Ideal S2x256x4096 .fp8e4m3) (xs : Vec Ideal S2x256 .f32) (hX : XV m c k X) (hS : SV m c k xs) :
    Holds (KB m c l.val X xs) (keyK m c) l k := fun b th hq n hn => KB_heads m c l k X xs hX hS b th hq n hn

theorem vals_hold (l : Fin 10) (k : ℕ) (X : Vec Ideal S2x256x4096 .fp8e4m3) (xs : Vec Ideal S2x256 .f32) (hX : XV m c k X) (hS : SV m c k xs) :
    Holds (VB m c l.val X xs) (valK m c) l k := fun b th hq n hn => VB_heads m c l k X xs hX hS b th hq n hn

theorem late (w : Fin cfg0.W) (hw : ¬ w.val < 7) : ∀ t : Fin cfg0.N, (cfg0.win w).flush t = true → 2 ≤ t.val := by
  revert w; decide +kernel

/-- An output's array, from what the body leaves at the points that write it back. -/
theorem arr_of (w : Fin cfg0.W) (hw : ¬ w.val < 7) (G g) (h : (rdats m 0 c).ArrAt w cfg0.N G) (hc : (cfg0.win w).Covers)
    (hg : ∀ (t : Fin cfg0.N) X, 2 ≤ t.val → Out m c w t X → ∀ y : ((cfg0.win w).xblock (cfg0.grid.coords t)).Idx,
      _root_.cast (congrArg (Elt Ideal) ((cfg0.win w).blk t).view.elt_eq.symm) (X ((cfg0.win w).xinj (cfg0.grid.coords t) y)) = g (((cfg0.win w).blk t).view.emb y))
    (harr : (cfg0.win w).arr.IsWhole := by exact Memref.isWhole_whole _) :
    G = g := by
  obtain ⟨X, hL, hA⟩ := h.exists_exact
  rw [hA (Function.update (fun _ _ _ => Classical.arbitrary _) w X) fun u _ _ => by rw [Function.update_self]]
  refine Dat.arrAt_eq_of_covers _ w _ hc (fun t hf y => ?_) harr
  rw [RDat.withAfter_after, Function.update_self]
  obtain ⟨Y, -, hO⟩ := hL t t.isLt hf
  exact hg t _ (late w hw t hf) ((after_out m c w hw t Y _).1 hO) y

theorem arr7 (G) (h : (rdats m 0 c).ArrAt 7 cfg0.N G) : G = codesK (keyK m c) := by
  refine arr_of m c 7 (by decide) G _ h (by decide +kernel) fun t Y h2 hO y => ?_
  have ht : t.val < 262 := t.isLt
  obtain ⟨X, xs, hX, hS, hC⟩ := hO.1 rfl h2
  have e : (cfg0.win 7).index t = ![(t.val - 2) / 26, 0, (t.val - 2) % 26, 0, 0] := (ix9' _).trans (by rw [coords0])
  have ev := fun a => ((cfg0.win 7).rect_emb_val t y a rfl).trans (by rw [e])
  have y0 : (y 0).val < 1 := Nat.lt_of_lt_of_le (y 0).isLt ((cfg0.win 7).xsize_le _ 0)
  refine codes_elt _ _ ⟨(t.val - 2) / 26, by omega⟩ ((t.val - 2) % 26) (keys_hold m c ⟨(t.val - 2) / 26, by omega⟩ _ X xs hX hS) _ hC _ _
    ((ev 0).trans ?_) ((ev 1).trans ?_) ((ev 2).trans ?_) ((ev 3).trans ?_) ((ev 4).trans ?_)
  · show (t.val - 2) / 26 * 1 + (y 0).val = (t.val - 2) / 26; omega
  · show 0 * 2 + (y 1).val = (y 1).val; omega
  · show (t.val - 2) % 26 * 256 + (y 2).val = 256 * ((t.val - 2) % 26) + (y 2).val; omega
  · show 0 * 8 + (y 3).val = (y 3).val; omega
  · show 0 * 128 + (y 4).val = (y 4).val; omega

theorem arr8 (G) (h : (rdats m 0 c).ArrAt 8 cfg0.N G) : G = bytesK (keyK m c) := by
  refine arr_of m c 8 (by decide) G _ h (by decide +kernel) fun t Y h2 hO y => ?_
  have ht : t.val < 262 := t.isLt
  obtain ⟨X, xs, hX, hS, hC⟩ := hO.2.1 rfl h2
  have e : (cfg0.win 8).index t = ![(t.val - 2) / 26, 0, 0, 0, (t.val - 2) % 26] := (ix10' _).trans (by rw [coords0])
  have ev := fun a => ((cfg0.win 8).rect_emb_val t y a rfl).trans (by rw [e])
  have y0 : (y 0).val < 1 := Nat.lt_of_lt_of_le (y 0).isLt ((cfg0.win 8).xsize_le _ 0)
  refine bytes_elt _ _ ⟨(t.val - 2) / 26, by omega⟩ ((t.val - 2) % 26) (keys_hold m c ⟨(t.val - 2) / 26, by omega⟩ _ X xs hX hS) _ hC _ _
    ((ev 0).trans ?_) ((ev 1).trans ?_) ((ev 2).trans ?_) ((ev 3).trans ?_) ((ev 4).trans ?_)
  · show (t.val - 2) / 26 * 1 + (y 0).val = (t.val - 2) / 26; omega
  · show 0 * 2 + (y 1).val = (y 1).val; omega
  · show 0 * 8 + (y 2).val = (y 2).val; omega
  · show 0 * 4 + (y 3).val = (y 3).val; omega
  · show (t.val - 2) % 26 * 256 + (y 4).val = 256 * ((t.val - 2) % 26) + (y 4).val; omega

theorem arr9 (G) (h : (rdats m 0 c).ArrAt 9 cfg0.N G) : G = codesK (valK m c) := by
  refine arr_of m c 9 (by decide) G _ h (by decide +kernel) fun t Y h2 hO y => ?_
  have ht : t.val < 262 := t.isLt
  obtain ⟨X, xs, hX, hS, hC⟩ := hO.2.2.1 rfl h2
  have e : (cfg0.win 9).index t = ![(t.val - 2) / 26, 0, (t.val - 2) % 26, 0, 0] := (ix11' _).trans (by rw [coords0])
  have ev := fun a => ((cfg0.win 9).rect_emb_val t y a rfl).trans (by rw [e])
  have y0 : (y 0).val < 1 := Nat.lt_of_lt_of_le (y 0).isLt ((cfg0.win 9).xsize_le _ 0)
  refine codes_elt _ _ ⟨(t.val - 2) / 26, by omega⟩ ((t.val - 2) % 26) (vals_hold m c ⟨(t.val - 2) / 26, by omega⟩ _ X xs hX hS) _ hC _ _
    ((ev 0).trans ?_) ((ev 1).trans ?_) ((ev 2).trans ?_) ((ev 3).trans ?_) ((ev 4).trans ?_)
  · show (t.val - 2) / 26 * 1 + (y 0).val = (t.val - 2) / 26; omega
  · show 0 * 2 + (y 1).val = (y 1).val; omega
  · show (t.val - 2) % 26 * 256 + (y 2).val = 256 * ((t.val - 2) % 26) + (y 2).val; omega
  · show 0 * 8 + (y 3).val = (y 3).val; omega
  · show 0 * 128 + (y 4).val = (y 4).val; omega

theorem arr10 (G) (h : (rdats m 0 c).ArrAt 10 cfg0.N G) : G = bytesK (valK m c) := by
  refine arr_of m c 10 (by decide) G _ h (by decide +kernel) fun t Y h2 hO y => ?_
  have ht : t.val < 262 := t.isLt
  obtain ⟨X, xs, hX, hS, hC⟩ := hO.2.2.2 rfl h2
  have e : (cfg0.win 10).index t = ![(t.val - 2) / 26, 0, 0, 0, (t.val - 2) % 26] := (ix12' _).trans (by rw [coords0])
  have ev := fun a => ((cfg0.win 10).rect_emb_val t y a rfl).trans (by rw [e])
  have y0 : (y 0).val < 1 := Nat.lt_of_lt_of_le (y 0).isLt ((cfg0.win 10).xsize_le _ 0)
  refine bytes_elt _ _ ⟨(t.val - 2) / 26, by omega⟩ ((t.val - 2) % 26) (vals_hold m c ⟨(t.val - 2) / 26, by omega⟩ _ X xs hX hS) _ hC _ _
    ((ev 0).trans ?_) ((ev 1).trans ?_) ((ev 2).trans ?_) ((ev 3).trans ?_) ((ev 4).trans ?_)
  · show (t.val - 2) / 26 * 1 + (y 0).val = (t.val - 2) / 26; omega
  · show 0 * 2 + (y 1).val = (y 1).val; omega
  · show 0 * 8 + (y 2).val = (y 2).val; omega
  · show 0 * 4 + (y 3).val = (y 3).val; omega
  · show (t.val - 2) % 26 * 256 + (y 4).val = 256 * ((t.val - 2) % 26) + (y 4).val; omega

/-- Every run of the kernel ends with the codes and the scale bytes of the heads in its results. -/
theorem results (ρ : Dev nD → PrngReg) : θ_run defs (onTc (τ := τ) (main (F := Ideal))) ⟨m, fun _ => 0, ρ⟩ (fun r => (∀ c : Dev nD,
    r.2.mem ((c.tc : Thread nD τ).loc main_v11_0) = codesK (keyK m c)
    ∧ r.2.mem ((c.tc : Thread nD τ).loc main_v11_1) = bytesK (keyK m c)
    ∧ r.2.mem ((c.tc : Thread nD τ).loc main_v11_2) = codesK (valK m c)
    ∧ r.2.mem ((c.tc : Thread nD τ).loc main_v11_3) = bytesK (valK m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) ∧ r.2.sem = fun _ => 0) :=
  (θ_run defs _ _).mono (fun r ⟨h, hz⟩ => ⟨fun c =>
    ⟨arr7 m c _ ((h c).1 7), arr8 m c _ ((h c).1 8), arr9 m c _ ((h c).1 9), arr10 m c _ ((h c).1 10),
      (arg_kept m c 0 rfl _ ((h c).1 0)).trans (V_main_arg0 m c), (arg_kept m c 1 rfl _ ((h c).1 1)).trans (V_main_arg1 m c),
      (arg_kept m c 2 rfl _ ((h c).1 2)).trans (V_main_arg2 m c), (h c).2.1, (arg_kept m c 3 rfl _ ((h c).1 3)).trans (V_main_arg4 m c),
      (h c).2.2.1, (h c).2.2.2⟩, hz⟩) (run_main m ρ)

end Cert.KernelIdeal.Hand

end
-- ==== Proof.ReferenceIdeal.Point.lean ====
module

public import proofs.«01_k».proof.Proof.Gen.ReferenceIdeal.Frame
public import proofs.«01_k».proof.Proof.Quant

@[expose] public section

set_option maxRecDepth 16384

noncomputable section

/-! The reference's results, index by index. -/

namespace Cert.ReferenceIdeal.Hand

open Cert.ReferenceIdeal Cert.ReferenceIdeal.Gen
open Idealize.ShloMosaic Idealize.ShloMosaic.TcCoe Idealize.ShloMosaic.Tactic
open Cert.Quant

/-- Head `h` of layer `l` for token `r`, the tokens of the batch in one row: the scaled projection. -/
def rowR (v0 : Vec Ideal S2x6404x4096 .fp8e4m3) (v2 : Vec Ideal S2x6404 .f32) (v4 : Vec Ideal S10x4096x8x128 .fp8e4m3) (v11 : Vec Ideal S10x8x128 .f32)
    (b : Fin 2) (n : Fin 6404) (l : Fin 10) (h : Fin 8) : Fin 128 → EReal :=
  rawQ (fun k => v0 (ix3 b n k)) (fun k e => v4 (ix4 l k h e)) (v2 (ix2 b n)) (fun e => v11 (ix3 l h e))

theorem vals_apply (v0 : Vec Ideal S2x6404x4096 .fp8e4m3) (v2 : Vec Ideal S2x6404 .f32) (v4 : Vec Ideal S10x4096x8x128 .fp8e4m3) (v11 : Vec Ideal S10x8x128 .f32)
    (j0 : Fin 12808) (j1 : Fin 10) (j2 : Fin 8) (j3 : Fin 4) (j4 : Fin 32) :
    k0_pay11 (k0_pay3 v0) (k0_pay4 v2) v4 v11 (ix5 j0 j1 j2 j3 j4)
      = rowR v0 v2 v4 v11 ⟨j0.val / 6404, by omega⟩ ⟨j0.val % 6404, by omega⟩ j1 j2 ⟨j3.val * 32 + j4.val, by omega⟩ := by
  pointwise [k0_pay11, k0_pay3, k0_pay4]
  unfold rowR rawQ
  have e : (j1.val * 1024 + j2.val * 128 + (j3.val * 32 + j4.val)) % 128 = j3.val * 32 + j4.val := by omega
  simp only [e]

theorem keys_apply (v0 : Vec Ideal S2x6404x4096 .fp8e4m3) (v2 : Vec Ideal S2x6404 .f32) (v4 : Vec Ideal S10x4096x8x128 .fp8e4m3) (v11 : Vec Ideal S10x8x128 .f32)
    (v25 : Vec Ideal S10x128 .f32) (j0 : Fin 12808) (j1 : Fin 10) (j2 : Fin 8) (j3 : Fin 4) (j4 : Fin 32) :
    k0_pay5 v0 v2 v4 v11 v25 (ix5 j0 j1 j2 j3 j4)
      = normQ (rowR v0 v2 v4 v11 ⟨j0.val / 6404, by omega⟩ ⟨j0.val % 6404, by omega⟩ j1 j2) (fun e => v25 (ix2 j1 e)) ⟨j3.val * 32 + j4.val, by omega⟩ := by
  pointwise [k0_pay5, k0_pay3, k0_pay4]
  unfold normQ rowR rawQ
  have e : (j1.val * 1024 + j2.val * 128 + (j3.val * 32 + j4.val)) % 128 = j3.val * 32 + j4.val := by omega
  simp only [e]

/-- The exponent of a group of peak `x`. -/
theorem exp_apply (x : FVec Ideal S12808x10x8x4 .f32) (j : S12808x10x8x4.Idx) : k0_pay8 x k0_pay7 j = expQ (x j) := by
  idx_vars j
  pointwise [k0_pay8, k0_pay7]
  exact exp_r _ _ (count_exps _)

/-- The greatest of a group of 32. -/
theorem max_apply (X : FVec Ideal S12808x10x8x4x32 .f32) (h : S12808x10x8x4x32.Reduces [4] S12808x10x8x4) (hφ : FKind.Formats .f32)
    (hacc : 0xFF800000#32 = FKind.maximumf.neutral .f32 hφ) (j0 : Fin 12808) (j1 : Fin 10) (j2 : Fin 8) (j3 : Fin 4) :
    multiReduction .maximumf [4] S12808x10x8x4 X 0xFF800000#32 h hφ hacc (ix4 j0 j1 j2 j3)
      = Finset.univ.fold max (Ideal.ofBits .f32 0xFF800000#32) fun i => X (ix5 j0 j1 j2 j3 i) := by
  rw [multiReduction_maximumf_eq_fold]
  exact h.fold_fiber_r5_a4 _ _ _ _

/-- The peaks of the groups. -/
def peaks {F : FTy → Type} [FloatOps F] (X : FVec F S12808x10x8x4x32 .f32) : FVec F S12808x10x8x4 .f32 :=
  mulf (multiReduction .maximumf [4] S12808x10x8x4 (absf X) 0xFF800000#32 reduces_S12808x10x8x4x32_S12808x10x8x4 (.inl rfl) rfl)
    (broadcast S12808x10x8x4 (Scalar.ofBits .f32 0x3B124925#32))

theorem mul_at {s : Shape} (A B : FVec Ideal s .f32) (j : s.Idx) (a b : EReal) (ha : A j = a) (hb : B j = b) : mulf A B j = a * b := by
  subst ha hb; rfl

theorem abs_at {s : Shape} (A : FVec Ideal s .f32) (j : s.Idx) : absf A j = FloatOps.absf (F := Ideal) (φ := .f32) (A j) := rfl

theorem peaks_apply (X : FVec Ideal S12808x10x8x4x32 .f32) (j0 : Fin 12808) (j1 : Fin 10) (j2 : Fin 8) (j3 : Fin 4) :
    peaks X (ix4 j0 j1 j2 j3) = peakQ fun i => X (ix5 j0 j1 j2 j3 i) := by
  unfold peaks peakQ
  simp only [← abs_at]
  exact mul_at _ _ _ _ _ (max_apply (absf X) _ _ _ j0 j1 j2 j3) rfl

section
variable {F : FTy → Type} [FloatOps F]

/-- The exponents, negated, as floats. -/
def negs (E : IVec S12808x10x8x4 32) : FVec F S12808x10x8x4 .f32 := sitofp .f32 (subi (broadcast S12808x10x8x4 0#32) E)

theorem pay6_eq (v0 : Vec F S2x6404x4096 .fp8e4m3) (v2 : Vec F S2x6404 .f32) (v4 : Vec F S10x4096x8x128 .fp8e4m3) (v11 : Vec F S10x8x128 .f32)
    (v25 : Vec F S10x128 .f32) : k0_pay6 v0 v2 v4 v11 v25 = peaks (k0_pay5 v0 v2 v4 v11 v25) := rfl

theorem pay12_eq (v1 : FVec F S12808x4096 .fp8e4m3) (v3 : FVec F S12808x1x1x1 .f32) (v78 : Vec F S10x4096x8x128 .fp8e4m3) (v85 : Vec F S10x8x128 .f32) :
    k0_pay12 v1 v3 v78 v85 = k0_pay8 (peaks (k0_pay11 v1 v3 v78 v85)) k0_pay7 := rfl

theorem pay13_eq (v1 : FVec F S12808x4096 .fp8e4m3) (v3 : FVec F S12808x1x1x1 .f32) (v78 : Vec F S10x4096x8x128 .fp8e4m3) (v85 : Vec F S10x8x128 .f32) :
    k0_pay13 v1 v3 v78 v85 = negs (k0_pay12 v1 v3 v78 v85) := rfl

theorem pay9_eq (v29 : FVec F S12808x10x8x4x32 .f32) (v33 : FVec F S12808x10x8x4 .f32) (v38 : FVec F S12808x10x8x4x246 .f32) :
    k0_pay9 v29 v33 v38 = k0_pay1 v29 (negs (k0_pay8 v33 v38)) := rfl

theorem pay10_eq (v33 : FVec F S12808x10x8x4 .f32) (v38 : FVec F S12808x10x8x4x246 .f32) : k0_pay10 v33 v38 = k0_pay2 (k0_pay8 v33 v38) := rfl

end

/-- A code, from the head it belongs to. -/
theorem code_elt (r : Fin 128 → EReal) (X : FVec Ideal S12808x10x8x4x32 .f32) (E : IVec S12808x10x8x4 32) (l : Fin 10) (b : Fin 2) (n : Fin 6404) (h : Fin 8) (e : Fin 128)
    (hX : ∀ (g : Fin 4) (i : Fin 32), X (ix5 ⟨b.val * 6404 + n.val, by omega⟩ l h g i) = r ⟨g.val * 32 + i.val, by omega⟩)
    (hE : ∀ g : Fin 4, E (ix4 ⟨b.val * 6404 + n.val, by omega⟩ l h g) = expQ (peakQ (grp r g))) :
    k0_pay1 X (negs E) (ix5 l b n h e) = codesQ r e := by
  pointwise [k0_pay1, negs]
  rw [hX, hE]
  have e1 : (⟨e.val / 32 * 32 + e.val % 32, by omega⟩ : Fin 128) = e := Fin.ext (by show e.val / 32 * 32 + e.val % 32 = e.val; omega)
  rw [e1]
  rfl

/-- A scale byte, from the head it belongs to. -/
theorem byte_elt (r : Fin 128 → EReal) (E : IVec S12808x10x8x4 32) (l : Fin 10) (b : Fin 2) (h : Fin 8) (g : Fin 4) (n : Fin 6404)
    (hE : ∀ g : Fin 4, E (ix4 ⟨b.val * 6404 + n.val, by omega⟩ l h g) = expQ (peakQ (grp r g))) :
    k0_pay2 E (ix5 l b h g n) = bytesQ r g := by
  pointwise [k0_pay2]
  rw [hE]
  rfl

end Cert.ReferenceIdeal.Hand

end
-- ==== Proof.ReferenceIdeal.Results.lean ====
module

public import proofs.«01_k».proof.Proof.ReferenceIdeal.Point
public import Idealize.ShloMosaic.Lib.Pipeline.ValueKit.Geometry
public import Idealize.ShloMosaic.Lib.Pipeline.ValueKit.Basic

@[expose] public section

set_option maxRecDepth 16384

noncomputable section

/-! The reference's results. -/

namespace Cert.ReferenceIdeal.Hand

open Cert.ReferenceIdeal Cert.ReferenceIdeal.Gen
open Idealize.ShloMosaic Idealize.ShloMosaic.TcCoe Idealize.ShloMosaic.Tactic
open Idealize.SL
open Cert.Quant

/-- The codes of every head. -/
def codesR (r : Fin 2 → Fin 6404 → Fin 10 → Fin 8 → Fin 128 → EReal) : Vec Ideal S10x2x6404x8x128 .fp8e4m3 :=
  fun y => codesQ (r (y 1) (y 2) (y 0) (y 3)) (y 4)

/-- The scale bytes of every head. -/
def bytesR (r : Fin 2 → Fin 6404 → Fin 10 → Fin 8 → Fin 128 → EReal) : Vec Ideal S10x2x8x4x6404 .i8 :=
  fun y => bytesQ (r (y 1) (y 4) (y 0) (y 2)) (y 3)

section
variable (v0 : Vec Ideal S2x6404x4096 .fp8e4m3) (v2 : Vec Ideal S2x6404 .f32) (v4 : Vec Ideal S10x4096x8x128 .fp8e4m3) (v11 : Vec Ideal S10x8x128 .f32) (v25 : Vec Ideal S10x128 .f32)

/-- The normalised heads. -/
def keyR (b : Fin 2) (n : Fin 6404) (l : Fin 10) (h : Fin 8) : Fin 128 → EReal := normQ (rowR v0 v2 v4 v11 b n l h) fun e => v25 (ix2 l e)

theorem flat_row (b : Fin 2) (n : Fin 6404) (h : (b.val * 6404 + n.val) / 6404 < 2) : (⟨(b.val * 6404 + n.val) / 6404, h⟩ : Fin 2) = b :=
  Fin.ext (by show (b.val * 6404 + n.val) / 6404 = b.val; omega)

theorem flat_tok (b : Fin 2) (n : Fin 6404) (h : (b.val * 6404 + n.val) % 6404 < 6404) : (⟨(b.val * 6404 + n.val) % 6404, h⟩ : Fin 6404) = n :=
  Fin.ext (by show (b.val * 6404 + n.val) % 6404 = n.val; omega)

theorem val_elt (b : Fin 2) (n : Fin 6404) (l : Fin 10) (h : Fin 8) (g : Fin 4) (i : Fin 32) :
    k0_pay11 (k0_pay3 v0) (k0_pay4 v2) v4 v11 (ix5 ⟨b.val * 6404 + n.val, by omega⟩ l h g i) = rowR v0 v2 v4 v11 b n l h ⟨g.val * 32 + i.val, by omega⟩ := by
  rw [vals_apply]
  exact congrArg₂ (fun b n => rowR v0 v2 v4 v11 b n l h ⟨g.val * 32 + i.val, by omega⟩) (flat_row b n _) (flat_tok b n _)

theorem key_elt (b : Fin 2) (n : Fin 6404) (l : Fin 10) (h : Fin 8) (g : Fin 4) (i : Fin 32) :
    k0_pay5 v0 v2 v4 v11 v25 (ix5 ⟨b.val * 6404 + n.val, by omega⟩ l h g i) = keyR v0 v2 v4 v11 v25 b n l h ⟨g.val * 32 + i.val, by omega⟩ := by
  rw [keys_apply]
  exact congrArg₂ (fun b n => keyR v0 v2 v4 v11 v25 b n l h ⟨g.val * 32 + i.val, by omega⟩) (flat_row b n _) (flat_tok b n _)

theorem vexp_elt (b : Fin 2) (n : Fin 6404) (l : Fin 10) (h : Fin 8) (g : Fin 4) :
    k0_pay12 (k0_pay3 v0) (k0_pay4 v2) v4 v11 (ix4 ⟨b.val * 6404 + n.val, by omega⟩ l h g) = expQ (peakQ (grp (rowR v0 v2 v4 v11 b n l h) g)) := by
  rw [pay12_eq, exp_apply, peaks_apply]
  refine congrArg (fun f => expQ (peakQ f)) (funext fun i => ?_)
  exact val_elt v0 v2 v4 v11 b n l h g i

theorem kexp_elt (b : Fin 2) (n : Fin 6404) (l : Fin 10) (h : Fin 8) (g : Fin 4) :
    k0_pay8 (k0_pay6 v0 v2 v4 v11 v25) k0_pay7 (ix4 ⟨b.val * 6404 + n.val, by omega⟩ l h g) = expQ (peakQ (grp (keyR v0 v2 v4 v11 v25 b n l h) g)) := by
  rw [pay6_eq, exp_apply, peaks_apply]
  refine congrArg (fun f => expQ (peakQ f)) (funext fun i => ?_)
  exact key_elt v0 v2 v4 v11 v25 b n l h g i

theorem kcodes : k0_pay9 (k0_pay5 v0 v2 v4 v11 v25) (k0_pay6 v0 v2 v4 v11 v25) k0_pay7 = codesR (keyR v0 v2 v4 v11 v25) := by
  funext y
  rw [pay9_eq]
  idx_vars y
  exact code_elt _ _ _ _ _ _ _ _ (fun g i => key_elt v0 v2 v4 v11 v25 _ _ _ _ g i) fun g => kexp_elt v0 v2 v4 v11 v25 _ _ _ _ g

theorem kbytes : k0_pay10 (k0_pay6 v0 v2 v4 v11 v25) k0_pay7 = bytesR (keyR v0 v2 v4 v11 v25) := by
  funext y
  rw [pay10_eq]
  idx_vars y
  exact byte_elt _ _ _ _ _ _ _ fun g => kexp_elt v0 v2 v4 v11 v25 _ _ _ _ g

theorem vcodes : k0_pay1 (k0_pay11 (k0_pay3 v0) (k0_pay4 v2) v4 v11) (k0_pay13 (k0_pay3 v0) (k0_pay4 v2) v4 v11) = codesR (rowR v0 v2 v4 v11) := by
  funext y
  rw [pay13_eq]
  idx_vars y
  exact code_elt _ _ _ _ _ _ _ _ (fun g i => val_elt v0 v2 v4 v11 _ _ _ _ g i) fun g => vexp_elt v0 v2 v4 v11 _ _ _ _ g

theorem vbytes : k0_pay2 (k0_pay12 (k0_pay3 v0) (k0_pay4 v2) v4 v11) = bytesR (rowR v0 v2 v4 v11) := by
  funext y
  idx_vars y
  exact byte_elt _ _ _ _ _ _ _ fun g => vexp_elt v0 v2 v4 v11 _ _ _ _ g

end

section
variable (x0 : Vec Ideal S2x6404x4096 .fp8e4m3) (x1 : Vec Ideal S2x6404 .f32) (x2 : Vec Ideal S10x4096x8x128 .fp8e4m3) (x3 : Vec Ideal S10x8x128 .f32)
  (x4 : Vec Ideal S10x4096x8x128 .fp8e4m3) (x5 : Vec Ideal S10x8x128 .f32) (x6 : Vec Ideal S10x128 .f32)

/-- A load of a whole buffer reads it. -/
theorem ld_all {s : Shape} {e : EltTy} (x : Vec Ideal s e) (off : Fin s.rank → ℕ) (inb) (h : ∀ a, off a = 0) : View.ld x (Rect.unit (s := s) off s.size inb) = x := by
  obtain rfl : off = fun _ => 0 := funext h
  funext y
  show x ((Rect.unit (s := s) (fun _ => 0) s.size inb).emb y) = x y
  refine congrArg x (funext fun a => Fin.ext ?_)
  show 0 + 1 * (y a).val = (y a).val
  omega

theorem out7 : out0_7 x0 x1 x2 x3 x4 x5 x6 = codesR (keyR x0 x1 x2 x3 x6) := by
  unfold out0_7 k0_pay16 k0_pay17
  rw [View.canon_cons_unit_lit _ _ _ (by decide), ld_all x0 _ _ (by decide), ld_all x1 _ _ (by decide), ld_all x2 _ _ (by decide), ld_all x3 _ _ (by decide), ld_all x6 _ _ (by decide), kcodes]

theorem out8 : out0_8 x0 x1 x2 x3 x4 x5 x6 = bytesR (keyR x0 x1 x2 x3 x6) := by
  unfold out0_8 k0_pay16 k0_pay17
  rw [View.canon_cons_unit_lit _ _ _ (by decide), ld_all x0 _ _ (by decide), ld_all x1 _ _ (by decide), ld_all x2 _ _ (by decide), ld_all x3 _ _ (by decide), ld_all x6 _ _ (by decide), kbytes]

theorem out9 : out0_9 x0 x1 x2 x3 x4 x5 x6 = codesR (rowR x0 x1 x4 x5) := by
  unfold out0_9 k0_pay14 k0_pay15
  rw [View.canon_cons_unit_lit _ _ _ (by decide), ld_all x0 _ _ (by decide), ld_all x1 _ _ (by decide), ld_all x4 _ _ (by decide), ld_all x5 _ _ (by decide), vcodes]

theorem out10 : out0_10 x0 x1 x2 x3 x4 x5 x6 = bytesR (rowR x0 x1 x4 x5) := by
  unfold out0_10 k0_pay14 k0_pay15
  rw [View.canon_cons_unit_lit _ _ _ (by decide), ld_all x0 _ _ (by decide), ld_all x1 _ _ (by decide), ld_all x4 _ _ (by decide), ld_all x5 _ _ (by decide), vbytes]

end

variable (m : (ℓ : Loc nD τ sig) → Buf (Elt Ideal) ℓ) (c : Dev nD)

theorem zero : ∀ (w : Fin cfg0.W) (t : Fin cfg0.N) (a), (cfg0.win w).index t a = 0 := by decide +kernel

/-- A block at index zero is where it lies in the array. -/
theorem all_of {G : Pipeline.Grid} (w : Pipeline.Window sig G) {α : Type} (t : Fin G.N) (h : ∀ a, w.index t a = 0) (A : w.shape.Idx → α)
    (y : (w.xblock (G.coords t)).Idx) (z : w.shape.Idx) (hz : ∀ a, (z a).val = (y a).val) : A ((w.rect t).emb y) = A z :=
  congrArg A (funext fun a => Fin.ext ((w.rect_emb_val_of_index_zero t a (h a) y).trans (hz a).symm))

theorem iblk0 (t : Fin cfg0.N) : iblk m c 0 t = m ((c.tc : Thread nD τ).loc main_arg0) :=
  funext fun y => all_of (cfg0.win 0) t (zero 0 t) (m ((c.tc : Thread nD τ).loc main_arg0)) y y fun _ => rfl
theorem iblk1 (t : Fin cfg0.N) : iblk m c 1 t = m ((c.tc : Thread nD τ).loc main_arg1) :=
  funext fun y => all_of (cfg0.win 1) t (zero 1 t) (m ((c.tc : Thread nD τ).loc main_arg1)) y y fun _ => rfl
theorem iblk2 (t : Fin cfg0.N) : iblk m c 2 t = m ((c.tc : Thread nD τ).loc main_arg2) :=
  funext fun y => all_of (cfg0.win 2) t (zero 2 t) (m ((c.tc : Thread nD τ).loc main_arg2)) y y fun _ => rfl
theorem iblk3 (t : Fin cfg0.N) : iblk m c 3 t = m ((c.tc : Thread nD τ).loc main_arg3) :=
  funext fun y => all_of (cfg0.win 3) t (zero 3 t) (m ((c.tc : Thread nD τ).loc main_arg3)) y y fun _ => rfl
theorem iblk4 (t : Fin cfg0.N) : iblk m c 4 t = m ((c.tc : Thread nD τ).loc main_arg4) :=
  funext fun y => all_of (cfg0.win 4) t (zero 4 t) (m ((c.tc : Thread nD τ).loc main_arg4)) y y fun _ => rfl
theorem iblk5 (t : Fin cfg0.N) : iblk m c 5 t = m ((c.tc : Thread nD τ).loc main_arg5) :=
  funext fun y => all_of (cfg0.win 5) t (zero 5 t) (m ((c.tc : Thread nD τ).loc main_arg5)) y y fun _ => rfl
theorem iblk6 (t : Fin cfg0.N) : iblk m c 6 t = m ((c.tc : Thread nD τ).loc main_arg6) :=
  funext fun y => all_of (cfg0.win 6) t (zero 6 t) (m ((c.tc : Thread nD τ).loc main_arg6)) y y fun _ => rfl

/-- The reference's key heads. -/
def keyM : Fin 2 → Fin 6404 → Fin 10 → Fin 8 → Fin 128 → EReal :=
  keyR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))

/-- The reference's value heads. -/
def valM : Fin 2 → Fin 6404 → Fin 10 → Fin 8 → Fin 128 → EReal :=
  rowR (m ((c.tc : Thread nD τ).loc main_arg0)) (m ((c.tc : Thread nD τ).loc main_arg1)) (m ((c.tc : Thread nD τ).loc main_arg4)) (m ((c.tc : Thread nD τ).loc main_arg5))

theorem arr7 : (dats m 0 c).arrAt 7 cfg0.N = codesR (keyM m c) := by
  refine (dats m 0 c).arrAt_eq_of_covers 7 _ (by decide +kernel) fun t hf y => ?_
  rw [after0_7, out7, iblk0, iblk1, iblk2, iblk3, iblk6]
  exact (all_of (cfg0.win 7) t (zero 7 t) (codesR (keyM m c)) y ((cfg0.win 7).xinj (cfg0.grid.coords t) y) fun _ => rfl).symm

theorem arr8 : (dats m 0 c).arrAt 8 cfg0.N = bytesR (keyM m c) := by
  refine (dats m 0 c).arrAt_eq_of_covers 8 _ (by decide +kernel) fun t hf y => ?_
  rw [after0_8, out8, iblk0, iblk1, iblk2, iblk3, iblk6]
  exact (all_of (cfg0.win 8) t (zero 8 t) (bytesR (keyM m c)) y ((cfg0.win 8).xinj (cfg0.grid.coords t) y) fun _ => rfl).symm

theorem arr9 : (dats m 0 c).arrAt 9 cfg0.N = codesR (valM m c) := by
  refine (dats m 0 c).arrAt_eq_of_covers 9 _ (by decide +kernel) fun t hf y => ?_
  rw [after0_9, out9, iblk0, iblk1, iblk4, iblk5]
  exact (all_of (cfg0.win 9) t (zero 9 t) (codesR (valM m c)) y ((cfg0.win 9).xinj (cfg0.grid.coords t) y) fun _ => rfl).symm

theorem arr10 : (dats m 0 c).arrAt 10 cfg0.N = bytesR (valM m c) := by
  refine (dats m 0 c).arrAt_eq_of_covers 10 _ (by decide +kernel) fun t hf y => ?_
  rw [after0_10, out10, iblk0, iblk1, iblk4, iblk5]
  exact (all_of (cfg0.win 10) t (zero 10 t) (bytesR (valM m c)) y ((cfg0.win 10).xinj (cfg0.grid.coords t) y) fun _ => rfl).symm

/-- Every run of the reference ends with the codes and the scale bytes of the heads in its results. -/
theorem results (ρ : Dev nD → PrngReg) : θ_run defs (onTc (τ := τ) (main (F := Ideal))) ⟨m, fun _ => 0, ρ⟩ (fun r => (∀ c : Dev nD,
    r.2.mem ((c.tc : Thread nD τ).loc main_v0_0) = codesR (keyM m c)
    ∧ r.2.mem ((c.tc : Thread nD τ).loc main_v0_1) = bytesR (keyM m c)
    ∧ r.2.mem ((c.tc : Thread nD τ).loc main_v0_2) = codesR (valM m c)
    ∧ r.2.mem ((c.tc : Thread nD τ).loc main_v0_3) = bytesR (valM m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) ∧ r.2.sem = fun _ => 0) :=
  (θ_run defs _ _).mono (fun r ⟨h, hz⟩ => ⟨fun c =>
    ⟨((h c).1 7).trans (arr7 m c), ((h c).1 8).trans (arr8 m c), ((h c).1 9).trans (arr9 m c), ((h c).1 10).trans (arr10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩, hz⟩) (run_main_quiescent m ρ)

end Cert.ReferenceIdeal.Hand

end
-- ==== Proof.Equal.lean ====
module

public import proofs.«01_k».proof.Defs
public import proofs.«01_k».proof.Proof.KernelIdeal.Results
public import proofs.«01_k».proof.Proof.ReferenceIdeal.Results

@[expose] public section

noncomputable section

/-! The kernel and the reference end with the same results. -/

namespace Cert.Proof

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From equal arguments the two programs have the same key heads. -/
theorem keys_equal (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.keyM m' c = Cert.KernelIdeal.Hand.keyK m c := by
  unfold Cert.ReferenceIdeal.Hand.keyM
  rw [h0, h1, h2, h3, h6]
  funext b n l h
  unfold Cert.KernelIdeal.Hand.keyK
  rw [Cert.KernelIdeal.Gen.V_main_arg0, Cert.KernelIdeal.Gen.V_main_arg1, Cert.KernelIdeal.Gen.V_main_arg2, Cert.KernelIdeal.Gen.V_main_arg3, Cert.KernelIdeal.Gen.V_main_arg6]
  rfl

/-- From equal arguments the two programs have the same value heads. -/
theorem vals_equal (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.valM m' c = Cert.KernelIdeal.Hand.valK m c := by
  unfold Cert.ReferenceIdeal.Hand.valM
  rw [h0, h1, h4, h5]
  funext b n l h
  unfold Cert.KernelIdeal.Hand.valK
  rw [Cert.KernelIdeal.Gen.V_main_arg0, Cert.KernelIdeal.Gen.V_main_arg1, Cert.KernelIdeal.Gen.V_main_arg4, Cert.KernelIdeal.Gen.V_main_arg5]
  rfl

theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Hand.codesK (Cert.KernelIdeal.Hand.keyK m c), fun c => Cert.KernelIdeal.Hand.bytesK (Cert.KernelIdeal.Hand.keyK m c),
    fun c => Cert.KernelIdeal.Hand.codesK (Cert.KernelIdeal.Hand.valK m c), fun c => Cert.KernelIdeal.Hand.bytesK (Cert.KernelIdeal.Hand.valK m c), ?_, ?_⟩
  · exact (θ_run (Cert.KernelIdeal.defs (F := Ideal)) _ _).mono (fun r h => h.1) (Cert.KernelIdeal.Hand.results m g)
  · refine (θ_run (Cert.ReferenceIdeal.defs (F := Ideal)) _ _).mono (fun r hr c => ?_) (Cert.ReferenceIdeal.Hand.results m' g')
    obtain ⟨h0, h1, h2, h3, h4, h5, h6⟩ := h c
    have ek := keys_equal m m' c h0 h1 h2 h3 h6
    have ev := vals_equal m m' c h0 h1 h4 h5
    obtain ⟨r0, r1, r2, r3, ra⟩ := hr.1 c
    exact ⟨r0.trans (congrArg Cert.KernelIdeal.Hand.codesK ek), r1.trans (congrArg Cert.KernelIdeal.Hand.bytesK ek),
      r2.trans (congrArg Cert.KernelIdeal.Hand.codesK ev), r3.trans (congrArg Cert.KernelIdeal.Hand.bytesK ev), ra⟩

end Cert.Proof

end
-- ==== Proof.lean ====
module

public import proofs.«01_k».proof.Defs
public import proofs.«01_k».proof.Proof.Kernel.Launch
public import proofs.«01_k».proof.Proof.KernelIdeal.Launch
public import proofs.«01_k».proof.Proof.Gen.ReferenceIdeal.Frame
public import proofs.«01_k».proof.Proof.Equal

@[expose] public section

noncomputable section

/-! # The claims -/

namespace Cert.Proof

open Idealize.ShloMosaic

theorem claim : Cert.Claim :=
  ⟨Cert.Kernel.Gen.facts, Cert.KernelIdeal.Gen.facts, Cert.ReferenceIdeal.Gen.facts,
    fun m g _ => Cert.Kernel.Hand.frame m g, fun m g _ => Cert.KernelIdeal.Hand.frame m g,
    fun m g _ => Cert.ReferenceIdeal.Gen.frame m g, trivial, algebraic⟩

end Cert.Proof

end
